-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_q_and_k_finite [hPre_q_and_k_finite : Cert.Pre_q_and_k_finite.Facts] (m : (ℓ : Loc Cert.KernelIdeal.nD Cert.KernelIdeal.τ Cert.KernelIdeal.sig) → Buf (Elt Ideal) ℓ) : Prop :=
  ∀ c : Dev Cert.KernelIdeal.nD,
    (Cert.Pre_q_and_k_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_q_and_k_finite [hPre_q_and_k_finite : Cert.Pre_q_and_k_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_q_and_k_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ffn_finite [hPre_ffn_finite : Cert.Pre_ffn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_finite [hPre_ffn_finite : Cert.Pre_ffn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_q_and_k_finite [hKernelIdeal : Cert.KernelIdeal.Facts] [hPre_q_and_k_finite : Cert.Pre_q_and_k_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_q_and_k_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_q_and_k_finite [hReferenceIdeal : Cert.ReferenceIdeal.Facts] [hPre_q_and_k_finite : Cert.Pre_q_and_k_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_q_and_k_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_ffn_finite [hKernel2Ideal : Cert.Kernel2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ffn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_ffn_finite [hReference2Ideal : Cert.Reference2Ideal.Facts] [hPre_ffn_finite : Cert.Pre_ffn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal_pre_q_and_k_finite [hKernelIdeal : Cert.KernelIdeal.Facts] [hReferenceIdeal : Cert.ReferenceIdeal.Facts] [hPre_q_and_k_finite : Cert.Pre_q_and_k_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_q_and_k_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_ffn_finite [hKernel2Ideal : Cert.Kernel2Ideal.Facts] [hReference2Ideal : Cert.Reference2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ffn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v6)) (v2 : (c : Dev Cert.Kernel2Ideal.nD) → Buf (Elt Ideal) ((c.tc : Thread Cert.Kernel2Ideal.nD Cert.Kernel2Ideal.τ).loc Cert.Kernel2Ideal.main_v4)) (v3 : (c : Dev Cert.Kernel2Ideal.nD) → Buf (Elt Ideal) ((c.tc : Thread Cert.Kernel2Ideal.nD Cert.Kernel2Ideal.τ).loc Cert.Kernel2Ideal.main_v5)) (v4 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v6) = v1 c
          ∧ r.2.mem ((c.tc : Thread Cert.Kernel2Ideal.nD Cert.Kernel2Ideal.τ).loc Cert.Kernel2Ideal.main_v4) = v2 c
          ∧ r.2.mem ((c.tc : Thread Cert.Kernel2Ideal.nD Cert.Kernel2Ideal.τ).loc Cert.Kernel2Ideal.main_v5) = v3 c
          ∧ r.2.mem ((c.tc : Thread Cert.Kernel2Ideal.nD Cert.Kernel2Ideal.τ).loc Cert.Kernel2Ideal.main_v2) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v29) = v3 c
          ∧ r.2.mem ((c.tc : Thread Cert.Reference2Ideal.nD Cert.Reference2Ideal.τ).loc Cert.Reference2Ideal.main_v30) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)) (v1 : (c : Dev Cert.Kernel3Ideal.nD) → Buf (Elt Ideal) ((c.tc : Thread Cert.Kernel3Ideal.nD Cert.Kernel3Ideal.τ).loc Cert.Kernel3Ideal.main_v2)) (v2 : (c : Dev Cert.Kernel3Ideal.nD) → Buf (Elt Ideal) ((c.tc : Thread Cert.Kernel3Ideal.nD Cert.Kernel3Ideal.τ).loc Cert.Kernel3Ideal.main_v5)) (v3 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_v2) = v1 c
          ∧ r.2.mem ((c.tc : Thread Cert.Kernel3Ideal.nD Cert.Kernel3Ideal.τ).loc Cert.Kernel3Ideal.main_v5) = v2 c
          ∧ r.2.mem ((c.tc : Thread Cert.Kernel3Ideal.nD Cert.Kernel3Ideal.τ).loc Cert.Kernel3Ideal.main_v6) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v2)) (v3 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_v3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v7) = v2 c
          ∧ r.2.mem ((c.tc : Thread Cert.Reference4Ideal.nD Cert.Reference4Ideal.τ).loc Cert.Reference4Ideal.main_v22) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_v38) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)) (v3 : (c : Dev Cert.Kernel7Ideal.nD) → Buf (Elt Ideal) ((c.tc : Thread Cert.Kernel7Ideal.nD Cert.Kernel7Ideal.τ).loc Cert.Kernel7Ideal.main_v8_3)) (v4 : (c : Dev Cert.Kernel7Ideal.nD) → Buf (Elt Ideal) ((c.tc : Thread Cert.Kernel7Ideal.nD Cert.Kernel7Ideal.τ).loc Cert.Kernel7Ideal.main_v8_4)) (v5 : (c : Dev Cert.Kernel7Ideal.nD) → Buf (Elt Ideal) ((c.tc : Thread Cert.Kernel7Ideal.nD Cert.Kernel7Ideal.τ).loc Cert.Kernel7Ideal.main_v8_5)) (v6 : (c : Dev Cert.Kernel7Ideal.nD) → Buf (Elt Ideal) ((c.tc : Thread Cert.Kernel7Ideal.nD Cert.Kernel7Ideal.τ).loc Cert.Kernel7Ideal.main_v8_6)) (v7 : (c : Dev Cert.Kernel7Ideal.nD) → Buf (Elt Ideal) ((c.tc : Thread Cert.Kernel7Ideal.nD Cert.Kernel7Ideal.τ).loc Cert.Kernel7Ideal.main_v8_7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_v8_3) = v3 c
          ∧ r.2.mem ((c.tc : Thread Cert.Kernel7Ideal.nD Cert.Kernel7Ideal.τ).loc Cert.Kernel7Ideal.main_v8_4) = v4 c
          ∧ r.2.mem ((c.tc : Thread Cert.Kernel7Ideal.nD Cert.Kernel7Ideal.τ).loc Cert.Kernel7Ideal.main_v8_5) = v5 c
          ∧ r.2.mem ((c.tc : Thread Cert.Kernel7Ideal.nD Cert.Kernel7Ideal.τ).loc Cert.Kernel7Ideal.main_v8_6) = v6 c
          ∧ r.2.mem ((c.tc : Thread Cert.Kernel7Ideal.nD Cert.Kernel7Ideal.τ).loc Cert.Kernel7Ideal.main_v8_7) = v7 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v46) = v0 c
          ∧ r.2.mem ((c.tc : Thread Cert.Reference7Ideal.nD Cert.Reference7Ideal.τ).loc Cert.Reference7Ideal.main_v48) = v1 c
          ∧ r.2.mem ((c.tc : Thread Cert.Reference7Ideal.nD Cert.Reference7Ideal.τ).loc Cert.Reference7Ideal.main_v50) = v2 c
          ∧ r.2.mem ((c.tc : Thread Cert.Reference7Ideal.nD Cert.Reference7Ideal.τ).loc Cert.Reference7Ideal.main_v52) = v3 c
          ∧ r.2.mem ((c.tc : Thread Cert.Reference7Ideal.nD Cert.Reference7Ideal.τ).loc Cert.Reference7Ideal.main_v54) = v4 c
          ∧ r.2.mem ((c.tc : Thread Cert.Reference7Ideal.nD Cert.Reference7Ideal.τ).loc Cert.Reference7Ideal.main_v55) = v5 c
          ∧ r.2.mem ((c.tc : Thread Cert.Reference7Ideal.nD Cert.Reference7Ideal.τ).loc Cert.Reference7Ideal.main_v56) = v6 c
          ∧ r.2.mem ((c.tc : Thread Cert.Reference7Ideal.nD Cert.Reference7Ideal.τ).loc Cert.Reference7Ideal.main_v57) = v7 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_v16) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v14)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v14) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v55) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_q_and_k_finite : Cert.Pre_q_and_k_finite.Facts) (hPre_ffn_finite : Cert.Pre_ffn_finite.Facts),
    quiescent_Kernel (hKernel := hKernel)
    ∧ quiescent_KernelIdeal (hKernelIdeal := hKernelIdeal)
    ∧ quiescent_KernelIdeal_pre_q_and_k_finite (hKernelIdeal := hKernelIdeal) (hPre_q_and_k_finite := hPre_q_and_k_finite)
    ∧ quiescent_ReferenceIdeal (hReferenceIdeal := hReferenceIdeal)
    ∧ quiescent_ReferenceIdeal_pre_q_and_k_finite (hReferenceIdeal := hReferenceIdeal) (hPre_q_and_k_finite := hPre_q_and_k_finite)
    ∧ quiescent_Kernel2 (hKernel2 := hKernel2)
    ∧ quiescent_Kernel2Ideal (hKernel2Ideal := hKernel2Ideal)
    ∧ quiescent_Kernel2Ideal_pre_ffn_finite (hKernel2Ideal := hKernel2Ideal) (hPre_ffn_finite := hPre_ffn_finite)
    ∧ quiescent_Reference2Ideal (hReference2Ideal := hReference2Ideal)
    ∧ quiescent_Reference2Ideal_pre_ffn_finite (hReference2Ideal := hReference2Ideal) (hPre_ffn_finite := hPre_ffn_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_q_and_k_finite (hKernelIdeal := hKernelIdeal) (hReferenceIdeal := hReferenceIdeal) (hPre_q_and_k_finite := hPre_q_and_k_finite)
    ∧ preserves_Kernel2_Kernel2Ideal
    ∧ algebraic_Kernel2Ideal_Reference2Ideal_pre_ffn_finite (hKernel2Ideal := hKernel2Ideal) (hReference2Ideal := hReference2Ideal) (hPre_ffn_finite := hPre_ffn_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_ffn_finite.lean ====
abbrev S4096x2048 : Shape := ⟨2, ![4096, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v16 : IVec S_ 1) (main_v17 : FVec F S4096x2048 .f32) : IVec S_ 1 :=
  let main_v18 : FVec F S4096x2048 .f32 := Host.absf main_v17
  let main_cst_4 : FVec F S_ .f32 := constant S_ .f32 0x7F800000#32
  let main_v19 : FVec F S4096x2048 .f32 := broadcastInDim S4096x2048 ![] bcast_S_S4096x2048 main_cst_4
  let main_v20 : IVec S4096x2048 1 := cmpf .olt main_v18 main_v19
  let main_c_5 : IVec S_ 1 := constantI S_ 1 1#1
  let main_v21 : IVec S_ 1 := (fun x v => Host.reduce IntOp.andi x v reducesTo_S4096x2048_S_d0_1 h_S_) main_v20 main_c_5
  let main_v22 : IVec S_ 1 := andi main_v16 main_v21
  main_v22

def fn {F : FTy → Type} [FloatOps F] (main_arg0 : FVec F S4096x2048 .f32) (main_arg1 : FVec F S4096x2048 .bf16) (main_arg2 : FVec F S2048x5632 .bf16) (main_arg3 : FVec F S2048x5632 .bf16) (main_arg4 : FVec F S5632x2048 .bf16) (main_arg5 : FVec F S4096x2048 .bf16) : IVec S_ 1 :=
  let main_v0 : FVec F S4096x2048 .f32 := (extf .f32 · bitsLt_bf16_f32) main_arg1
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S2048x5632 .f32 := (extf .f32 · bitsLt_bf16_f32) main_arg3
  let main_v6 : FVec F S2048x5632 .f32 := Host.absf main_v5
  let main_cst_0 : FVec F S_ .f32 := constant S_ .f32 0x7F800000#32
  let main_v7 : FVec F S2048x5632 .f32 := broadcastInDim S2048x5632 ![] bcast_S_S2048x5632 main_cst_0
  let main_v8 : IVec S2048x5632 1 := cmpf .olt main_v6 main_v7
  let main_c_1 : IVec S_ 1 := constantI S_ 1 1#1
  let main_v9 : IVec S_ 1 := (fun x v => Host.reduce IntOp.andi x v reducesTo_S2048x5632_S_d0_1 h_S_) main_v8 main_c_1
  let main_v10 : IVec S_ 1 := andi main_v4 main_v9
  let main_v11 : FVec F S5632x2048 .f32 := (extf .f32 · bitsLt_bf16_f32) main_arg4
  let main_v12 : FVec F S5632x2048 .f32 := Host.absf main_v11
  let main_cst_2 : FVec F S_ .f32 := constant S_ .f32 0x7F800000#32
  let main_v13 : FVec F S5632x2048 .f32 := broadcastInDim S5632x2048 ![] bcast_S_S5632x2048 main_cst_2
  let main_v14 : IVec S5632x2048 1 := cmpf .olt main_v12 main_v13
  let main_c_3 : IVec S_ 1 := constantI S_ 1 1#1
  let main_v15 : IVec S_ 1 := (fun x v => Host.reduce IntOp.andi x v reducesTo_S5632x2048_S_d0_1 h_S_) main_v14 main_c_3
  let main_v16 : IVec S_ 1 := andi main_v10 main_v15
  let main_v17 : FVec F S4096x2048 .f32 := (extf .f32 · bitsLt_bf16_f32) main_arg5
  fn_part1 (F := F) main_v16 main_v17
-- ==== Pre_q_and_k_finite.lean ====
abbrev S2x2048x512 : Shape := ⟨3, ![2, 2048, 512]⟩
abbrev S_ : Shape := ⟨0, ![]⟩

class Facts : Prop where
  bitsLt_bf16_f32 : FTy.bits .bf16 < FTy.bits .f32
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel

variable [Facts]

def fn {F : FTy → Type} [FloatOps F] (main_arg0 : FVec F S2x2048x512 .bf16) (main_arg1 : FVec F S2x2048x512 .bf16) (main_arg2 : FVec F S2x2048x512 .bf16) (main_arg3 : FVec F S2x2048x512 .f32) : IVec S_ 1 :=
  let main_v0 : FVec F S2x2048x512 .f32 := (extf .f32 · bitsLt_bf16_f32) main_arg0
  let main_v1 : FVec F S2x2048x512 .f32 := Host.absf main_v0
  let main_cst : FVec F S_ .f32 := constant S_ .f32 0x7F800000#32
  let main_v2 : FVec F S2x2048x512 .f32 := broadcastInDim S2x2048x512 ![] bcast_S_S2x2048x512 main_cst
  let main_v3 : IVec S2x2048x512 1 := cmpf .olt main_v1 main_v2
  let main_c : IVec S_ 1 := constantI S_ 1 1#1
  let main_v4 : IVec S_ 1 := (fun x v => Host.reduce IntOp.andi x v reducesTo_S2x2048x512_S_d0_1_2 h_S_) main_v3 main_c
  let main_v5 : FVec F S2x2048x512 .f32 := (extf .f32 · bitsLt_bf16_f32) main_arg1
  let main_v6 : FVec F S2x2048x512 .f32 := Host.absf main_v5
  let main_cst_0 : FVec F S_ .f32 := constant S_ .f32 0x7F800000#32
  let main_v7 : FVec F S2x2048x512 .f32 := broadcastInDim S2x2048x512 ![] bcast_S_S2x2048x512 main_cst_0
  let main_v8 : IVec S2x2048x512 1 := cmpf .olt main_v6 main_v7
  let main_c_1 : IVec S_ 1 := constantI S_ 1 1#1
  let main_v9 : IVec S_ 1 := (fun x v => Host.reduce IntOp.andi x v reducesTo_S2x2048x512_S_d0_1_2 h_S_) main_v8 main_c_1
  let main_v10 : IVec S_ 1 := andi main_v4 main_v9
  main_v10
-- ==== Kernel.lean ====
abbrev S2x2048x512 : Shape := ⟨3, ![2, 2048, 512]⟩
abbrev S1x256x512 : Shape := ⟨3, ![1, 256, 512]⟩
abbrev S1x2048x512 : Shape := ⟨3, ![1, 2048, 512]⟩
abbrev S2048x512 : Shape := ⟨2, ![2048, 512]⟩
abbrev S1x256x128 : Shape := ⟨3, ![1, 256, 128]⟩
abbrev S256x128 : Shape := ⟨2, ![256, 128]⟩
abbrev S1x2048x128 : Shape := ⟨3, ![1, 2048, 128]⟩
abbrev S2048x128 : Shape := ⟨2, ![2048, 128]⟩
abbrev S1x128 : Shape := ⟨2, ![1, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x512, .bf16⟩
  | .hbm, ⟨1, _⟩ => ⟨S2x2048x512, .bf16⟩
  | .hbm, ⟨2, _⟩ => ⟨S2x2048x512, .bf16⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .local _ .vmem, ⟨0, _⟩ => ⟨S1x256x512, .bf16⟩
  | .local _ .vmem, ⟨1, _⟩ => ⟨S1x256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x2048x512, .f32⟩
  | .local _ .vmem, ⟨11, _⟩ => ⟨S1x2048x512, .f32⟩
  | .local _ .vmem, ⟨12, _⟩ => ⟨S1x2048x512, .f32⟩
  | .local _ .vmem, ⟨13, _⟩ => ⟨S1x2048x512, .f32⟩
  | _, _ => ⟨S2x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2x2048x512 : Shape := ⟨3, ![2, 2048, 512]⟩
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x8x2048x64 : Shape := ⟨4, ![2, 8, 2048, 64]⟩

abbrev nBuf : Space → Nat
  | .hbm => 78
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S2x2048x512, .bf16⟩
  | .hbm, ⟨2, _⟩ => ⟨S2x2048x512, .bf16⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x8x64, .f32⟩
  | .hbm, ⟨8, _⟩ => ⟨S2x2048x8x64, .f32⟩
  | .hbm, ⟨9, _⟩ => ⟨S2x2048x8x64, .f32⟩
  | .hbm, ⟨10, _⟩ => ⟨S2x8x2048x2048, .f32⟩
  | .hbm, ⟨11, _⟩ => ⟨S_, .f32⟩
  | .hbm, ⟨12, _⟩ => ⟨S2x8x2048, .f32⟩
  | .hbm, ⟨13, _⟩ => ⟨S2x8x2048x1, .f32⟩
  | .hbm, ⟨14, _⟩ => ⟨S2x8x2048x2048, .f32⟩
  | .hbm, ⟨15, _⟩ => ⟨S2x8x2048x2048, .i1⟩
  | .hbm, ⟨16, _⟩ => ⟨S2x8x2048x2048, .f32⟩
  | .hbm, ⟨17, _⟩ => ⟨S_, .f32⟩
  | .hbm, ⟨18, _⟩ => ⟨S2x8x2048, .f32⟩
  | .hbm, ⟨19, _⟩ => ⟨S_, .f32⟩
  | .hbm, ⟨20, _⟩ => ⟨S2x8x2048, .f32⟩
  | .hbm, ⟨21, _⟩ => ⟨S2x8x2048, .f32⟩
  | .hbm, ⟨22, _⟩ => ⟨S_, .f32⟩
  | .hbm, ⟨23, _⟩ => ⟨S2x8x2048, .f32⟩
  | .hbm, ⟨24, _⟩ => ⟨S2x8x2048, .i1⟩
  | .hbm, ⟨25, _⟩ => ⟨S_, .f32⟩
  | .hbm, ⟨26, _⟩ => ⟨S2x8x2048, .f32⟩
  | .hbm, ⟨27, _⟩ => ⟨S2x8x2048, .i1⟩
  | .hbm, ⟨28, _⟩ => ⟨S_, .f32⟩
  | .hbm, ⟨29, _⟩ => ⟨S2x8x2048, .f32⟩
  | .hbm, ⟨30, _⟩ => ⟨S_, .f32⟩
  | .hbm, ⟨31, _⟩ => ⟨S2x8x2048, .f32⟩
  | .hbm, ⟨32, _⟩ => ⟨S_, .f32⟩
  | .hbm, ⟨33, _⟩ => ⟨S2x8x2048, .f32⟩
  | .hbm, ⟨34, _⟩ => ⟨S2x8x2048, .f32⟩
  | .hbm, ⟨35, _⟩ => ⟨S2x8x2048, .f32⟩
  | .hbm, ⟨36, _⟩ => ⟨S2x8x2048x1, .f32⟩
  | .hbm, ⟨37, _⟩ => ⟨S2x8x2048x2048, .f32⟩
  | .hbm, ⟨38, _⟩ => ⟨S2x8x2048x2048, .f32⟩
  | .hbm, ⟨39, _⟩ => ⟨S2x8x2048x2048, .f32⟩
  | .hbm, ⟨40, _⟩ => ⟨S_, .f32⟩
  | .hbm, ⟨41, _⟩ => ⟨S2x8x2048, .f32⟩
  | .hbm, ⟨42, _⟩ => ⟨S2x8x2048x1, .f32⟩
  | .hbm, ⟨43, _⟩ => ⟨S2x8x2048x2048, .f32⟩
  | .hbm, ⟨44, _⟩ => ⟨S2x8x2048x2048, .f32⟩
  | .hbm, ⟨45, _⟩ => ⟨S2x8x2048x1, .f32⟩
  | .hbm, ⟨46, _⟩ => ⟨S_, .f32⟩
  | .hbm, ⟨47, _⟩ => ⟨S2x8x2048x1, .f32⟩
  | .hbm, ⟨48, _⟩ => ⟨S2x8x2048x1, .f32⟩
  | .hbm, ⟨49, _⟩ => ⟨S2x8x64x2048, .f32⟩
  | .hbm, ⟨50, _⟩ => ⟨S2x2048x8x64, .f32⟩
  | .hbm, ⟨51, _⟩ => ⟨S2x2048x512, .f32⟩
  | .hbm, ⟨52, _⟩ => ⟨S2x2048x8x64, .f32⟩
  | .hbm, ⟨53, _⟩ => ⟨S2x8x64x2048, .f32⟩
  | .hbm, ⟨54, _⟩ => ⟨S2x8x2048x2048, .f32⟩
  | .hbm, ⟨55, _⟩ => ⟨S2x8x64x2048, .f32⟩
  | .hbm, ⟨56, _⟩ => ⟨S2x2048x8x64, .f32⟩
  | .hbm, ⟨57, _⟩ => ⟨S2x8x2048x2048, .f32⟩
  | .hbm, ⟨58, _⟩ => ⟨S2x8x2048x2048, .f32⟩
  | .hbm, ⟨59, _⟩ => ⟨S2x8x2048x2048, .f32⟩
  | .hbm, ⟨60, _⟩ => ⟨S_, .f32⟩
  | .hbm, ⟨61, _⟩ => ⟨S2x8x2048, .f32⟩
  | .hbm, ⟨62, _⟩ => ⟨S2x8x2048x1, .f32⟩
  | .hbm, ⟨63, _⟩ => ⟨S2x8x2048x1, .f32⟩
  | .hbm, ⟨64, _⟩ => ⟨S2x8x2048x2048, .f32⟩
  | .hbm, ⟨65, _⟩ => ⟨S2x8x2048x2048, .f32⟩
  | .hbm, ⟨66, _⟩ => ⟨S_, .f32⟩
  | .hbm, ⟨67, _⟩ => ⟨S2x8x2048, .f32⟩
  | .hbm, ⟨68, _⟩ => ⟨S2x8x2048x2048, .f32⟩
  | .hbm, ⟨69, _⟩ => ⟨S2x8x2048x2048, .f32⟩
  | .hbm, ⟨70, _⟩ => ⟨S2x8x2048x2048, .f32⟩
  | .hbm, ⟨71, _⟩ => ⟨S2x8x2048x64, .f32⟩
  | .hbm, ⟨72, _⟩ => ⟨S2x2048x8x64, .f32⟩
  | .hbm, ⟨73, _⟩ => ⟨S2x8x2048x64, .f32⟩
  | .hbm, ⟨74, _⟩ => ⟨S2x2048x8x64, .f32⟩
  | .hbm, ⟨75, _⟩ => ⟨S2x2048x512, .f32⟩
  | .hbm, ⟨76, _⟩ => ⟨S2x2048x512, .f32⟩
  | .hbm, ⟨77, _⟩ => ⟨S2x2048x512, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Kernel2.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩
abbrev S1024x5632 : Shape := ⟨2, ![1024, 5632]⟩
abbrev S5632x512 : Shape := ⟨2, ![5632, 512]⟩
abbrev S4096x1408 : Shape := ⟨2, ![4096, 1408]⟩
abbrev S4096x512 : Shape := ⟨2, ![4096, 512]⟩
abbrev S1408x512 : Shape := ⟨2, ![1408, 512]⟩
abbrev S512x2048 : Shape := ⟨2, ![512, 2048]⟩
abbrev S4x2048x1408 : Shape := ⟨3, ![4, 2048, 1408]⟩
abbrev S1x512x1408 : Shape := ⟨3, ![1, 512, 1408]⟩
abbrev S512x1408 : Shape := ⟨2, ![512, 1408]⟩
abbrev S512x5632 : Shape := ⟨2, ![512, 5632]⟩
abbrev S512x512 : Shape := ⟨2, ![512, 512]⟩

abbrev nBuf : Space → Nat
  | .hbm => 16
  | .vmem => 60
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S4096x2048, .bf16⟩
  | .hbm, ⟨6, _⟩ => ⟨S4096x5632, .bf16⟩
  | .hbm, ⟨7, _⟩ => ⟨S4096x5632, .bf16⟩
  | .hbm, ⟨8, _⟩ => ⟨S4096x5632, .bf16⟩
  | .hbm, ⟨9, _⟩ => ⟨S4096x2048, .f32⟩
  | .hbm, ⟨10, _⟩ => ⟨S5632x2048, .bf16⟩
  | .hbm, ⟨11, _⟩ => ⟨S4096x5632, .bf16⟩
  | .hbm, ⟨12, _⟩ => ⟨S4096x5632, .bf16⟩
  | .hbm, ⟨13, _⟩ => ⟨S4x2048x1408, .bf16⟩
  | .hbm, ⟨14, _⟩ => ⟨S4x2048x1408, .bf16⟩
  | .hbm, ⟨15, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x5632, .bf16⟩
  | .local _ .vmem, ⟨13, _⟩ => ⟨S1024x5632, .bf16⟩
  | .local _ .vmem, ⟨14, _⟩ => ⟨S5632x512, .bf16⟩
  | .local _ .vmem, ⟨15, _⟩ => ⟨S5632x512, .bf16⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S4096x1408, .bf16⟩
  | .local _ .vmem, ⟨21, _⟩ => ⟨S4096x1408, .bf16⟩
  | .local _ .vmem, ⟨22, _⟩ => ⟨S4096x512, .bf16⟩
  | .local _ .vmem, ⟨23, _⟩ => ⟨S4096x512, .bf16⟩
  | .local _ .vmem, ⟨24, _⟩ => ⟨S1408x512, .bf16⟩
  | .local _ .vmem, ⟨25, _⟩ => ⟨S1408x512, .bf16⟩
  | .local _ .vmem, ⟨26, _⟩ => ⟨S1024x2048, .bf16⟩
  | .local _ .vmem, ⟨27, _⟩ => ⟨S1024x2048, .bf16⟩
  | .local _ .vmem, ⟨28, _⟩ => ⟨S512x2048, .bf16⟩
  | .local _ .vmem, ⟨29, _⟩ => ⟨S512x2048, .bf16⟩
  | .local _ .vmem, ⟨30, _⟩ => ⟨S1024x512, .bf16⟩
  | .local _ .vmem, ⟨31, _⟩ => ⟨S1024x512, .bf16⟩
  | .local _ .vmem, ⟨32, _⟩ => ⟨S1024x512, .bf16⟩
  | .local _ .vmem, ⟨33, _⟩ => ⟨S1024x512, .bf16⟩
  | .local _ .vmem, ⟨34, _⟩ => ⟨S1024x512, .bf16⟩
  | .local _ .vmem, ⟨35, _⟩ => ⟨S1024x512, .bf16⟩
  | .local _ .vmem, ⟨36, _⟩ => ⟨S1024x512, .bf16⟩
  | .local _ .vmem, ⟨37, _⟩ => ⟨S1024x512, .bf16⟩
  | .local _ .vmem, ⟨38, _⟩ => ⟨S4096x512, .bf16⟩
  | .local _ .vmem, ⟨39, _⟩ => ⟨S4096x512, .bf16⟩
  | .local _ .vmem, ⟨40, _⟩ => ⟨S4096x1408, .bf16⟩
  | .local _ .vmem, ⟨41, _⟩ => ⟨S4096x1408, .bf16⟩
  | .local _ .vmem, ⟨42, _⟩ => ⟨S1x512x1408, .bf16⟩
  | .local _ .vmem, ⟨43, _⟩ => ⟨S1x512x1408, .bf16⟩
  | .local _ .vmem, ⟨44, _⟩ => ⟨S4096x512, .bf16⟩
  | .local _ .vmem, ⟨45, _⟩ => ⟨S4096x512, .bf16⟩
  | .local _ .vmem, ⟨46, _⟩ => ⟨S4096x1408, .bf16⟩
  | .local _ .vmem, ⟨47, _⟩ => ⟨S4096x1408, .bf16⟩
  | .local _ .vmem, ⟨48, _⟩ => ⟨S1x512x1408, .bf16⟩
  | .local _ .vmem, ⟨49, _⟩ => ⟨S1x512x1408, .bf16⟩
  | .local _ .vmem, ⟨50, _⟩ => ⟨S512x5632, .bf16⟩
  | .local _ .vmem, ⟨51, _⟩ => ⟨S512x5632, .bf16⟩
  | .local _ .vmem, ⟨52, _⟩ => ⟨S512x5632, .bf16⟩
  | .local _ .vmem, ⟨53, _⟩ => ⟨S512x5632, .bf16⟩
  | .local _ .vmem, ⟨54, _⟩ => ⟨S512x5632, .bf16⟩
  | .local _ .vmem, ⟨55, _⟩ => ⟨S512x5632, .bf16⟩
  | .local _ .vmem, ⟨56, _⟩ => ⟨S512x5632, .bf16⟩
  | .local _ .vmem, ⟨57, _⟩ => ⟨S512x5632, .bf16⟩
  | .local _ .vmem, ⟨58, _⟩ => ⟨S512x512, .f32⟩
  | .local _ .vmem, ⟨59, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc6_stg3_0 : Ref sig .tc := ⟨.vmem, 56, rfl⟩
abbrev cc6_stg3_1 : Ref sig .tc := ⟨.vmem, 57, rfl⟩
abbrev cc6_stg4_0 : Ref sig .tc := ⟨.vmem, 58, rfl⟩
abbrev cc6_stg4_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem2_1 : DmaSem sig := 55
abbrev cc6_sem3_0 : DmaSem sig := 56
abbrev cc6_sem3_1 : DmaSem sig := 57
abbrev cc6_sem4_0 : DmaSem sig := 58
abbrev cc6_sem4_1 : DmaSem sig := 59

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![1, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

abbrev stage1_0 : Fin 2 → Memref sig .tc .vmem S1024x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S5632x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev grid2 : Pipeline.Grid := ⟨3, ![1, 4, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![c0_i32.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

abbrev stage2_0 : Fin 2 → Memref sig .tc .vmem S4096x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1408x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev grid3 : Pipeline.Grid := ⟨2, ![4, 11], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨3, ![4, 1, 4], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, false, true]

abbrev stage4_1 : Fin 2 → Memref sig .tc .vmem S4096x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true, false]

abbrev stage4_2 : Fin 2 → Memref sig .tc .vmem S1x512x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true]

abbrev grid5 : Pipeline.Grid := ⟨3, ![4, 1, 4], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, false, true]

abbrev stage5_1 : Fin 2 → Memref sig .tc .vmem S4096x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true, false]

abbrev stage5_2 : Fin 2 → Memref sig .tc .vmem S1x512x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, true]

abbrev grid6 : Pipeline.Grid := ⟨3, ![1, 4, 8], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc6_transform_4 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

abbrev stage6_0 : Fin 2 → Memref sig .tc .vmem S512x5632 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, false, true]

abbrev stage6_1 : Fin 2 → Memref sig .tc .vmem S512x5632 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, false, true]

abbrev stage6_2 : Fin 2 → Memref sig .tc .vmem S512x5632 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, false]

abbrev stage6_3 : Fin 2 → Memref sig .tc .vmem S512x5632 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true, false]

abbrev stage6_4 : Fin 2 → Memref sig .tc .vmem S512x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![false, true, true]
-- ==== Reference2Ideal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S2048x4x1408 : Shape := ⟨3, ![2048, 4, 1408]⟩
abbrev S4x2048x1408 : Shape := ⟨3, ![4, 2048, 1408]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S4096x2048, .bf16⟩
  | .hbm, ⟨6, _⟩ => ⟨S4096x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S2048x5632, .f32⟩
  | .hbm, ⟨30, _⟩ => ⟨S5632x2048, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S5632x2048, .f32⟩
  | .hbm, ⟨35, _⟩ => ⟨S2048x5632, .f32⟩
  | .hbm, ⟨36, _⟩ => ⟨S4096x2048, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S5632x2048, .f32⟩
  | .hbm, ⟨42, _⟩ => ⟨S2048x5632, .f32⟩
  | .hbm, ⟨43, _⟩ => ⟨S4096x2048, .f32⟩
  | .hbm, ⟨44, _⟩ => ⟨S4096x2048, .f32⟩
  | .hbm, ⟨45, _⟩ => ⟨S2048x4x1408, .f32⟩
  | .hbm, ⟨46, _⟩ => ⟨S4x2048x1408, .f32⟩
  | .hbm, ⟨47, _⟩ => ⟨S4x2048x1408, .bf16⟩
  | .hbm, ⟨48, _⟩ => ⟨S2048x4x1408, .f32⟩
  | .hbm, ⟨49, _⟩ => ⟨S4x2048x1408, .f32⟩
  | .hbm, ⟨50, _⟩ => ⟨S4x2048x1408, .bf16⟩
  | .hbm, ⟨51, _⟩ => ⟨S5632x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v5_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v5_1 : Ref sig .tc := ⟨.hbm, 22, rfl⟩
abbrev main_v5_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]
-- ==== Kernel3.lean ====
abbrev S4096x2048 : Shape := ⟨2, ![4096, 2048]⟩
abbrev S2048 : Shape := ⟨1, ![2048]⟩
abbrev S2048x4352 : Shape := ⟨2, ![2048, 4352]⟩
abbrev S4096x4352 : Shape := ⟨2, ![4096, 4352]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x2176 : Shape := ⟨2, ![2048, 2176]⟩
abbrev S512x2176 : Shape := ⟨2, ![512, 2176]⟩
abbrev S4096x4x1088 : Shape := ⟨3, ![4096, 4, 1088]⟩
abbrev S4x4096x1088 : Shape := ⟨3, ![4, 4096, 1088]⟩
abbrev S4x2048x1088 : Shape := ⟨3, ![4, 2048, 1088]⟩
abbrev S4096x1024 : Shape := ⟨2, ![4096, 1024]⟩
abbrev S1x4096x1088 : Shape := ⟨3, ![1, 4096, 1088]⟩
abbrev S1x1024x1088 : Shape := ⟨3, ![1, 1024, 1088]⟩
abbrev S4096x1088 : Shape := ⟨2, ![4096, 1088]⟩
abbrev S1024x1088 : Shape := ⟨2, ![1024, 1088]⟩
abbrev S1024x4352 : Shape := ⟨2, ![1024, 4352]⟩
abbrev S512x4352 : Shape := ⟨2, ![512, 4352]⟩
abbrev S1024x512 : Shape := ⟨2, ![1024, 512]⟩

abbrev nBuf : Space → Nat
  | .hbm => 11
  | .vmem => 23
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x4352, .bf16⟩
  | .hbm, ⟨3, _⟩ => ⟨S4096x4352, .bf16⟩
  | .hbm, ⟨4, _⟩ => ⟨S1x2048, .f32⟩
  | .hbm, ⟨5, _⟩ => ⟨S4096x2048, .bf16⟩
  | .hbm, ⟨6, _⟩ => ⟨S4096x4352, .f32⟩
  | .hbm, ⟨7, _⟩ => ⟨S4096x4x1088, .bf16⟩
  | .hbm, ⟨8, _⟩ => ⟨S4x4096x1088, .bf16⟩
  | .hbm, ⟨9, _⟩ => ⟨S4x2048x1088, .bf16⟩
  | .hbm, ⟨10, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x2176, .bf16⟩
  | .local _ .vmem, ⟨8, _⟩ => ⟨S2048x2176, .bf16⟩
  | .local _ .vmem, ⟨9, _⟩ => ⟨S512x2176, .f32⟩
  | .local _ .vmem, ⟨10, _⟩ => ⟨S512x2176, .f32⟩
  | .local _ .vmem, ⟨11, _⟩ => ⟨S4096x1024, .bf16⟩
  | .local _ .vmem, ⟨12, _⟩ => ⟨S4096x1024, .bf16⟩
  | .local _ .vmem, ⟨13, _⟩ => ⟨S1x4096x1088, .bf16⟩
  | .local _ .vmem, ⟨14, _⟩ => ⟨S1x4096x1088, .bf16⟩
  | .local _ .vmem, ⟨15, _⟩ => ⟨S1x1024x1088, .bf16⟩
  | .local _ .vmem, ⟨16, _⟩ => ⟨S1x1024x1088, .bf16⟩
  | .local _ .vmem, ⟨17, _⟩ => ⟨S1024x4352, .bf16⟩
  | .local _ .vmem, ⟨18, _⟩ => ⟨S1024x4352, .bf16⟩
  | .local _ .vmem, ⟨19, _⟩ => ⟨S512x4352, .bf16⟩
  | .local _ .vmem, ⟨20, _⟩ => ⟨S512x4352, .bf16⟩
  | .local _ .vmem, ⟨21, _⟩ => ⟨S1024x512, .f32⟩
  | .local _ .vmem, ⟨22, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, false, true]

abbrev stage1_1 : Fin 2 → Memref sig .tc .vmem S2048x2176 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S512x2176 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev grid2 : Pipeline.Grid := ⟨3, ![4, 1, 2], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, false, true]

abbrev stage2_1 : Fin 2 → Memref sig .tc .vmem S1x4096x1088 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x1024x1088 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev grid3 : Pipeline.Grid := ⟨3, ![1, 4, 4], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

abbrev stage3_0 : Fin 2 → Memref sig .tc .vmem S1024x4352 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, false]

abbrev stage3_1 : Fin 2 → Memref sig .tc .vmem S512x4352 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]
-- ==== Reference3Ideal.lean ====
abbrev S4096x2048 : Shape := ⟨2, ![4096, 2048]⟩
abbrev S2048 : Shape := ⟨1, ![2048]⟩
abbrev S2048x4352 : Shape := ⟨2, ![2048, 4352]⟩
abbrev S4096x4352 : Shape := ⟨2, ![4096, 4352]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4352x2048 : Shape := ⟨2, ![4352, 2048]⟩
abbrev S2048x4x1088 : Shape := ⟨3, ![2048, 4, 1088]⟩
abbrev S4x2048x1088 : Shape := ⟨3, ![4, 2048, 1088]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x4352, .bf16⟩
  | .hbm, ⟨3, _⟩ => ⟨S4096x4352, .bf16⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S2048x4352, .f32⟩
  | .hbm, ⟨21, _⟩ => ⟨S4096x4352, .f32⟩
  | .hbm, ⟨22, _⟩ => ⟨S4096x4352, .f32⟩
  | .hbm, ⟨23, _⟩ => ⟨S4352x2048, .f32⟩
  | .hbm, ⟨24, _⟩ => ⟨S2048x4352, .f32⟩
  | .hbm, ⟨25, _⟩ => ⟨S4096x2048, .f32⟩
  | .hbm, ⟨26, _⟩ => ⟨S4096x2048, .bf16⟩
  | .hbm, ⟨27, _⟩ => ⟨S2048x4x1088, .f32⟩
  | .hbm, ⟨28, _⟩ => ⟨S4x2048x1088, .f32⟩
  | .hbm, ⟨29, _⟩ => ⟨S4x2048x1088, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel4.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩
abbrev S1024x1024 : Shape := ⟨2, ![1024, 1024]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 10
  | .vmem => 22
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S4096x2048, .bf16⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .vmem, ⟨14, _⟩ => ⟨S1024x1024, .f32⟩
  | .local _ .vmem, ⟨15, _⟩ => ⟨S1024x1024, .f32⟩
  | .local _ .vmem, ⟨16, _⟩ => ⟨S4096x1024, .bf16⟩
  | .local _ .vmem, ⟨17, _⟩ => ⟨S4096x1024, .bf16⟩
  | .local _ .vmem, ⟨18, _⟩ => ⟨S4096x512, .bf16⟩
  | .local _ .vmem, ⟨19, _⟩ => ⟨S4096x512, .bf16⟩
  | .local _ .vmem, ⟨20, _⟩ => ⟨S1024x512, .bf16⟩
  | .local _ .vmem, ⟨21, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![1, 2, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev grid2 : Pipeline.Grid := ⟨3, ![1, 2, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![c0_i32.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]
-- ==== Reference4Ideal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S4096x2048, .bf16⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048x2048, .f32⟩
  | .hbm, ⟨11, _⟩ => ⟨S2048x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .bf16⟩
  | .hbm, ⟨30, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel5.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_18 : BitVec 32 := 0#32
  let v45 : BitVec 1 := Scalar.cmpi .ne v44 c0_i32_18
  v45

def k0_cond2 (i : grid0.Coords) : BitVec 1 :=
  let arg0 : BitVec 32 := BitVec.ofNat 32 (i 0).val
  let c0_i32 : BitVec 32 := 0#32
  let v43 : BitVec 1 := Scalar.cmpi .eq arg0 c0_i32
  let v_true : BitVec 1 := 1#1
  let v46 : BitVec 1 := Scalar.xori v43 v_true
  let v47 : BitVec 32 := Scalar.extui v46
  let c0_i32_19 : BitVec 32 := 0#32
  let v48 : BitVec 1 := Scalar.cmpi .ne v47 c0_i32_19
  v48

def cc0_transform_0 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel6.lean ====
abbrev S2x2048x512 : Shape := ⟨3, ![2, 2048, 512]⟩
abbrev S1x256x512 : Shape := ⟨3, ![1, 256, 512]⟩
abbrev S1x2048x512 : Shape := ⟨3, ![1, 2048, 512]⟩
abbrev S1x256x128 : Shape := ⟨3, ![1, 256, 128]⟩
abbrev S256x128 : Shape := ⟨2, ![256, 128]⟩
abbrev S1x2048x128 : Shape := ⟨3, ![1, 2048, 128]⟩
abbrev S2048x128 : Shape := ⟨2, ![2048, 128]⟩
abbrev S1x128 : Shape := ⟨2, ![1, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x2048x512, .bf16⟩
  | .hbm, ⟨1, _⟩ => ⟨S2x2048x512, .bf16⟩
  | .hbm, ⟨2, _⟩ => ⟨S2x2048x512, .bf16⟩
  | .hbm, ⟨3, _⟩ => ⟨S2x2048x512, .f32⟩
  | .local _ .vmem, ⟨0, _⟩ => ⟨S1x256x512, .bf16⟩
  | .local _ .vmem, ⟨1, _⟩ => ⟨S1x256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x256x512, .f32⟩
  | .local _ .vmem, ⟨7, _⟩ => ⟨S1x256x512, .f32⟩
  | _, _ => ⟨S2x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2x2048x512 : Shape := ⟨3, ![2, 2048, 512]⟩
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S2x2048x512, .bf16⟩
  | .hbm, ⟨2, _⟩ => ⟨S2x2048x512, .bf16⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x8x64, .f32⟩
  | .hbm, ⟨7, _⟩ => ⟨S2x2048x8x64, .f32⟩
  | .hbm, ⟨8, _⟩ => ⟨S2x2048x8x64, .f32⟩
  | .hbm, ⟨9, _⟩ => ⟨S2x8x2048x2048, .f32⟩
  | .hbm, ⟨10, _⟩ => ⟨S_, .f32⟩
  | .hbm, ⟨11, _⟩ => ⟨S2x8x2048, .f32⟩
  | .hbm, ⟨12, _⟩ => ⟨S_, .f32⟩
  | .hbm, ⟨13, _⟩ => ⟨S2x8x2048, .f32⟩
  | .hbm, ⟨14, _⟩ => ⟨S2x8x2048, .f32⟩
  | .hbm, ⟨15, _⟩ => ⟨S2x8x2048x1, .f32⟩
  | .hbm, ⟨16, _⟩ => ⟨S2x8x2048x2048, .f32⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048, .f32⟩
  | .hbm, ⟨21, _⟩ => ⟨S2x8x2048x1, .f32⟩
  | .hbm, ⟨22, _⟩ => ⟨S2x8x2048x2048, .f32⟩
  | .hbm, ⟨23, _⟩ => ⟨S2x8x2048x2048, .f32⟩
  | .hbm, ⟨24, _⟩ => ⟨S2x8x64x2048, .f32⟩
  | .hbm, ⟨25, _⟩ => ⟨S2x2048x8x64, .f32⟩
  | .hbm, ⟨26, _⟩ => ⟨S2x2048x512, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel7.lean ====
abbrev S4096x512 : Shape := ⟨2, ![4096, 512]⟩
abbrev S2048 : Shape := ⟨1, ![2048]⟩
abbrev S4096x2048 : Shape := ⟨2, ![4096, 2048]⟩
abbrev S512 : Shape := ⟨1, ![512]⟩
abbrev S1x512 : Shape := ⟨2, ![1, 512]⟩
abbrev S512x512 : Shape := ⟨2, ![512, 512]⟩
abbrev S512x1 : Shape := ⟨2, ![512, 1]⟩

abbrev nBuf : Space → Nat
  | .hbm => 22
  | .vmem => 32
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S2048, .f32⟩
  | .hbm, ⟨5, _⟩ => ⟨S4096x2048, .f32⟩
  | .hbm, ⟨6, _⟩ => ⟨S512, .f32⟩
  | .hbm, ⟨7, _⟩ => ⟨S1x512, .f32⟩
  | .hbm, ⟨8, _⟩ => ⟨S512, .f32⟩
  | .hbm, ⟨9, _⟩ => ⟨S1x512, .f32⟩
  | .hbm, ⟨10, _⟩ => ⟨S512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev main_v8_6 : Ref sig .tc := ⟨.hbm, 20, rfl⟩
abbrev main_v8_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30
abbrev cc0_sem19_0 : DmaSem sig := 31

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v152 : BitVec 1 := Scalar.cmpi .eq arg0 c0_i32
  let v153 : BitVec 32 := Scalar.extui v152
  let c0_i32_62 : BitVec 32 := 0#32
  let v154 : BitVec 1 := Scalar.cmpi .ne v153 c0_i32_62
  v154

def k0_cond2 (i : grid0.Coords) : BitVec 1 :=
  let arg0 : BitVec 32 := BitVec.ofNat 32 (i 0).val
  let c0_i32 : BitVec 32 := 0#32
  let v152 : BitVec 1 := Scalar.cmpi .eq arg0 c0_i32
  let v_true : BitVec 1 := 1#1
  let v155 : BitVec 1 := Scalar.xori v152 v_true
  let v156 : BitVec 32 := Scalar.extui v155
  let c0_i32_63 : BitVec 32 := 0#32
  let v157 : BitVec 1 := Scalar.cmpi .ne v156 c0_i32_63
  v157

def k0_cond3 (i : grid0.Coords) : BitVec 1 :=
  let arg0 : BitVec 32 := BitVec.ofNat 32 (i 0).val
  let c0_i32 : BitVec 32 := 0#32
  let v152 : BitVec 1 := Scalar.cmpi .eq arg0 c0_i32
  let v158 : BitVec 32 := Scalar.extui v152
  let c0_i32_64 : BitVec 32 := 0#32
  let v159 : BitVec 1 := Scalar.cmpi .ne v158 c0_i32_64
  v159

def k0_cond4 (i : grid0.Coords) : BitVec 1 :=
  let arg0 : BitVec 32 := BitVec.ofNat 32 (i 0).val
  let c0_i32 : BitVec 32 := 0#32
  let v152 : BitVec 1 := Scalar.cmpi .eq arg0 c0_i32
  let true_65 : BitVec 1 := 1#1
  let v160 : BitVec 1 := Scalar.xori v152 true_65
  let v161 : BitVec 32 := Scalar.extui v160
  let c0_i32_66 : BitVec 32 := 0#32
  let v162 : BitVec 1 := Scalar.cmpi .ne v161 c0_i32_66
  v162

def k0_cond5 (i : grid0.Coords) : BitVec 1 :=
  let arg0 : BitVec 32 := BitVec.ofNat 32 (i 0).val
  let c0_i32 : BitVec 32 := 0#32
  let v152 : BitVec 1 := Scalar.cmpi .eq arg0 c0_i32
  let v163 : BitVec 32 := Scalar.extui v152
  let c0_i32_67 : BitVec 32 := 0#32
  let v164 : BitVec 1 := Scalar.cmpi .ne v163 c0_i32_67
  v164

def k0_cond6 (i : grid0.Coords) : BitVec 1 :=
  let arg0 : BitVec 32 := BitVec.ofNat 32 (i 0).val
  let c0_i32 : BitVec 32 := 0#32
  let v152 : BitVec 1 := Scalar.cmpi .eq arg0 c0_i32
  let true_68 : BitVec 1 := 1#1
  let v165 : BitVec 1 := Scalar.xori v152 true_68
  let v166 : BitVec 32 := Scalar.extui v165
  let c0_i32_69 : BitVec 32 := 0#32
  let v167 : BitVec 1 := Scalar.cmpi .ne v166 c0_i32_69
  v167

def k0_cond7 (i : grid0.Coords) : BitVec 1 :=
  let arg0 : BitVec 32 := BitVec.ofNat 32 (i 0).val
  let c0_i32 : BitVec 32 := 0#32
  let v152 : BitVec 1 := Scalar.cmpi .eq arg0 c0_i32
  let v168 : BitVec 32 := Scalar.extui v152
  let c0_i32_70 : BitVec 32 := 0#32
  let v169 : BitVec 1 := Scalar.cmpi .ne v168 c0_i32_70
  v169

def k0_cond8 (i : grid0.Coords) : BitVec 1 :=
  let arg0 : BitVec 32 := BitVec.ofNat 32 (i 0).val
  let c0_i32 : BitVec 32 := 0#32
  let v152 : BitVec 1 := Scalar.cmpi .eq arg0 c0_i32
  let true_71 : BitVec 1 := 1#1
  let v170 : BitVec 1 := Scalar.xori v152 true_71
  let v171 : BitVec 32 := Scalar.extui v170
  let c0_i32_72 : BitVec 32 := 0#32
  let v172 : BitVec 1 := Scalar.cmpi .ne v171 c0_i32_72
  v172

def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let c0_i32_4 : BitVec 32 := 0#32
  ![v9.toNat, c1_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let c0_i32_3 : BitVec 32 := 0#32
  ![v9.toNat, c2_i32.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c3_i32 : BitVec 32 := 3#32
  let c0_i32_3 : BitVec 32 := 0#32
  ![v9.toNat, c3_i32.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference7Ideal.lean ====
abbrev S4096x512 : Shape := ⟨2, ![4096, 512]⟩
abbrev S2048 : Shape := ⟨1, ![2048]⟩
abbrev S4096x2048 : Shape := ⟨2, ![4096, 2048]⟩
abbrev S4096x1x512 : Shape := ⟨3, ![4096, 1, 512]⟩
abbrev S4096x4x512 : Shape := ⟨3, ![4096, 4, 512]⟩
abbrev S4x512 : Shape := ⟨2, ![4, 512]⟩
abbrev S_ : Shape := ⟨0, ![]⟩
abbrev S4096x4 : Shape := ⟨2, ![4096, 4]⟩
abbrev S4096x4x1 : Shape := ⟨3, ![4096, 4, 1]⟩
abbrev S1x4x512 : Shape := ⟨3, ![1, 4, 512]⟩
abbrev S1x2048 : Shape := ⟨2, ![1, 2048]⟩
abbrev S1x512 : Shape := ⟨2, ![1, 512]⟩

abbrev nBuf : Space → Nat
  | .hbm => 73
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S2048, .f32⟩
  | .hbm, ⟨5, _⟩ => ⟨S4096x2048, .f32⟩
  | .hbm, ⟨6, _⟩ => ⟨S4096x1x512, .f32⟩
  | .hbm, ⟨7, _⟩ => ⟨S4096x1x512, .f32⟩
  | .hbm, ⟨8, _⟩ => ⟨S4096x1x512, .f32⟩
  | .hbm, ⟨9, _⟩ => ⟨S4096x1x512, .f32⟩
  | .hbm, ⟨10, _⟩ => ⟨S4096x4x512, .f32⟩
  | .hbm, ⟨11, _⟩ => ⟨S4x512, .f32⟩
  | .hbm, ⟨12, _⟩ => ⟨S4096x4x512, .f32⟩
  | .hbm, ⟨13, _⟩ => ⟨S_, .f32⟩
  | .hbm, ⟨14, _⟩ => ⟨S4096x4, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S_, .f32⟩
  | .hbm, ⟨20, _⟩ => ⟨S4096x4x1, .f32⟩
  | .hbm, ⟨21, _⟩ => ⟨S4096x4x1, .f32⟩
  | .hbm, ⟨22, _⟩ => ⟨S4096x4x1, .f32⟩
  | .hbm, ⟨23, _⟩ => ⟨S4096x4x1, .f32⟩
  | .hbm, ⟨24, _⟩ => ⟨S_, .f32⟩
  | .hbm, ⟨25, _⟩ => ⟨S4096x4x1, .f32⟩
  | .hbm, ⟨26, _⟩ => ⟨S4096x4x1, .f32⟩
  | .hbm, ⟨27, _⟩ => ⟨S4096x4x512, .f32⟩
  | .hbm, ⟨28, _⟩ => ⟨S4096x4x512, .f32⟩
  | .hbm, ⟨29, _⟩ => ⟨S1x4x512, .f32⟩
  | .hbm, ⟨30, _⟩ => ⟨S4096x4x512, .f32⟩
  | .hbm, ⟨31, _⟩ => ⟨S4096x4x512, .f32⟩
  | .hbm, ⟨32, _⟩ => ⟨S4096x2048, .f32⟩
  | .hbm, ⟨33, _⟩ => ⟨S4096x4x512, .f32⟩
  | .hbm, ⟨34, _⟩ => ⟨S4096x4x512, .f32⟩
  | .hbm, ⟨35, _⟩ => ⟨S_, .f32⟩
  | .hbm, ⟨36, _⟩ => ⟨S4x512, .f32⟩
  | .hbm, ⟨37, _⟩ => ⟨S1x4x512, .f32⟩
  | .hbm, ⟨38, _⟩ => ⟨S4096x4x512, .f32⟩
  | .hbm, ⟨39, _⟩ => ⟨S4096x4x512, .f32⟩
  | .hbm, ⟨40, _⟩ => ⟨S_, .f32⟩
  | .hbm, ⟨41, _⟩ => ⟨S4x512, .f32⟩
  | .hbm, ⟨42, _⟩ => ⟨S4096x4x512, .f32⟩
  | .hbm, ⟨43, _⟩ => ⟨S_, .f32⟩
  | .hbm, ⟨44, _⟩ => ⟨S4096x4, .f32⟩
  | .hbm, ⟨45, _⟩ => ⟨S4096x4x1, .f32⟩
  | .hbm, ⟨46, _⟩ => ⟨S4096x4x512, .f32⟩
  | .hbm, ⟨47, _⟩ => ⟨S4096x4x512, .f32⟩
  | .hbm, ⟨48, _⟩ => ⟨S4096x4x1, .f32⟩
  | .hbm, ⟨49, _⟩ => ⟨S_, .f32⟩
  | .hbm, ⟨50, _⟩ => ⟨S4096x4x1, .f32⟩
  | .hbm, ⟨51, _⟩ => ⟨S4096x4x1, .f32⟩
  | .hbm, ⟨52, _⟩ => ⟨S_, .f32⟩
  | .hbm, ⟨53, _⟩ => ⟨S4096x4, .f32⟩
  | .hbm, ⟨54, _⟩ => ⟨S4096x4x512, .f32⟩
  | .hbm, ⟨55, _⟩ => ⟨S4096x4x512, .f32⟩
  | .hbm, ⟨56, _⟩ => ⟨S4096x4x512, .f32⟩
  | .hbm, ⟨57, _⟩ => ⟨S4096x4x512, .f32⟩
  | .hbm, ⟨58, _⟩ => ⟨S4096x4x512, .f32⟩
  | .hbm, ⟨59, _⟩ => ⟨S2048, .f32⟩
  | .hbm, ⟨60, _⟩ => ⟨S4096x1x512, .f32⟩
  | .hbm, ⟨61, _⟩ => ⟨S4096x512, .f32⟩
  | .hbm, ⟨62, _⟩ => ⟨S4096x1x512, .f32⟩
  | .hbm, ⟨63, _⟩ => ⟨S4096x512, .f32⟩
  | .hbm, ⟨64, _⟩ => ⟨S4096x1x512, .f32⟩
  | .hbm, ⟨65, _⟩ => ⟨S4096x512, .f32⟩
  | .hbm, ⟨66, _⟩ => ⟨S4096x1x512, .f32⟩
  | .hbm, ⟨67, _⟩ => ⟨S4096x512, .f32⟩
  | .hbm, ⟨68, _⟩ => ⟨S1x2048, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel8.lean ====
abbrev S4096x512 : Shape := ⟨2, ![4096, 512]⟩
abbrev S2048 : Shape := ⟨1, ![2048]⟩
abbrev S512 : Shape := ⟨1, ![512]⟩
abbrev S1x512 : Shape := ⟨2, ![1, 512]⟩
abbrev S4096x2048 : Shape := ⟨2, ![4096, 2048]⟩
abbrev S512x512 : Shape := ⟨2, ![512, 512]⟩
abbrev S512x2048 : Shape := ⟨2, ![512, 2048]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S2048, .f32⟩
  | .hbm, ⟨5, _⟩ => ⟨S512, .f32⟩
  | .hbm, ⟨6, _⟩ => ⟨S1x512, .f32⟩
  | .hbm, ⟨7, _⟩ => ⟨S512, .f32⟩
  | .hbm, ⟨8, _⟩ => ⟨S1x512, .f32⟩
  | .hbm, ⟨9, _⟩ => ⟨S512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x2048, .bf16⟩
  | .local _ .vmem, ⟨13, _⟩ => ⟨S512x2048, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4096x512 : Shape := ⟨2, ![4096, 512]⟩
abbrev S2048 : Shape := ⟨1, ![2048]⟩
abbrev S4096x1x512 : Shape := ⟨3, ![4096, 1, 512]⟩
abbrev S4096x4x512 : Shape := ⟨3, ![4096, 4, 512]⟩
abbrev S4x512 : Shape := ⟨2, ![4, 512]⟩
abbrev S_ : Shape := ⟨0, ![]⟩
abbrev S4096x4 : Shape := ⟨2, ![4096, 4]⟩
abbrev S4096x4x1 : Shape := ⟨3, ![4096, 4, 1]⟩
abbrev S1x4x512 : Shape := ⟨3, ![1, 4, 512]⟩
abbrev S4096x2048 : Shape := ⟨2, ![4096, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S2048, .f32⟩
  | .hbm, ⟨5, _⟩ => ⟨S4096x1x512, .f32⟩
  | .hbm, ⟨6, _⟩ => ⟨S4096x1x512, .f32⟩
  | .hbm, ⟨7, _⟩ => ⟨S4096x1x512, .f32⟩
  | .hbm, ⟨8, _⟩ => ⟨S4096x1x512, .f32⟩
  | .hbm, ⟨9, _⟩ => ⟨S4096x4x512, .f32⟩
  | .hbm, ⟨10, _⟩ => ⟨S4x512, .f32⟩
  | .hbm, ⟨11, _⟩ => ⟨S4096x4x512, .f32⟩
  | .hbm, ⟨12, _⟩ => ⟨S_, .f32⟩
  | .hbm, ⟨13, _⟩ => ⟨S4096x4, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S4096x4x1, .f32⟩
  | .hbm, ⟨22, _⟩ => ⟨S4096x4x512, .f32⟩
  | .hbm, ⟨23, _⟩ => ⟨S4096x4x512, .f32⟩
  | .hbm, ⟨24, _⟩ => ⟨S1x4x512, .f32⟩
  | .hbm, ⟨25, _⟩ => ⟨S4096x4x512, .f32⟩
  | .hbm, ⟨26, _⟩ => ⟨S4096x4x512, .f32⟩
  | .hbm, ⟨27, _⟩ => ⟨S4096x2048, .f32⟩
  | .hbm, ⟨28, _⟩ => ⟨S4096x2048, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel9.lean ====
abbrev S4096x2048 : Shape := ⟨2, ![4096, 2048]⟩
abbrev S1x1 : Shape := ⟨2, ![1, 1]⟩
abbrev S512x2048 : Shape := ⟨2, ![512, 2048]⟩
abbrev S1x512x2048 : Shape := ⟨3, ![1, 512, 2048]⟩
abbrev S1 : Shape := ⟨1, ![1]⟩
abbrev S1x1x1 : Shape := ⟨3, ![1, 1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S1x1, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_10 : BitVec 32 := 0#32
  let v20 : BitVec 1 := Scalar.cmpi .ne v19 c0_i32_10
  v20

def k0_cond2 (i : grid0.Coords) : BitVec 1 :=
  let arg0 : BitVec 32 := BitVec.ofNat 32 (i 0).val
  let c0_i32 : BitVec 32 := 0#32
  let v18 : BitVec 1 := Scalar.cmpi .eq arg0 c0_i32
  let v_true : BitVec 1 := 1#1
  let v21 : BitVec 1 := Scalar.xori v18 v_true
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference9Ideal.lean ====
abbrev S4096x2048 : Shape := ⟨2, ![4096, 2048]⟩
abbrev S_ : Shape := ⟨0, ![]⟩
abbrev S4096 : Shape := ⟨1, ![4096]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .bf16⟩
  | .hbm, ⟨26, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel10.lean ====
abbrev S2304x128 : Shape := ⟨2, ![2304, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S2304x128, .f32⟩
  | .hbm, ⟨1, _⟩ => ⟨S2304x128, .f32⟩
  | .hbm, ⟨2, _⟩ => ⟨S2304x128, .f32⟩
  | .hbm, ⟨3, _⟩ => ⟨S2304x128, .f32⟩
  | .hbm, ⟨4, _⟩ => ⟨S2304x128, .f32⟩
  | .hbm, ⟨5, _⟩ => ⟨S2304x128, .f32⟩
  | .hbm, ⟨6, _⟩ => ⟨S2304x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S2304x128 : Shape := ⟨2, ![2304, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2304x128, .f32⟩
  | .hbm, ⟨1, _⟩ => ⟨S2304x128, .f32⟩
  | .hbm, ⟨2, _⟩ => ⟨S2304x128, .f32⟩
  | .hbm, ⟨3, _⟩ => ⟨S2304x128, .f32⟩
  | .hbm, ⟨4, _⟩ => ⟨S_, .f32⟩
  | .hbm, ⟨5, _⟩ => ⟨S2304x128, .f32⟩
  | .hbm, ⟨6, _⟩ => ⟨S2304x128, .f32⟩
  | .hbm, ⟨7, _⟩ => ⟨S_, .f32⟩
  | .hbm, ⟨8, _⟩ => ⟨S2304x128, .f32⟩
  | .hbm, ⟨9, _⟩ => ⟨S2304x128, .f32⟩
  | .hbm, ⟨10, _⟩ => ⟨S2304x128, .f32⟩
  | .hbm, ⟨11, _⟩ => ⟨S_, .f32⟩
  | .hbm, ⟨12, _⟩ => ⟨S2304x128, .f32⟩
  | .hbm, ⟨13, _⟩ => ⟨S2304x128, .f32⟩
  | .hbm, ⟨14, _⟩ => ⟨S2304x128, .f32⟩
  | .hbm, ⟨15, _⟩ => ⟨S_, .f32⟩
  | .hbm, ⟨16, _⟩ => ⟨S2304x128, .f32⟩
  | .hbm, ⟨17, _⟩ => ⟨S2304x128, .f32⟩
  | .hbm, ⟨18, _⟩ => ⟨S2304x128, .f32⟩
  | .hbm, ⟨19, _⟩ => ⟨S_, .f32⟩
  | .hbm, ⟨20, _⟩ => ⟨S2304x128, .f32⟩
  | .hbm, ⟨21, _⟩ => ⟨S2304x128, .f32⟩
  | .hbm, ⟨22, _⟩ => ⟨S_, .f32⟩
  | .hbm, ⟨23, _⟩ => ⟨S2304x128, .f32⟩
  | .hbm, ⟨24, _⟩ => ⟨S2304x128, .f32⟩
  | .hbm, ⟨25, _⟩ => ⟨S2304x128, .f32⟩
  | .hbm, ⟨26, _⟩ => ⟨S_, .f32⟩
  | .hbm, ⟨27, _⟩ => ⟨S2304x128, .f32⟩
  | .hbm, ⟨28, _⟩ => ⟨S2304x128, .f32⟩
  | .hbm, ⟨29, _⟩ => ⟨S2304x128, .f32⟩
  | .hbm, ⟨30, _⟩ => ⟨S_, .f32⟩
  | .hbm, ⟨31, _⟩ => ⟨S2304x128, .f32⟩
  | .hbm, ⟨32, _⟩ => ⟨S2304x128, .f32⟩
  | .hbm, ⟨33, _⟩ => ⟨S2304x128, .f32⟩
  | .hbm, ⟨34, _⟩ => ⟨S_, .f32⟩
  | .hbm, ⟨35, _⟩ => ⟨S2304x128, .f32⟩
  | .hbm, ⟨36, _⟩ => ⟨S2304x128, .f32⟩
  | _, _ => ⟨S2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S4096x4352 : Shape := ⟨2, ![4096, 4352]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S8x64 : Shape := ⟨2, ![8, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S4096x512 : Shape := ⟨2, ![4096, 512]⟩
abbrev S1x128x128 : Shape := ⟨3, ![1, 128, 128]⟩
abbrev S128x128 : Shape := ⟨2, ![128, 128]⟩

abbrev nBuf : Space → Nat
  | .hbm => 19
  | .vmem => 9
  | .smem => 0
  | _ => 0

abbrev bufTy : (tb : Table) → Fin (tcTables nBuf tb) → BufTy
  | .hbm, ⟨0, _⟩ => ⟨S4096x4352, .f32⟩
  | .hbm, ⟨1, _⟩ => ⟨S8x128x128, .f32⟩
  | .hbm, ⟨2, _⟩ => ⟨S8x128, .f32⟩
  | .hbm, ⟨3, _⟩ => ⟨S8x128x128, .bf16⟩
  | .hbm, ⟨4, _⟩ => ⟨S128x8, .f32⟩
  | .hbm, ⟨5, _⟩ => ⟨S128x8x64, .f32⟩
  | .hbm, ⟨6, _⟩ => ⟨S128x512, .f32⟩
  | .hbm, ⟨7, _⟩ => ⟨S8x64, .i32⟩
  | .hbm, ⟨8, _⟩ => ⟨S512, .i32⟩
  | .hbm, ⟨9, _⟩ => ⟨S512x1, .i32⟩
  | .hbm, ⟨10, _⟩ => ⟨S1x512, .i32⟩
  | .hbm, ⟨11, _⟩ => ⟨S512x512, .i32⟩
  | .hbm, ⟨12, _⟩ => ⟨S512x512, .i32⟩
  | .hbm, ⟨13, _⟩ => ⟨S512x512, .i1⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S8x128x128, .bf16⟩
  | .local _ .vmem, ⟨5, _⟩ => ⟨S128x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S4096x4352 : Shape := ⟨2, ![4096, 4352]⟩
abbrev S8x128x128 : Shape := ⟨3, ![8, 128, 128]⟩
abbrev S8x128 : Shape := ⟨2, ![8, 128]⟩
abbrev S4096x512 : Shape := ⟨2, ![4096, 512]⟩
abbrev S2x2048x512 : Shape := ⟨3, ![2, 2048, 512]⟩
abbrev S_ : Shape := ⟨0, ![]⟩
abbrev S2x16x128x8x64 : Shape := ⟨5, ![2, 16, 128, 8, 64]⟩
abbrev S2x16x128x8 : Shape := ⟨4, ![2, 16, 128, 8]⟩
abbrev S2x16x128x8x1 : Shape := ⟨5, ![2, 16, 128, 8, 1]⟩
abbrev S8x2x16x64x128 : Shape := ⟨5, ![8, 2, 16, 64, 128]⟩
abbrev S128x8 : Shape := ⟨2, ![128, 8]⟩
abbrev S1x1x128x8x1 : Shape := ⟨5, ![1, 1, 128, 8, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x4352, .f32⟩
  | .hbm, ⟨1, _⟩ => ⟨S8x128x128, .f32⟩
  | .hbm, ⟨2, _⟩ => ⟨S8x128, .f32⟩
  | .hbm, ⟨3, _⟩ => ⟨S4096x512, .f32⟩
  | .hbm, ⟨4, _⟩ => ⟨S4096x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x512, .f32⟩
  | .hbm, ⟨9, _⟩ => ⟨S_, .f32⟩
  | .hbm, ⟨10, _⟩ => ⟨S2x2048x512, .f32⟩
  | .hbm, ⟨11, _⟩ => ⟨S2x2048x512, .f32⟩
  | .hbm, ⟨12, _⟩ => ⟨S2x2048x512, .f32⟩
  | .hbm, ⟨13, _⟩ => ⟨S_, .f32⟩
  | .hbm, ⟨14, _⟩ => ⟨S2x2048x512, .f32⟩
  | .hbm, ⟨15, _⟩ => ⟨S2x2048x512, .f32⟩
  | .hbm, ⟨16, _⟩ => ⟨S2x2048x512, .f32⟩
  | .hbm, ⟨17, _⟩ => ⟨S_, .f32⟩
  | .hbm, ⟨18, _⟩ => ⟨S2x2048x512, .f32⟩
  | .hbm, ⟨19, _⟩ => ⟨S2x2048x512, .f32⟩
  | .hbm, ⟨20, _⟩ => ⟨S_, .f32⟩
  | .hbm, ⟨21, _⟩ => ⟨S2x2048x512, .f32⟩
  | .hbm, ⟨22, _⟩ => ⟨S2x2048x512, .f32⟩
  | .hbm, ⟨23, _⟩ => ⟨S2x2048x512, .f32⟩
  | .hbm, ⟨24, _⟩ => ⟨S2x2048x512, .f32⟩
  | .hbm, ⟨25, _⟩ => ⟨S2x2048x512, .f32⟩
  | .hbm, ⟨26, _⟩ => ⟨S_, .f32⟩
  | .hbm, ⟨27, _⟩ => ⟨S2x2048x512, .f32⟩
  | .hbm, ⟨28, _⟩ => ⟨S2x2048x512, .f32⟩
  | .hbm, ⟨29, _⟩ => ⟨S2x2048x512, .f32⟩
  | .hbm, ⟨30, _⟩ => ⟨S_, .f32⟩
  | .hbm, ⟨31, _⟩ => ⟨S2x2048x512, .f32⟩
  | .hbm, ⟨32, _⟩ => ⟨S2x2048x512, .f32⟩
  | .hbm, ⟨33, _⟩ => ⟨S2x2048x512, .f32⟩
  | .hbm, ⟨34, _⟩ => ⟨S_, .f32⟩
  | .hbm, ⟨35, _⟩ => ⟨S2x2048x512, .f32⟩
  | .hbm, ⟨36, _⟩ => ⟨S2x2048x512, .f32⟩
  | .hbm, ⟨37, _⟩ => ⟨S_, .f32⟩
  | .hbm, ⟨38, _⟩ => ⟨S2x2048x512, .f32⟩
  | .hbm, ⟨39, _⟩ => ⟨S2x2048x512, .f32⟩
  | .hbm, ⟨40, _⟩ => ⟨S2x2048x512, .f32⟩
  | .hbm, ⟨41, _⟩ => ⟨S2x16x128x8x64, .f32⟩
  | .hbm, ⟨42, _⟩ => ⟨S_, .f32⟩
  | .hbm, ⟨43, _⟩ => ⟨S2x16x128x8, .f32⟩
  | .hbm, ⟨44, _⟩ => ⟨S2x16x128x8x1, .f32⟩
  | .hbm, ⟨45, _⟩ => ⟨S_, .f32⟩
  | .hbm, ⟨46, _⟩ => ⟨S2x16x128x8x1, .f32⟩
  | .hbm, ⟨47, _⟩ => ⟨S2x16x128x8x1, .f32⟩
  | .hbm, ⟨48, _⟩ => ⟨S2x16x128x8x64, .f32⟩
  | .hbm, ⟨49, _⟩ => ⟨S2x16x128x8x64, .f32⟩
  | .hbm, ⟨50, _⟩ => ⟨S2x16x128x8x64, .f32⟩
  | .hbm, ⟨51, _⟩ => ⟨S_, .f32⟩
  | .hbm, ⟨52, _⟩ => ⟨S2x16x128x8, .f32⟩
  | .hbm, ⟨53, _⟩ => ⟨S2x16x128x8x1, .f32⟩
  | .hbm, ⟨54, _⟩ => ⟨S_, .f32⟩
  | .hbm, ⟨55, _⟩ => ⟨S2x16x128x8x1, .f32⟩
  | .hbm, ⟨56, _⟩ => ⟨S2x16x128x8x1, .f32⟩
  | .hbm, ⟨57, _⟩ => ⟨S_, .f32⟩
  | .hbm, ⟨58, _⟩ => ⟨S2x16x128x8x1, .f32⟩
  | .hbm, ⟨59, _⟩ => ⟨S2x16x128x8x1, .f32⟩
  | .hbm, ⟨60, _⟩ => ⟨S2x16x128x8x1, .f32⟩
  | .hbm, ⟨61, _⟩ => ⟨S2x16x128x8x64, .f32⟩
  | .hbm, ⟨62, _⟩ => ⟨S2x16x128x8x64, .f32⟩
  | .hbm, ⟨63, _⟩ => ⟨S8x2x16x64x128, .f32⟩
  | .hbm, ⟨64, _⟩ => ⟨S2x16x128x8x64, .f32⟩
  | .hbm, ⟨65, _⟩ => ⟨S128x8, .f32⟩
  | .hbm, ⟨66, _⟩ => ⟨S1x1x128x8x1, .f32⟩
  | .hbm, ⟨67, _⟩ => ⟨S2x16x128x8x64, .f32⟩
  | .hbm, ⟨68, _⟩ => ⟨S2x16x128x8x64, .f32⟩
  | .hbm, ⟨69, _⟩ => ⟨S2x2048x512, .f32⟩
  | .hbm, ⟨70, _⟩ => ⟨S2x2048x512, .f32⟩
  | .hbm, ⟨71, _⟩ => ⟨S4096x512, .f32⟩
  | _, _ => ⟨S4096x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Proof.Row.lean ====
/-
  The gradient of one row of a softmax, over the extended reals.

  A query row has its scores `s j` against the keys `j`, and the gradient `d j` of the loss with respect to the row's
  attention weights. `weight s j` is the attention weight, `scoreGrad s d j` the gradient with respect to the score:
  `p j * (d j - ∑ l, d l * p l)`. Differentiating the softmax as a quotient gives the same number by another formula
  (`quotientGrad`); `quotientGrad_eq` proves the two equal at every row whose scores are finite, whatever the `d j` are.
-/
module

public import Idealize.ShloMosaic.PureOps.Ideal
public import Idealize.ShloMosaic.Lib.Pointwise

@[expose] public section

noncomputable section

namespace Cert.Attn

open Idealize.ShloMosaic

variable {n : ℕ}

/-- The value the row's running maximum starts from. -/
abbrev lowest : EReal := Ideal.ofBits .f32 0xFF800000#32

theorem lowest_eq : lowest = ⊥ := by
  unfold lowest Ideal.ofBits
  simp [Ideal.ieee]

/-- The largest score of the row. -/
def rowMax (s : Fin n → EReal) : EReal := Finset.univ.fold max lowest s

/-- The unnormalised weight of key `j`. -/
def expo (s : Fin n → EReal) (j : Fin n) : EReal := Ideal.exp (s j - rowMax s)

/-- The row's normaliser. -/
def total (s : Fin n → EReal) : EReal := ∑ j, expo s j

/-- The attention weight of key `j`. -/
def weight (s : Fin n → EReal) (j : Fin n) : EReal := Ideal.div (expo s j) (total s)

/-- The gradient with respect to score `j`, given the gradients `d` with respect to the weights. -/
def scoreGrad (s d : Fin n → EReal) (j : Fin n) : EReal := weight s j * (d j - ∑ l, d l * weight s l)

/-- The same gradient as differentiating the quotient `expo / total` gives it. -/
def quotientGrad (s d : Fin n → EReal) (j : Fin n) : EReal :=
  (Ideal.div (d j) (total s) + -∑ l, d l * Ideal.div 1 (total s * total s) * expo s l) * expo s j

theorem max_rowMax (s : Fin n → EReal) : max lowest (rowMax s) = rowMax s := by
  rw [lowest_eq]; exact max_eq_right bot_le

theorem rowMax_mem (s : Fin n → EReal) (f : Fin n → ℝ) (hs : ∀ j, s j = f j) (i : Fin n) : ∃ j, rowMax s = s j := by
  unfold rowMax
  rw [lowest_eq]
  have : (Finset.univ : Finset (Fin n)).fold max ⊥ s = Finset.univ.sup s := rfl
  rw [this]
  obtain ⟨j, -, hj⟩ := Finset.exists_mem_eq_sup Finset.univ ⟨i, Finset.mem_univ i⟩ s
  exact ⟨j, hj⟩

/-- A nonnegative real factor moves into a sum, whatever the terms are. -/
theorem coe_mul_sum {ι : Type} (S : Finset ι) (c : ℝ) (hc : 0 ≤ c) (x : ι → EReal) :
    (c : EReal) * ∑ i ∈ S, x i = ∑ i ∈ S, (c : EReal) * x i := by
  classical
  induction S using Finset.induction_on with
  | empty => simp
  | insert a S ha ih =>
      rw [Finset.sum_insert ha, Finset.sum_insert ha,
        EReal.left_distrib_of_nonneg_of_ne_top (EReal.coe_nonneg.2 hc) (EReal.coe_ne_top c), ih]

theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- At finite scores the unnormalised weights are positive reals. -/
theorem expo_real (s : Fin n → EReal) (f : Fin n → ℝ) (hs : ∀ j, s j = f j) :
    ∃ e : Fin n → ℝ, (∀ j, 0 < e j) ∧ ∀ j, expo s j = e j := by
  by_cases hn : Nonempty (Fin n)
  · obtain ⟨i⟩ := hn
    obtain ⟨k, hk⟩ := rowMax_mem s f hs i
    refine ⟨fun j => Real.exp (f j - f k), fun j => Real.exp_pos _, fun j => ?_⟩
    unfold expo
    rw [hk, hs, hs, ← EReal.coe_sub, Ideal.exp_coe]
  · exact ⟨fun _ => 1, fun _ => one_pos, fun j => absurd ⟨j⟩ hn⟩

theorem quotientGrad_eq (s d : Fin n → EReal) (f : Fin n → ℝ) (hs : ∀ j, s j = f j) (j : Fin n) :
    quotientGrad s d j = scoreGrad s d j := by
  obtain ⟨e, he, hE⟩ := expo_real s f hs
  have hL : total s = ((∑ j, e j : ℝ) : EReal) := by
    unfold total; rw [← coe_sum]; exact Finset.sum_congr rfl fun j _ => hE j
  have hpos : 0 < ∑ j, e j := Finset.sum_pos (fun j _ => he j) ⟨j, Finset.mem_univ j⟩
  set L : ℝ := ∑ j, e j
  have hw : ∀ l, weight s l = ((e l * (1 / L) : ℝ) : EReal) := fun l => by
    unfold weight
    rw [hL, hE, Ideal.div_coe hpos.ne', ← EReal.coe_mul]
  have hc : (0 : ℝ) ≤ 1 / L := by positivity
  have hsum : ∑ l, d l * Ideal.div 1 (total s * total s) * expo s l = ((1 / L : ℝ) : EReal) * ∑ l, d l * weight s l := by
    rw [coe_mul_sum _ _ hc]
    refine Finset.sum_congr rfl fun l _ => ?_
    rw [hL, ← EReal.coe_mul, Ideal.div_coe (by positivity), one_mul, hE, hw, mul_assoc, ← EReal.coe_mul, mul_left_comm,
      ← EReal.coe_mul]
    congr 2
    field_simp
  unfold quotientGrad scoreGrad
  rw [hsum, hL, Ideal.div_coe hpos.ne', hE, hw, mul_comm (d j), ← mul_neg,
    ← EReal.left_distrib_of_nonneg_of_ne_top (EReal.coe_nonneg.2 hc) (EReal.coe_ne_top _), ← sub_eq_add_neg,
    mul_comm _ ((e j : ℝ) : EReal), ← mul_assoc, EReal.coe_mul]

end Cert.Attn

end
-- ==== Proof.Pair.lean ====
/-
  One pair of heads of the attention backward kernel, its payloads read at an index.

  The kernel handles its eight heads two at a time: a pair's 128 lanes hold both heads, 64 lanes each, and the query
  rows are stacked twice, the first copy with the second head's lanes zeroed, the second copy the other way round.
  Row `row a i` of a stack is query row `i` for head `a` of the pair, `lane a d` is lane `d` of head `a`. The lemmas
  say that on such a row the payloads compute head `a` alone.
-/
module

public import proofs.«01_k».proof.Proof.Gen.KernelIdeal.Skeleton
public import proofs.«01_k».proof.Proof.Row
public import Idealize.ShloMosaic.Lib.Pointwise

@[expose] public section

set_option maxRecDepth 16384

noncomputable section

namespace Cert.KernelIdeal.Val

open Cert.KernelIdeal Cert.KernelIdeal.Gen Cert.Attn Idealize.ShloMosaic Idealize.ShloMosaic.TcCoe Idealize.SL.Sem

/-- Row of a stack: query row `i` for head `a` of the pair. -/
abbrev row (a : Fin 2) (i : Fin 256) : Fin 512 := ⟨256 * a.val + i.val, by omega⟩
/-- Lane `d` of head `a` of the pair. -/
abbrev lane (a : Fin 2) (d : Fin 64) : Fin 128 := ⟨64 * a.val + d.val, by omega⟩

/-- The scores of a query (or output gradient) row against the keys (or values) of its head. -/
def scores (q : Fin 64 → EReal) (k : Fin 2048 → Fin 64 → EReal) (j : Fin 2048) : EReal := ∑ d, q d * k j d

/-- A sum over a pair's lanes that vanishes off head `a` is the sum over head `a`'s lanes. -/
theorem sum_lanes (a : Fin 2) (g : Fin 128 → EReal) (h : ∀ b d, b ≠ a → g (lane b d) = 0) :
    ∑ x, g x = ∑ d, g (lane a d) := by
  rw [Fin.sum_univ_two_halves 64 64 rfl g]
  have hz : ∀ b, b ≠ a → ∑ d, g (lane b d) = 0 := fun b hb => Finset.sum_eq_zero fun d _ => h b d hb
  obtain rfl | rfl : a = 0 ∨ a = 1 := by omega
  · exact (congrArg₂ (· + ·) (Finset.sum_congr rfl fun d _ => congrArg g (Fin.ext (by simp))) (hz 1 (by decide))).trans (add_zero _)
  · exact (congrArg₂ (· + ·) ((Finset.sum_congr rfl fun d _ => congrArg g (Fin.ext (by simp))).trans (hz 0 (by decide))) rfl).trans
      (zero_add _)

/-- A sum over a stack's rows that vanishes off head `a` is the sum over head `a`'s rows. -/
theorem sum_rows (a : Fin 2) (g : Fin 512 → EReal) (h : ∀ b i, b ≠ a → g (row b i) = 0) :
    ∑ x, g x = ∑ i, g (row a i) := by
  rw [Fin.sum_univ_two_halves 256 256 rfl g]
  have hz : ∀ b, b ≠ a → ∑ i, g (row b i) = 0 := fun b hb => Finset.sum_eq_zero fun i _ => h b i hb
  obtain rfl | rfl : a = 0 ∨ a = 1 := by omega
  · exact (congrArg₂ (· + ·) (Finset.sum_congr rfl fun d _ => congrArg g (Fin.ext (by simp))) (hz 1 (by decide))).trans (add_zero _)
  · exact (congrArg₂ (· + ·) ((Finset.sum_congr rfl fun d _ => congrArg g (Fin.ext (by simp))).trans (hz 0 (by decide))) rfl).trans
      (zero_add _)

/-- The kernel's head index of a lane. -/
theorem head_of_lane : ∀ l : Fin 128, (k0_pay10 : IVec S1x128 32) (ix2 0 l) = BitVec.ofNat 32 (l.val / 64) := by
  intro l
  pointwise [k0_pay10]
  revert l
  decide

theorem head_of_lane' : (k0_pay13 : IVec S1x128 32) = k0_pay10 := rfl
theorem head_of_lane'' : (k0_pay17 : IVec S1x128 32) = k0_pay10 := rfl

/-- The test "lane belongs to head `b`" as the kernel's words make it. -/
theorem head_test (a : Fin 2) (d : Fin 64) (b : Fin 2) :
    IntOp.cmpi .eq (BitVec.ofNat 32 ((64 * a.val + d.val) / 64)) (BitVec.ofNat 32 b.val) = if a = b then 1#1 else 0#1 := by
  have : (64 * a.val + d.val) / 64 = a.val := by omega
  rw [this]
  clear this
  revert a b; decide

variable (q : Vec Ideal S1x256x128 .bf16) (k v : Vec Ideal S1x2048x128 .bf16) (g : Vec Ideal S1x256x128 .f32)

/-- Head `a`'s part of query row `i`. -/
def qRow (a : Fin 2) (i : Fin 256) : Fin 64 → EReal := fun d => q (ix3 0 i (lane a d))
/-- Head `a`'s part of an output gradient row. -/
def gRow (a : Fin 2) (i : Fin 256) : Fin 64 → EReal := fun d => g (ix3 0 i (lane a d))
/-- Head `a`'s keys (or values). -/
def kRows (a : Fin 2) : Fin 2048 → Fin 64 → EReal := fun j d => k (ix3 0 j (lane a d))

/-- The stacked query rows. -/
def QS : FVec Ideal S512x128 .bf16 := k0_pay11 (k0_pay6 q) k0_pay10
/-- The stacked output gradient rows. -/
def GS : FVec Ideal S512x128 .bf16 := k0_pay14 (k0_pay9 g) k0_pay13
/-- The attention weights of a stack. -/
def PS : FVec Ideal S512x2048 .f32 := k0_pay12 (k0_pay6 q) (k0_pay7 k) k0_pay10
/-- The score gradients of a stack. -/
def DS : FVec Ideal S512x2048 .bf16 := k0_pay15 (k0_pay8 v) (k0_pay9 g) (PS q k) k0_pay13
/-- What the kernel stores of dq for a pair. -/
def DQ : FVec Ideal S1x256x128 .f32 := k0_pay18 (k0_pay16 (k0_pay7 k) (k0_pay8 v) (k0_pay9 g) (PS q k) k0_pay13) k0_pay17
/-- What the kernel stores of dk for a pair, over what it finds. -/
def DK (old : Vec Ideal S1x2048x128 .f32) : FVec Ideal S1x2048x128 .f32 := k0_pay19 (QS q) (DS q k v g) old
/-- What the kernel stores of dv for a pair, over what it finds. -/
def DV (old : Vec Ideal S1x2048x128 .f32) : FVec Ideal S1x2048x128 .f32 := k0_pay20 (PS q k) (GS g) old

theorem QS_at (a b : Fin 2) (i : Fin 256) (d : Fin 64) :
    QS q (ix2 (row a i) (lane b d)) = if b = a then qRow q b i d else 0 := by
  unfold QS
  pointwise [k0_pay11, k0_pay6]
  simp only [head_of_lane]
  obtain rfl | rfl : a = 0 ∨ a = 1 := by omega
  · rw [dif_pos (show (256 * (0 : Fin 2).val + i.val) < 256 by simp)]
    have ht := head_test b d 0
    simp only [Fin.isValue, Fin.val_zero, Fin.val_one] at ht ⊢
    erw [ht]
    have hi : (⟨256 * (0 : Fin 2).val + i.val, by simp⟩ : Fin 256) = i := Fin.ext (by simp)
    split
    · exact congrArg (fun r => q (ix3 0 r (lane b d))) hi
    · rfl
  · rw [dif_neg (show ¬ (256 * (1 : Fin 2).val + i.val) < 256 by simp)]
    have ht := head_test b d 1
    simp only [Fin.isValue, Fin.val_zero, Fin.val_one] at ht ⊢
    erw [ht]
    have hi : (⟨256 * (1 : Fin 2).val + i.val - 256, by simp⟩ : Fin 256) = i := Fin.ext (by simp)
    split
    · exact congrArg (fun r => q (ix3 0 r (lane b d))) hi
    · rfl

theorem GS_at (a b : Fin 2) (i : Fin 256) (d : Fin 64) :
    GS g (ix2 (row a i) (lane b d)) = if b = a then gRow g b i d else 0 := by
  unfold GS
  rw [head_of_lane']
  pointwise [k0_pay14, k0_pay9]
  simp only [head_of_lane]
  obtain rfl | rfl : a = 0 ∨ a = 1 := by omega
  · rw [dif_pos (show (256 * (0 : Fin 2).val + i.val) < 256 by simp)]
    have ht := head_test b d 0
    simp only [Fin.isValue, Fin.val_zero, Fin.val_one] at ht ⊢
    erw [ht]
    have hi : (⟨256 * (0 : Fin 2).val + i.val, by simp⟩ : Fin 256) = i := Fin.ext (by simp)
    split
    · exact congrArg (fun r => g (ix3 0 r (lane b d))) hi
    · rfl
  · rw [dif_neg (show ¬ (256 * (1 : Fin 2).val + i.val) < 256 by simp)]
    have ht := head_test b d 1
    simp only [Fin.isValue, Fin.val_zero, Fin.val_one] at ht ⊢
    erw [ht]
    have hi : (⟨256 * (1 : Fin 2).val + i.val - 256, by simp⟩ : Fin 256) = i := Fin.ext (by simp)
    split
    · exact congrArg (fun r => g (ix3 0 r (lane b d))) hi
    · rfl

theorem QS_dot (a : Fin 2) (i : Fin 256) (w : Fin 128 → EReal) :
    ∑ x, QS q (ix2 (row a i) x) * w x = ∑ d, qRow q a i d * w (lane a d) := by
  rw [sum_lanes a (fun x => QS q (ix2 (row a i) x) * w x) fun b d hb => by
    show QS q (ix2 (row a i) (lane b d)) * _ = 0
    rw [QS_at, if_neg hb, zero_mul]]
  exact Finset.sum_congr rfl fun d _ => by rw [QS_at, if_pos rfl]

theorem GS_dot (a : Fin 2) (i : Fin 256) (w : Fin 128 → EReal) :
    ∑ x, GS g (ix2 (row a i) x) * w x = ∑ d, gRow g a i d * w (lane a d) := by
  rw [sum_lanes a (fun x => GS g (ix2 (row a i) x) * w x) fun b d hb => by
    show GS g (ix2 (row a i) (lane b d)) * _ = 0
    rw [GS_at, if_neg hb, zero_mul]]
  exact Finset.sum_congr rfl fun d _ => by rw [GS_at, if_pos rfl]

theorem PS_at (a : Fin 2) (i : Fin 256) (j : Fin 2048) :
    PS q k (ix2 (row a i) j) = weight (scores (qRow q a i) (kRows k a)) j := by
  unfold PS
  have hs : ∀ j, ∑ x, QS q (ix2 (row a i) x) * k0_pay7 k (ix2 j x) = scores (qRow q a i) (kRows k a) j := fun j => by
    rw [QS_dot]
    unfold scores kRows
    exact Finset.sum_congr rfl fun d _ => by pointwise [k0_pay7, k0_pay8]
  unfold QS at hs
  pointwise [k0_pay12]
  simp only [hs]
  rfl

theorem DS_at (a : Fin 2) (i : Fin 256) (j : Fin 2048) :
    DS q k v g (ix2 (row a i) j)
      = scoreGrad (scores (qRow q a i) (kRows k a)) (scores (gRow g a i) (kRows v a)) j := by
  unfold DS
  have hs : ∀ j, ∑ x, GS g (ix2 (row a i) x) * k0_pay8 v (ix2 j x) = scores (gRow g a i) (kRows v a) j := fun j => by
    rw [GS_dot]
    unfold scores kRows
    exact Finset.sum_congr rfl fun d _ => by pointwise [k0_pay7, k0_pay8]
  unfold GS at hs
  pointwise [k0_pay15]
  simp only [hs, PS_at]
  rfl

theorem DQ_at (a : Fin 2) (i : Fin 256) (d : Fin 64) :
    DQ q k v g (ix3 0 i (lane a d))
      = ∑ j, scoreGrad (scores (qRow q a i) (kRows k a)) (scores (gRow g a i) (kRows v a)) j * kRows k a j d := by
  unfold DQ
  rw [head_of_lane'']
  have hs : ∀ b (r : Fin 512), r = row b i → k0_pay16 (k0_pay7 k) (k0_pay8 v) (k0_pay9 g) (PS q k) k0_pay13 (ix2 r (lane a d))
      = ∑ j, scoreGrad (scores (qRow q b i) (kRows k b)) (scores (gRow g b i) (kRows v b)) j * k (ix3 0 j (lane a d)) := by
    rintro b r rfl
    have hd := fun j => DS_at q k v g b i j
    unfold DS at hd
    pointwise [k0_pay16]
    simp only [hd]
    exact Finset.sum_congr rfl fun j _ => by pointwise [k0_pay7]
  pointwise [k0_pay18]
  simp only [head_of_lane]
  have ht := head_test a d 0
  erw [ht]
  obtain rfl | rfl : a = 0 ∨ a = 1 := by omega
  · exact hs 0 _ (Fin.ext (by simp))
  · exact hs 1 _ (Fin.ext (by simp))

theorem DK_at (old : Vec Ideal S1x2048x128 .f32) (a : Fin 2) (j : Fin 2048) (d : Fin 64) :
    DK q k v g old (ix3 0 j (lane a d))
      = old (ix3 0 j (lane a d))
        + ∑ i, scoreGrad (scores (qRow q a i) (kRows k a)) (scores (gRow g a i) (kRows v a)) j * qRow q a i d := by
  unfold DK
  pointwise [k0_pay19]
  congr 1
  rw [sum_rows a (fun x => DS q k v g (ix2 x j) * QS q (ix2 x (lane a d))) fun b i hb => by
    show DS q k v g (ix2 (row b i) j) * QS q (ix2 (row b i) (lane a d)) = 0
    rw [QS_at, if_neg (Ne.symm hb), mul_zero]]
  exact Finset.sum_congr rfl fun i _ => by rw [DS_at, QS_at, if_pos rfl]

theorem DV_at (old : Vec Ideal S1x2048x128 .f32) (a : Fin 2) (j : Fin 2048) (d : Fin 64) :
    DV q k g old (ix3 0 j (lane a d))
      = old (ix3 0 j (lane a d)) + ∑ i, weight (scores (qRow q a i) (kRows k a)) j * gRow g a i d := by
  unfold DV
  pointwise [k0_pay20]
  congr 1
  rw [sum_rows a (fun x => PS q k (ix2 x j) * GS g (ix2 x (lane a d))) fun b i hb => by
    show PS q k (ix2 (row b i) j) * GS g (ix2 (row b i) (lane a d)) = 0
    rw [GS_at, if_neg (Ne.symm hb), mul_zero]]
  exact Finset.sum_congr rfl fun i _ => by rw [PS_at, GS_at, if_pos rfl]

/-! ## The four pairs

The program states the same arithmetic once per pair, cut at different places; each is the pair above. -/

theorem DK_pair0 (old : Vec Ideal S1x2048x128 .f32) : k0_pay19 (k0_pay11 (k0_pay6 q) k0_pay10) (k0_pay15 (k0_pay8 v) (k0_pay9 g) (k0_pay12 (k0_pay6 q) (k0_pay7 k) k0_pay10) k0_pay13) old = DK q k v g old := rfl
theorem DK_pair1 (old : Vec Ideal S1x2048x128 .f32) : k0_pay35 (k0_pay32 (k0_pay25 (k0_pay21 q)) (k0_pay27 (k0_pay26 (k0_pay21 q) (k0_pay22 k))) (k0_pay29 (k0_pay23 v) (k0_pay24 g)) (k0_pay30 (k0_pay23 v) (k0_pay24 g) (k0_pay26 (k0_pay21 q) (k0_pay22 k)))) old = DK q k v g old := rfl
theorem DK_pair2 (old : Vec Ideal S1x2048x128 .f32) : k0_pay53 (k0_pay43 (k0_pay37 q) (iota Kind.tc S1x128 32 [1] iota_S1x128_d1_w32) (64#32) k0_pay41 k0_pay42 1#32) (k0_pay48 (k0_pay39 v) (k0_pay40 g) (k0_pay44 (k0_pay37 q) (k0_pay38 k) (iota Kind.tc S1x128 32 [1] iota_S1x128_d1_w32) (64#32) k0_pay41 k0_pay42 1#32) (iota Kind.tc S1x128 32 [1] iota_S1x128_d1_w32) (64#32) k0_pay45 k0_pay46 1#32) old = DK q k v g old := rfl
theorem DK_pair3 (old : Vec Ideal S1x2048x128 .f32) : k0_pay2 (k0_pay63 (k0_pay56 q) k0_pay61 k0_pay62) (k0_pay69 (k0_pay58 v) (k0_pay59 g) (k0_pay64 (k0_pay56 q) (k0_pay57 k) k0_pay61 k0_pay62) k0_pay66 k0_pay67) old = DK q k v g old := rfl

theorem DV_pair0 (old : Vec Ideal S1x2048x128 .f32) : k0_pay20 (k0_pay12 (k0_pay6 q) (k0_pay7 k) k0_pay10) (k0_pay14 (k0_pay9 g) k0_pay13) old = DV q k g old := rfl
theorem DV_pair1 (old : Vec Ideal S1x2048x128 .f32) : k0_pay36 (k0_pay33 (k0_pay27 (k0_pay26 (k0_pay21 q) (k0_pay22 k))) (k0_pay28 (k0_pay24 g))) old = DV q k g old := rfl
theorem DV_pair2 (old : Vec Ideal S1x2048x128 .f32) : k0_pay55 (k0_pay54 (k0_pay44 (k0_pay37 q) (k0_pay38 k) (iota Kind.tc S1x128 32 [1] iota_S1x128_d1_w32) (64#32) k0_pay41 k0_pay42 1#32) (k0_pay47 (k0_pay40 g) (iota Kind.tc S1x128 32 [1] iota_S1x128_d1_w32) (64#32) k0_pay45 k0_pay46 1#32) old) = DV q k g old := rfl
theorem DV_pair3 (old : Vec Ideal S1x2048x128 .f32) : k0_pay3 (k0_pay64 (k0_pay56 q) (k0_pay57 k) k0_pay61 k0_pay62) (k0_pay68 (k0_pay59 g) k0_pay66 k0_pay67) old = DV q k g old := rfl

theorem DQ_pair0 : k0_pay18 (k0_pay16 (k0_pay7 k) (k0_pay8 v) (k0_pay9 g) (k0_pay12 (k0_pay6 q) (k0_pay7 k) k0_pay10) k0_pay13) k0_pay17 = DQ q k v g := rfl
theorem DQ_pair1 : k0_pay34 (k0_pay22 k) (k0_pay27 (k0_pay26 (k0_pay21 q) (k0_pay22 k))) (k0_pay29 (k0_pay23 v) (k0_pay24 g)) (k0_pay30 (k0_pay23 v) (k0_pay24 g) (k0_pay26 (k0_pay21 q) (k0_pay22 k))) = DQ q k v g := rfl
theorem DQ_pair2 : k0_pay52 (k0_pay49 (k0_pay38 k) (k0_pay39 v) (k0_pay40 g) (k0_pay44 (k0_pay37 q) (k0_pay38 k) (iota Kind.tc S1x128 32 [1] iota_S1x128_d1_w32) (64#32) k0_pay41 k0_pay42 1#32) (iota Kind.tc S1x128 32 [1] iota_S1x128_d1_w32) (64#32) k0_pay45 k0_pay46 1#32) (iota Kind.tc S1x128 32 [1] iota_S1x128_d1_w32) (64#32) k0_pay50 k0_pay51 (1#32) = DQ q k v g := rfl
theorem DQ_pair3 : k0_pay1 (k0_pay71 (k0_pay57 k) (k0_pay58 v) (k0_pay59 g) (k0_pay64 (k0_pay56 q) (k0_pay57 k) k0_pay61 k0_pay62) k0_pay66 k0_pay67) (k0_pay72 (k0_pay57 k) (k0_pay58 v) (k0_pay59 g) (k0_pay64 (k0_pay56 q) (k0_pay57 k) k0_pay61 k0_pay62) k0_pay66 k0_pay67) k0_pay73 = DQ q k v g := rfl

end Cert.KernelIdeal.Val

end
-- ==== Proof.Block.lean ====
/-
  What one point of the attention backward kernel leaves in its three output blocks: per head, the score gradients of
  the point's 256 query rows against all keys, times the keys (dq), and their transposes times the query rows and the
  output gradient rows, added to what the point finds (dk, dv; at the first point of a sequence it finds zero).
-/
module

public import proofs.«01_k».proof.Proof.Gen.KernelIdeal.Value
public import proofs.«01_k».proof.Proof.Pair
public import Idealize.ShloMosaic.Lib.Pipeline.ValueKit
public import Idealize.ShloMosaic.Lib.Pipeline.ReadBack

@[expose] public section

set_option maxRecDepth 16384

noncomputable section

namespace Cert.Attn

/-- Lane `d` of head `h` among the 512 lanes of a row. -/
abbrev headLane (h : Fin 8) (d : Fin 64) : Fin 512 := ⟨64 * h.val + d.val, by omega⟩

open Cert.KernelIdeal.Val (scores)

/-- One query row's part of dq: its score gradients times the keys. -/
def dqOf (q : Fin 64 → EReal) (k v : Fin 2048 → Fin 64 → EReal) (g : Fin 64 → EReal) (d : Fin 64) : EReal :=
  ∑ j, scoreGrad (scores q k) (scores g v) j * k j d

/-- What `n` query rows add to row `j` of dk. -/
def dkOf {n : Nat} (q : Fin n → Fin 64 → EReal) (k v : Fin 2048 → Fin 64 → EReal) (g : Fin n → Fin 64 → EReal)
    (j : Fin 2048) (d : Fin 64) : EReal :=
  ∑ i, scoreGrad (scores (q i) k) (scores (g i) v) j * q i d

/-- What `n` query rows add to row `j` of dv. -/
def dvOf {n : Nat} (q : Fin n → Fin 64 → EReal) (k : Fin 2048 → Fin 64 → EReal) (g : Fin n → Fin 64 → EReal)
    (j : Fin 2048) (d : Fin 64) : EReal :=
  ∑ i, weight (scores (q i) k) j * g i d

end Cert.Attn

namespace Cert.KernelIdeal.Val

open Cert.KernelIdeal Cert.KernelIdeal.Gen Cert.Attn Idealize.ShloMosaic Idealize.ShloMosaic.TcCoe Idealize.SL.Sem

section pieces

variable (Q : Vec Ideal S1x256x512 .bf16) (K V : Vec Ideal S1x2048x512 .bf16) (G : Vec Ideal S1x256x512 .f32)

/-- Head `h`'s query rows in a block. -/
def qHead (h : Fin 8) : Fin 256 → Fin 64 → EReal := fun i d => Q (ix3 0 i (headLane h d))
/-- Head `h`'s output gradient rows in a block. -/
def gHead (h : Fin 8) : Fin 256 → Fin 64 → EReal := fun i d => G (ix3 0 i (headLane h d))
/-- Head `h`'s keys (or values) in a block. -/
def kHead (h : Fin 8) : Fin 2048 → Fin 64 → EReal := fun j d => K (ix3 0 j (headLane h d))

variable {Q K V G}
variable {q : Vec Ideal S1x256x128 .bf16} {k v : Vec Ideal S1x2048x128 .bf16} {g : Vec Ideal S1x256x128 .f32}

/-- The lane of a pair's block that holds lane `d` of head `h`, if the pair is `h`'s. -/
theorem lane_of (p : Fin 4) (h : Fin 8) (d : Fin 64) (x : Fin 128) (e : 64 * h.val + d.val = 128 * p.val + x.val) :
    ∃ a : Fin 2, x = lane a d ∧ 2 * p.val + a.val = h.val :=
  ⟨⟨h.val - 2 * p.val, by omega⟩, Fin.ext (by show x.val = 64 * (h.val - 2 * p.val) + d.val; omega), by
    show 2 * p.val + (h.val - 2 * p.val) = _; omega⟩

/-- Lane `lane a d` of pair `p` is lane `d` of head `2 p + a`. -/
theorem headLane_of (p : Fin 4) (h : Fin 8) (a : Fin 2) (e : 2 * p.val + a.val = h.val) (d : Fin 64) :
    (⟨128 * p.val + (lane a d).val, by show 128 * p.val + (64 * a.val + d.val) < 512; omega⟩ : Fin 512) = headLane h d :=
  Fin.ext (by show 128 * p.val + (64 * a.val + d.val) = 64 * h.val + d.val; omega)

/-- Lane `l` of pair `p` among the 512 lanes. -/
abbrev pairLane (p : Fin 4) (l : Fin 128) : Fin 512 := ⟨128 * p.val + l.val, by omega⟩

/-- An index whose leading axis has one place, by its other coordinates. -/
theorem ix3_of {n l : Nat} (x : (⟨3, ![1, n, l]⟩ : Shape).Idx) (i : Fin n) (e : Fin l) (h1 : i.val = (x 1).val) (h2 : x 2 = e) :
    x = ix3 0 i e := by
  subst h2
  obtain rfl : x 1 = i := (Fin.ext h1).symm
  funext a
  match a with
  | 0 => exact Subsingleton.elim (α := Fin 1) _ _
  | 1 => rfl
  | 2 => rfl

theorem DQ_piece (p : Fin 4) (hq : ∀ i l, q (ix3 0 i l) = Q (ix3 0 i (pairLane p l)))
    (hk : ∀ j l, k (ix3 0 j l) = K (ix3 0 j (pairLane p l))) (hv : ∀ j l, v (ix3 0 j l) = V (ix3 0 j (pairLane p l)))
    (hg : ∀ i l, g (ix3 0 i l) = G (ix3 0 i (pairLane p l))) (i : Fin 256) (h : Fin 8) (d : Fin 64)
    (x : S1x256x128.Idx) (h1 : i.val = (x 1).val) (h2 : 64 * h.val + d.val = 128 * p.val + (x 2).val) :
    DQ q k v g x = dqOf (qHead Q h i) (kHead K h) (kHead V h) (gHead G h i) d := by
  obtain ⟨a, ha, he⟩ := lane_of p h d (x 2) h2
  have hx : x = ix3 0 i (lane a d) := ix3_of x i _ h1 ha
  rw [hx, DQ_at]
  have e1 : qRow q a i = qHead Q h i := funext fun d => (hq i _).trans (congrArg (fun l => Q (ix3 0 i l)) (headLane_of p h a he d))
  have e2 : kRows k a = kHead K h := funext fun j => funext fun d => (hk j _).trans (congrArg (fun l => K (ix3 0 j l)) (headLane_of p h a he d))
  have e3 : kRows v a = kHead V h := funext fun j => funext fun d => (hv j _).trans (congrArg (fun l => V (ix3 0 j l)) (headLane_of p h a he d))
  have e4 : gRow g a i = gHead G h i := funext fun d => (hg i _).trans (congrArg (fun l => G (ix3 0 i l)) (headLane_of p h a he d))
  rw [e1, e2, e3, e4]
  rfl

theorem DK_piece (p : Fin 4) (hq : ∀ i l, q (ix3 0 i l) = Q (ix3 0 i (pairLane p l)))
    (hk : ∀ j l, k (ix3 0 j l) = K (ix3 0 j (pairLane p l))) (hv : ∀ j l, v (ix3 0 j l) = V (ix3 0 j (pairLane p l)))
    (hg : ∀ i l, g (ix3 0 i l) = G (ix3 0 i (pairLane p l)))
    {old : Vec Ideal S1x2048x128 .f32} {O : Vec Ideal S1x2048x512 .f32}
    (ho : ∀ j l, old (ix3 0 j l) = O (ix3 0 j (pairLane p l))) (j : Fin 2048) (h : Fin 8) (d : Fin 64)
    (x : S1x2048x128.Idx) (h1 : j.val = (x 1).val) (h2 : 64 * h.val + d.val = 128 * p.val + (x 2).val) :
    DK q k v g old x = O (ix3 0 j (headLane h d)) + dkOf (qHead Q h) (kHead K h) (kHead V h) (gHead G h) j d := by
  obtain ⟨a, ha, he⟩ := lane_of p h d (x 2) h2
  have hx : x = ix3 0 j (lane a d) := ix3_of x j _ h1 ha
  rw [hx, DK_at]
  have e1 : qRow q a = qHead Q h := funext fun i => funext fun d => (hq i _).trans (congrArg (fun l => Q (ix3 0 i l)) (headLane_of p h a he d))
  have e2 : kRows k a = kHead K h := funext fun j => funext fun d => (hk j _).trans (congrArg (fun l => K (ix3 0 j l)) (headLane_of p h a he d))
  have e3 : kRows v a = kHead V h := funext fun j => funext fun d => (hv j _).trans (congrArg (fun l => V (ix3 0 j l)) (headLane_of p h a he d))
  have e4 : gRow g a = gHead G h := funext fun i => funext fun d => (hg i _).trans (congrArg (fun l => G (ix3 0 i l)) (headLane_of p h a he d))
  rw [e1, e2, e3, e4, ho j (lane a d), show pairLane p (lane a d) = headLane h d from headLane_of p h a he d]
  rfl

theorem DV_piece (p : Fin 4) (hq : ∀ i l, q (ix3 0 i l) = Q (ix3 0 i (pairLane p l)))
    (hk : ∀ j l, k (ix3 0 j l) = K (ix3 0 j (pairLane p l)))
    (hg : ∀ i l, g (ix3 0 i l) = G (ix3 0 i (pairLane p l)))
    {old : Vec Ideal S1x2048x128 .f32} {O : Vec Ideal S1x2048x512 .f32}
    (ho : ∀ j l, old (ix3 0 j l) = O (ix3 0 j (pairLane p l))) (j : Fin 2048) (h : Fin 8) (d : Fin 64)
    (x : S1x2048x128.Idx) (h1 : j.val = (x 1).val) (h2 : 64 * h.val + d.val = 128 * p.val + (x 2).val) :
    DV q k g old x = O (ix3 0 j (headLane h d)) + dvOf (qHead Q h) (kHead K h) (gHead G h) j d := by
  obtain ⟨a, ha, he⟩ := lane_of p h d (x 2) h2
  have hx : x = ix3 0 j (lane a d) := ix3_of x j _ h1 ha
  rw [hx, DV_at]
  have e1 : qRow q a = qHead Q h := funext fun i => funext fun d => (hq i _).trans (congrArg (fun l => Q (ix3 0 i l)) (headLane_of p h a he d))
  have e2 : kRows k a = kHead K h := funext fun j => funext fun d => (hk j _).trans (congrArg (fun l => K (ix3 0 j l)) (headLane_of p h a he d))
  have e4 : gRow g a = gHead G h := funext fun i => funext fun d => (hg i _).trans (congrArg (fun l => G (ix3 0 i l)) (headLane_of p h a he d))
  rw [e1, e2, e4, ho j (lane a d), show pairLane p (lane a d) = headLane h d from headLane_of p h a he d]
  rfl

end pieces

/-- The block dk starts from is zero. -/
theorem zero4 (i : S1x2048x512.Idx) : (k0_pay4 : FVec Ideal S1x2048x512 .f32) i = 0 := by pointwise [k0_pay4]
/-- The block dv starts from is zero. -/
theorem zero5 (i : S1x2048x512.Idx) : (k0_pay5 : FVec Ideal S1x2048x512 .f32) i = 0 := by pointwise [k0_pay5]

/-- A piece behind four that cover the block is never read. -/
theorem canon_drop {Val : EltTy → Type} [∀ e, Nonempty (Val e)] {S : Shape} {e : EltTy} (a b c d z : View.Piece Val S e) (y : S.Idx)
    (h : ∃ p ∈ [a, b, c, d], y ∈ p.1.set) : View.canon [a, b, c, d, z] y = View.canon [a, b, c, d] y := by
  obtain ⟨p, hp, hy⟩ := h
  have step : ∀ (p : View.Piece Val S e) (L L' : List (View.Piece Val S e)),
      (y ∉ p.1.set → View.canon L y = View.canon L' y) → View.canon (p :: L) y = View.canon (p :: L') y := by
    intro p L L' hL
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      exact hL hm
  refine step a _ _ fun ha => step b _ _ fun hb => step c _ _ fun hc => step d _ _ fun hd => ?_
  simp only [List.mem_cons, List.not_mem_nil, or_false] at hp
  rcases hp with rfl | rfl | rfl | rfl
  · exact absurd hy ha
  · exact absurd hy hb
  · exact absurd hy hc
  · exact absurd hy hd

end Cert.KernelIdeal.Val

end
-- ==== Proof.Point.lean ====
/-
  What a point of the attention backward kernel leaves in its output blocks, read off its run: the six cases (three
  outputs; a sequence's first point or a later one), each pair of heads by the lemmas of `Block`.
-/
module

public import proofs.«01_k».proof.Proof.Block

@[expose] public section

set_option maxRecDepth 16384

noncomputable section

namespace Cert.KernelIdeal.Val

open Cert.KernelIdeal Cert.KernelIdeal.Gen Cert.Attn Idealize.ShloMosaic Idealize.ShloMosaic.TcCoe Idealize.SL.Sem

variable (m : (ℓ : Loc nD τ sig) → Buf (Elt Ideal) ℓ)

theorem dq_point_A (c : Dev nD) (t : Fin cfg0.N) (h : t.val % 8 = 0) (i : Fin 256) (hd : Fin 8) (d : Fin 64) :
    (outsAt0 m c t.val t.isLt).1 (ix3 0 i (headLane hd d))
      = dqOf (qHead (iblk m c 0 t) hd i) (kHead (iblk m c 1 t) hd) (kHead (iblk m c 2 t) hd) (gHead (iblk m c 3 t) hd i) d := by
  rw [outsAt0_A m c t h]
  frame_open
  simp (disch := decide) only [↓ View.readCov_skip, ↓ View.readCov_cons_toLoadRect, ↓ View.readCov_fill]
  frame_out
  canon_tiles x hx
  · rw [DQ_pair3]
    refine DQ_piece 3 (fun _ _ => ?_) (fun _ _ => ?_) (fun _ _ => ?_) (fun _ _ => ?_) i hd d x hx1 hx2 <;> (pointwise; first | blk_ext | exact zero4 _ | exact zero5 _)
  · rw [DQ_pair2]
    refine DQ_piece 2 (fun _ _ => ?_) (fun _ _ => ?_) (fun _ _ => ?_) (fun _ _ => ?_) i hd d x hx1 hx2 <;> (pointwise; first | blk_ext | exact zero4 _ | exact zero5 _)
  · rw [DQ_pair1]
    refine DQ_piece 1 (fun _ _ => ?_) (fun _ _ => ?_) (fun _ _ => ?_) (fun _ _ => ?_) i hd d x hx1 hx2 <;> (pointwise; first | blk_ext | exact zero4 _ | exact zero5 _)
  · rw [DQ_pair0]
    refine DQ_piece 0 (fun _ _ => ?_) (fun _ _ => ?_) (fun _ _ => ?_) (fun _ _ => ?_) i hd d x hx1 (hx2.trans (Nat.zero_add _).symm) <;> (pointwise; first | blk_ext | exact zero4 _ | exact zero5 _)

theorem dk_point_A (c : Dev nD) (t : Fin cfg0.N) (h : t.val % 8 = 0) (j : Fin 2048) (hd : Fin 8) (d : Fin 64) :
    (outsAt0 m c t.val t.isLt).2.1 (ix3 0 j (headLane hd d))
      = 0
        + dkOf (qHead (iblk m c 0 t) hd) (kHead (iblk m c 1 t) hd) (kHead (iblk m c 2 t) hd) (gHead (iblk m c 3 t) hd) j d := by
  rw [outsAt0_A m c t h]
  frame_open
  simp (disch := decide) only [↓ View.readCov_skip, ↓ View.readCov_cons_toLoadRect, ↓ View.readCov_fill]
  frame_out
  refine (canon_drop _ _ _ _ _ _ (View.cover_of_tiled_head _ _ _ (by rfl) _)).trans ?_
  canon_tiles x hx
  · rw [DK_pair3]
    refine DK_piece (O := (fun _ => 0)) 3 (fun _ _ => ?_) (fun _ _ => ?_) (fun _ _ => ?_) (fun _ _ => ?_) (fun _ _ => ?_) j hd d x hx1 hx2 <;> (pointwise; first | blk_ext | exact zero4 _ | exact zero5 _)
  · rw [DK_pair2]
    refine DK_piece (O := (fun _ => 0)) 2 (fun _ _ => ?_) (fun _ _ => ?_) (fun _ _ => ?_) (fun _ _ => ?_) (fun _ _ => ?_) j hd d x hx1 hx2 <;> (pointwise; first | blk_ext | exact zero4 _ | exact zero5 _)
  · rw [DK_pair1]
    refine DK_piece (O := (fun _ => 0)) 1 (fun _ _ => ?_) (fun _ _ => ?_) (fun _ _ => ?_) (fun _ _ => ?_) (fun _ _ => ?_) j hd d x hx1 hx2 <;> (pointwise; first | blk_ext | exact zero4 _ | exact zero5 _)
  · rw [DK_pair0]
    refine DK_piece (O := (fun _ => 0)) 0 (fun _ _ => ?_) (fun _ _ => ?_) (fun _ _ => ?_) (fun _ _ => ?_) (fun _ _ => ?_) j hd d x hx1 (hx2.trans (Nat.zero_add _).symm) <;> (pointwise; first | blk_ext | exact zero4 _ | exact zero5 _)

theorem dv_point_A (c : Dev nD) (t : Fin cfg0.N) (h : t.val % 8 = 0) (j : Fin 2048) (hd : Fin 8) (d : Fin 64) :
    (outsAt0 m c t.val t.isLt).2.2 (ix3 0 j (headLane hd d))
      = 0
        + dvOf (qHead (iblk m c 0 t) hd) (kHead (iblk m c 1 t) hd) (gHead (iblk m c 3 t) hd) j d := by
  rw [outsAt0_A m c t h]
  frame_open
  simp (disch := decide) only [↓ View.readCov_skip, ↓ View.readCov_cons_toLoadRect, ↓ View.readCov_fill]
  frame_out
  refine (canon_drop _ _ _ _ _ _ (View.cover_of_tiled_head _ _ _ (by rfl) _)).trans ?_
  canon_tiles x hx
  · rw [DV_pair3]
    refine DV_piece (O := (fun _ => 0)) 3 (fun _ _ => ?_) (fun _ _ => ?_) (fun _ _ => ?_) (fun _ _ => ?_) j hd d x hx1 hx2 <;> (pointwise; first | blk_ext | exact zero4 _ | exact zero5 _)
  · rw [DV_pair2]
    refine DV_piece (O := (fun _ => 0)) 2 (fun _ _ => ?_) (fun _ _ => ?_) (fun _ _ => ?_) (fun _ _ => ?_) j hd d x hx1 hx2 <;> (pointwise; first | blk_ext | exact zero4 _ | exact zero5 _)
  · rw [DV_pair1]
    refine DV_piece (O := (fun _ => 0)) 1 (fun _ _ => ?_) (fun _ _ => ?_) (fun _ _ => ?_) (fun _ _ => ?_) j hd d x hx1 hx2 <;> (pointwise; first | blk_ext | exact zero4 _ | exact zero5 _)
  · rw [DV_pair0]
    refine DV_piece (O := (fun _ => 0)) 0 (fun _ _ => ?_) (fun _ _ => ?_) (fun _ _ => ?_) (fun _ _ => ?_) j hd d x hx1 (hx2.trans (Nat.zero_add _).symm) <;> (pointwise; first | blk_ext | exact zero4 _ | exact zero5 _)

theorem dq_point_B (c : Dev nD) (t : Fin cfg0.N) (h : ¬ t.val % 8 = 0) (i : Fin 256) (hd : Fin 8) (d : Fin 64) :
    (outsAt0 m c t.val t.isLt).1 (ix3 0 i (headLane hd d))
      = dqOf (qHead (iblk m c 0 t) hd i) (kHead (iblk m c 1 t) hd) (kHead (iblk m c 2 t) hd) (gHead (iblk m c 3 t) hd i) d := by
  rw [outsAt0_B m c t h]
  frame_open
  simp (disch := decide) only [↓ View.readCov_skip, ↓ View.readCov_cons_toLoadRect, ↓ View.readCov_fill]
  frame_out
  canon_tiles x hx
  · rw [DQ_pair3]
    refine DQ_piece 3 (fun _ _ => ?_) (fun _ _ => ?_) (fun _ _ => ?_) (fun _ _ => ?_) i hd d x hx1 hx2 <;> (pointwise; first | blk_ext | exact zero4 _ | exact zero5 _)
  · rw [DQ_pair2]
    refine DQ_piece 2 (fun _ _ => ?_) (fun _ _ => ?_) (fun _ _ => ?_) (fun _ _ => ?_) i hd d x hx1 hx2 <;> (pointwise; first | blk_ext | exact zero4 _ | exact zero5 _)
  · rw [DQ_pair1]
    refine DQ_piece 1 (fun _ _ => ?_) (fun _ _ => ?_) (fun _ _ => ?_) (fun _ _ => ?_) i hd d x hx1 hx2 <;> (pointwise; first | blk_ext | exact zero4 _ | exact zero5 _)
  · rw [DQ_pair0]
    refine DQ_piece 0 (fun _ _ => ?_) (fun _ _ => ?_) (fun _ _ => ?_) (fun _ _ => ?_) i hd d x hx1 (hx2.trans (Nat.zero_add _).symm) <;> (pointwise; first | blk_ext | exact zero4 _ | exact zero5 _)

theorem dk_point_B (c : Dev nD) (t : Fin cfg0.N) (h : ¬ t.val % 8 = 0) (j : Fin 2048) (hd : Fin 8) (d : Fin 64) :
    (outsAt0 m c t.val t.isLt).2.1 (ix3 0 j (headLane hd d))
      = (outsAt0 m c (t.val - 1) (by omega)).2.1 (ix3 0 j (headLane hd d))
        + dkOf (qHead (iblk m c 0 t) hd) (kHead (iblk m c 1 t) hd) (kHead (iblk m c 2 t) hd) (gHead (iblk m c 3 t) hd) j d := by
  rw [outsAt0_B m c t h]
  frame_open
  simp (disch := decide) only [↓ View.readCov_skip, ↓ View.readCov_cons_toLoadRect, ↓ View.readCov_fill]
  frame_out
  canon_tiles x hx
  · rw [DK_pair3]
    refine DK_piece (O := ((outsAt0 m c (t.val - 1) (by omega)).2.1)) 3 (fun _ _ => ?_) (fun _ _ => ?_) (fun _ _ => ?_) (fun _ _ => ?_) (fun _ _ => ?_) j hd d x hx1 hx2 <;> (pointwise; first | blk_ext | exact zero4 _ | exact zero5 _)
  · rw [DK_pair2]
    refine DK_piece (O := ((outsAt0 m c (t.val - 1) (by omega)).2.1)) 2 (fun _ _ => ?_) (fun _ _ => ?_) (fun _ _ => ?_) (fun _ _ => ?_) (fun _ _ => ?_) j hd d x hx1 hx2 <;> (pointwise; first | blk_ext | exact zero4 _ | exact zero5 _)
  · rw [DK_pair1]
    refine DK_piece (O := ((outsAt0 m c (t.val - 1) (by omega)).2.1)) 1 (fun _ _ => ?_) (fun _ _ => ?_) (fun _ _ => ?_) (fun _ _ => ?_) (fun _ _ => ?_) j hd d x hx1 hx2 <;> (pointwise; first | blk_ext | exact zero4 _ | exact zero5 _)
  · rw [DK_pair0]
    refine DK_piece (O := ((outsAt0 m c (t.val - 1) (by omega)).2.1)) 0 (fun _ _ => ?_) (fun _ _ => ?_) (fun _ _ => ?_) (fun _ _ => ?_) (fun _ _ => ?_) j hd d x hx1 (hx2.trans (Nat.zero_add _).symm) <;> (pointwise; first | blk_ext | exact zero4 _ | exact zero5 _)

theorem dv_point_B (c : Dev nD) (t : Fin cfg0.N) (h : ¬ t.val % 8 = 0) (j : Fin 2048) (hd : Fin 8) (d : Fin 64) :
    (outsAt0 m c t.val t.isLt).2.2 (ix3 0 j (headLane hd d))
      = (outsAt0 m c (t.val - 1) (by omega)).2.2 (ix3 0 j (headLane hd d))
        + dvOf (qHead (iblk m c 0 t) hd) (kHead (iblk m c 1 t) hd) (gHead (iblk m c 3 t) hd) j d := by
  rw [outsAt0_B m c t h]
  frame_open
  simp (disch := decide) only [↓ View.readCov_skip, ↓ View.readCov_cons_toLoadRect, ↓ View.readCov_fill]
  frame_out
  canon_tiles x hx
  · rw [DV_pair3]
    refine DV_piece (O := ((outsAt0 m c (t.val - 1) (by omega)).2.2)) 3 (fun _ _ => ?_) (fun _ _ => ?_) (fun _ _ => ?_) (fun _ _ => ?_) j hd d x hx1 hx2 <;> (pointwise; first | blk_ext | exact zero4 _ | exact zero5 _)
  · rw [DV_pair2]
    refine DV_piece (O := ((outsAt0 m c (t.val - 1) (by omega)).2.2)) 2 (fun _ _ => ?_) (fun _ _ => ?_) (fun _ _ => ?_) (fun _ _ => ?_) j hd d x hx1 hx2 <;> (pointwise; first | blk_ext | exact zero4 _ | exact zero5 _)
  · rw [DV_pair1]
    refine DV_piece (O := ((outsAt0 m c (t.val - 1) (by omega)).2.2)) 1 (fun _ _ => ?_) (fun _ _ => ?_) (fun _ _ => ?_) (fun _ _ => ?_) j hd d x hx1 hx2 <;> (pointwise; first | blk_ext | exact zero4 _ | exact zero5 _)
  · rw [DV_pair0]
    refine DV_piece (O := ((outsAt0 m c (t.val - 1) (by omega)).2.2)) 0 (fun _ _ => ?_) (fun _ _ => ?_) (fun _ _ => ?_) (fun _ _ => ?_) j hd d x hx1 (hx2.trans (Nat.zero_add _).symm) <;> (pointwise; first | blk_ext | exact zero4 _ | exact zero5 _)

end Cert.KernelIdeal.Val

end
-- ==== Proof.Fold.lean ====
/-
  The three output arrays of the attention backward kernel, each as one function of the four argument arrays: dq block
  by block, dk and dv summed over a sequence's eight points.
-/
module

public import proofs.«01_k».proof.Proof.Point

@[expose] public section

set_option maxRecDepth 16384

noncomputable section

namespace Cert.Attn

/-- The head of a lane. -/
abbrev headOf (l : Fin 512) : Fin 8 := ⟨l.val / 64, by omega⟩
/-- A lane's place in its head. -/
abbrev laneOf (l : Fin 512) : Fin 64 := ⟨l.val % 64, by omega⟩

theorem headLane_eta (l : Fin 512) : headLane (headOf l) (laneOf l) = l := Fin.ext (by show 64 * (l.val / 64) + l.val % 64 = _; omega)

open Idealize.ShloMosaic

/-- Head `h` of batch `b` of an array: a row per position. -/
def rows (A : (⟨3, ![2, 2048, 512]⟩ : Shape).Idx → EReal) (b : Fin 2) (h : Fin 8) : Fin 2048 → Fin 64 → EReal :=
  fun j d => A (ix3 b j (headLane h d))

variable (Q K V G : (⟨3, ![2, 2048, 512]⟩ : Shape).Idx → EReal)

/-- dq of grouped attention. -/
def dqArr : (⟨3, ![2, 2048, 512]⟩ : Shape).Idx → EReal := fun x =>
  dqOf (rows Q (x 0) (headOf (x 2)) (x 1)) (rows K (x 0) (headOf (x 2))) (rows V (x 0) (headOf (x 2)))
    (rows G (x 0) (headOf (x 2)) (x 1)) (laneOf (x 2))
/-- dk of grouped attention. -/
def dkArr : (⟨3, ![2, 2048, 512]⟩ : Shape).Idx → EReal := fun x =>
  dkOf (rows Q (x 0) (headOf (x 2))) (rows K (x 0) (headOf (x 2))) (rows V (x 0) (headOf (x 2)))
    (rows G (x 0) (headOf (x 2))) (x 1) (laneOf (x 2))
/-- dv of grouped attention. -/
def dvArr : (⟨3, ![2, 2048, 512]⟩ : Shape).Idx → EReal := fun x =>
  dvOf (rows Q (x 0) (headOf (x 2))) (rows K (x 0) (headOf (x 2))) (rows G (x 0) (headOf (x 2))) (x 1) (laneOf (x 2))

end Cert.Attn

namespace Cert.KernelIdeal.Val

open Cert.KernelIdeal Cert.KernelIdeal.Gen Cert.Attn Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, t.val % 8, 0]
    ∧ win0_4.index t = ![t.val / 8, t.val % 8, 0] ∧ win0_5.index t = ![t.val / 8, 0, 0]
    ∧ win0_6.index t = ![t.val / 8, 0, 0] :=
  (by decide +kernel : ∀ t : Fin grid0.N, win0_0.index t = ![t.val / 8, t.val % 8, 0] ∧ win0_1.index t = ![t.val / 8, 0, 0]
    ∧ win0_2.index t = ![t.val / 8, 0, 0] ∧ win0_3.index t = ![t.val / 8, t.val % 8, 0]
    ∧ win0_4.index t = ![t.val / 8, t.val % 8, 0] ∧ win0_5.index t = ![t.val / 8, 0, 0]
    ∧ win0_6.index t = ![t.val / 8, 0, 0])

/-- The number of grid points. -/
theorem points (t : Fin cfg0.N) : t.val < 16 := t.isLt

/-- A point's sequence. -/
abbrev seqOf (t : Fin cfg0.N) : Fin 2 := ⟨t.val / 8, by have := points t; omega⟩
/-- A point's query row among its sequence's rows. -/
abbrev rowOf (t : Fin cfg0.N) (i : Fin 256) : Fin 2048 := ⟨256 * (t.val % 8) + i.val, by omega⟩

theorem q_block (c : Dev nD) (t : Fin cfg0.N) (h : Fin 8) :
    qHead (iblk m c 0 t) h = fun i => rows (m (c.tc.loc main_arg0)) (seqOf t) h (rowOf t i) := by
  funext i d
  unfold qHead rows
  blk_ext [iblk, V, idx t]

theorem k_block (c : Dev nD) (t : Fin cfg0.N) (h : Fin 8) :
    kHead (iblk m c 1 t) h = rows (m (c.tc.loc main_arg1)) (seqOf t) h := by
  funext i d
  unfold kHead rows
  blk_ext [iblk, V, idx t]

theorem v_block (c : Dev nD) (t : Fin cfg0.N) (h : Fin 8) :
    kHead (iblk m c 2 t) h = rows (m (c.tc.loc main_arg2)) (seqOf t) h := by
  funext i d
  unfold kHead rows
  blk_ext [iblk, V, idx t]

theorem g_block (c : Dev nD) (t : Fin cfg0.N) (h : Fin 8) :
    gHead (iblk m c 3 t) h = fun i => rows (m (c.tc.loc main_arg3)) (seqOf t) h (rowOf t i) := by
  funext i d
  unfold gHead rows
  blk_ext [iblk, V, idx t]

/-- The points of a sequence's run of eight. -/
abbrev runPoint (t : Fin cfg0.N) (hr : t.val % 8 = 7) (s : Fin 8) : Fin cfg0.N := ⟨8 * (t.val / 8) + s.val, Pipeline.run_point_lt_of_flush t hr s⟩

theorem dq_point (c : Dev nD) (t : Fin cfg0.N) (i : Fin 256) (l : Fin 512) :
    (outsAt0 m c t.val t.isLt).1 (ix3 0 i l)
      = dqArr (m (c.tc.loc main_arg0)) (m (c.tc.loc main_arg1)) (m (c.tc.loc main_arg2)) (m (c.tc.loc main_arg3))
          (ix3 (seqOf t) (rowOf t i) l) := by
  conv_lhs => rw [← headLane_eta l]
  have := (if h : t.val % 8 = 0 then dq_point_A m c t h i (headOf l) (laneOf l) else dq_point_B m c t h i (headOf l) (laneOf l))
  rw [this, q_block, k_block, v_block, g_block]
  rfl

theorem dk_point (c : Dev nD) (t : Fin cfg0.N) (hr : t.val % 8 = 7) (j : Fin 2048) (l : Fin 512) :
    (outsAt0 m c t.val t.isLt).2.1 (ix3 0 j l)
      = dkArr (m (c.tc.loc main_arg0)) (m (c.tc.loc main_arg1)) (m (c.tc.loc main_arg2)) (m (c.tc.loc main_arg3))
          (ix3 (seqOf t) j l) := by
  have hsum := Pipeline.eq_sum_fin_of_reset_step_apply_of_flush
    (fun n hn (x : Fin 2048 × Fin 512) => (outsAt0 m c n hn).2.1 (ix3 0 x.1 x.2)) 8 (fun _ => (0 : EReal))
    (fun t x => dkOf (qHead (iblk m c 0 t) (headOf x.2)) (kHead (iblk m c 1 t) (headOf x.2)) (kHead (iblk m c 2 t) (headOf x.2))
      (gHead (iblk m c 3 t) (headOf x.2)) x.1 (laneOf x.2))
    (fun t h x => by
      have := dk_point_A m c t h x.1 (headOf x.2) (laneOf x.2)
      rw [headLane_eta] at this
      exact this)
    (fun t h x => by
      have := dk_point_B m c t h x.1 (headOf x.2) (laneOf x.2)
      rw [headLane_eta] at this
      exact this) t hr (j, l)
  refine hsum.trans ?_
  rw [zero_add]
  unfold dkArr dkOf
  refine Eq.trans ?_ (Fin.sum_univ_tiles 8 256 rfl _).symm
  refine Finset.sum_congr rfl fun s _ => ?_
  rw [q_block, k_block, v_block, g_block]
  refine Finset.sum_congr rfl fun i _ => ?_
  have e1 : seqOf (runPoint t hr s) = seqOf t := Fin.ext (by show (8 * (t.val / 8) + s.val) / 8 = t.val / 8; omega)
  have e2 : rowOf (runPoint t hr s) i = ⟨s.val * 256 + i.val, by omega⟩ :=
    Fin.ext (by show 256 * ((8 * (t.val / 8) + s.val) % 8) + i.val = s.val * 256 + i.val; omega)
  show scoreGrad (scores (rows _ (seqOf (runPoint t hr s)) _ (rowOf (runPoint t hr s) i)) _) (scores (rows _ _ _ (rowOf (runPoint t hr s) i)) _) _ *
    rows _ _ _ (rowOf (runPoint t hr s) i) _ = _
  rw [e1, e2]
  rfl

theorem dv_point (c : Dev nD) (t : Fin cfg0.N) (hr : t.val % 8 = 7) (j : Fin 2048) (l : Fin 512) :
    (outsAt0 m c t.val t.isLt).2.2 (ix3 0 j l)
      = dvArr (m (c.tc.loc main_arg0)) (m (c.tc.loc main_arg1)) (m (c.tc.loc main_arg3))
          (ix3 (seqOf t) j l) := by
  have hsum := Pipeline.eq_sum_fin_of_reset_step_apply_of_flush
    (fun n hn (x : Fin 2048 × Fin 512) => (outsAt0 m c n hn).2.2 (ix3 0 x.1 x.2)) 8 (fun _ => (0 : EReal))
    (fun t x => dvOf (qHead (iblk m c 0 t) (headOf x.2)) (kHead (iblk m c 1 t) (headOf x.2))
      (gHead (iblk m c 3 t) (headOf x.2)) x.1 (laneOf x.2))
    (fun t h x => by
      have := dv_point_A m c t h x.1 (headOf x.2) (laneOf x.2)
      rw [headLane_eta] at this
      exact this)
    (fun t h x => by
      have := dv_point_B m c t h x.1 (headOf x.2) (laneOf x.2)
      rw [headLane_eta] at this
      exact this) t hr (j, l)
  refine hsum.trans ?_
  rw [zero_add]
  unfold dvArr dvOf
  refine Eq.trans ?_ (Fin.sum_univ_tiles 8 256 rfl _).symm
  refine Finset.sum_congr rfl fun s _ => ?_
  rw [q_block, k_block, g_block]
  refine Finset.sum_congr rfl fun i _ => ?_
  have e1 : seqOf (runPoint t hr s) = seqOf t := Fin.ext (by show (8 * (t.val / 8) + s.val) / 8 = t.val / 8; omega)
  have e2 : rowOf (runPoint t hr s) i = ⟨s.val * 256 + i.val, by omega⟩ :=
    Fin.ext (by show 256 * ((8 * (t.val / 8) + s.val) % 8) + i.val = s.val * 256 + i.val; omega)
  show weight (scores (rows _ (seqOf (runPoint t hr s)) _ (rowOf (runPoint t hr s) i)) _) _ *
    rows _ _ _ (rowOf (runPoint t hr s) i) _ = _
  rw [e1, e2]
  rfl

theorem dq_array (c : Dev nD) : (dats m 0 c).arrAt 4 cfg0.N
    = dqArr (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  have hy : y = ix3 0 (y 1) (y 2) := ix3_of y (y 1) (y 2) rfl rfl
  have he : (win0_4.blk t).view.emb y = ix3 (seqOf t) (rowOf t (y 1)) (y 2) := by
    have h0 : (y 0 : Nat) < 1 := (y 0).isLt
    funext a
    match a with
    | 0 => exact Fin.ext (by blk_simp [idx t])
    | 1 => exact Fin.ext (by blk_simp [idx t]; show _ = 256 * (t.val % 8) + (y 1).val; omega)
    | 2 => exact Fin.ext (by blk_simp [idx t])
  rw [he, hy]
  exact dq_point m c t (y 1) (y 2)

theorem dk_array (c : Dev nD) : (dats m 0 c).arrAt 5 cfg0.N
    = dkArr (m (c.tc.loc main_arg0)) (m (c.tc.loc main_arg1)) (m (c.tc.loc main_arg2)) (m (c.tc.loc main_arg3)) := by
  refine (dats m 0 c).arrAt_eq_of_covers 5 _ (by decide +kernel) fun t hf y => ?_
  have hr := (flush0_5 t).mp hf
  blk_simp
  rw [after0_5]
  have hy : y = ix3 0 (y 1) (y 2) := ix3_of y (y 1) (y 2) rfl rfl
  have he : (win0_5.blk t).view.emb y = ix3 (seqOf t) (y 1) (y 2) := by
    have h0 : (y 0 : Nat) < 1 := (y 0).isLt
    funext a
    match a with
    | 0 => exact Fin.ext (by blk_simp [idx t])
    | 1 => exact Fin.ext (by blk_simp [idx t])
    | 2 => exact Fin.ext (by blk_simp [idx t])
  rw [he, hy]
  exact dk_point m c t hr (y 1) (y 2)

theorem dv_array (c : Dev nD) : (dats m 0 c).arrAt 6 cfg0.N
    = dvArr (m (c.tc.loc main_arg0)) (m (c.tc.loc main_arg1)) (m (c.tc.loc main_arg3)) := by
  refine (dats m 0 c).arrAt_eq_of_covers 6 _ (by decide +kernel) fun t hf y => ?_
  have hr := (flush0_6 t).mp hf
  blk_simp
  rw [after0_6]
  have hy : y = ix3 0 (y 1) (y 2) := ix3_of y (y 1) (y 2) rfl rfl
  have he : (win0_6.blk t).view.emb y = ix3 (seqOf t) (y 1) (y 2) := by
    have h0 : (y 0 : Nat) < 1 := (y 0).isLt
    funext a
    match a with
    | 0 => exact Fin.ext (by blk_simp [idx t])
    | 1 => exact Fin.ext (by blk_simp [idx t])
    | 2 => exact Fin.ext (by blk_simp [idx t])
  rw [he, hy]
  exact dv_point m c t hr (y 1) (y 2)

end Cert.KernelIdeal.Val

end
-- ==== Proof.Ref.lean ====
/-
  The reference program's three results as functions of its arguments: its softmax and its gradients, read at an index,
  are the row functions of `Row` on each head's rows.
-/
module

public import proofs.«01_k».proof.Proof.Gen.ReferenceIdeal.Run
public import proofs.«01_k».proof.Proof.Fold
public import Idealize.ShloMosaic.Lib.Pointwise

@[expose] public section

set_option maxRecDepth 16384

noncomputable section

namespace Cert.ReferenceIdeal.Val

open Cert.ReferenceIdeal Cert.ReferenceIdeal.Gen Cert.Attn Idealize.ShloMosaic Idealize.ShloMosaic.TcCoe Idealize.SL.Sem Idealize.ShloMosaic.StableHlo
open Cert.KernelIdeal.Val (scores)

variable (q k v : FVec Ideal S2x2048x512 .bf16) (g : FVec Ideal S2x2048x512 .f32)

/-- An argument split into heads. -/
def heads (x : FVec Ideal S2x2048x512 .bf16) : FVec Ideal S2x2048x8x64 .f32 :=
  shapeCast _ (extf .f32 x bitsLt_bf16_f32) shapeCasts_S2x2048x512_S2x2048x8x64
/-- The scores. -/
def sc : FVec Ideal S2x8x2048x2048 .f32 :=
  Host.dotGeneral dot_S2x2048x8x64_S2x2048x8x64_S2x8x2048x2048_3_3_1_1_02_02 none (heads q) (heads k)
/-- The rows' greatest scores. -/
def top : FVec Ideal S2x8x2048 .f32 :=
  maximumf (broadcastInDim S2x8x2048 ![] bcast_S_S2x8x2048 (constant S_ .f32 0xFF800000#32)) (Host.reduce FloatOps.maximumf (sc q k) (constant S_ .f32 0xFF800000#32) reducesTo_S2x8x2048x2048_S2x8x2048_d3 h_S_)
/-- The exponentials. -/
def ex : FVec Ideal S2x8x2048x2048 .f32 :=
  Host.exp (subf (sc q k) (broadcastInDim S2x8x2048x2048 ![0, 1, 2, 3] bcast_S2x8x2048x1_S2x8x2048x2048_0_1_2_3 (broadcastInDim S2x8x2048x1 ![0, 1, 2] bcast_S2x8x2048_S2x8x2048x1_0_1_2 (top q k))))
/-- Their row sums. -/
def tot : FVec Ideal S2x8x2048x1 .f32 :=
  broadcastInDim S2x8x2048x1 ![0, 1, 2] bcast_S2x8x2048_S2x8x2048x1_0_1_2 (Host.reduceAdd (ex q k) (constant S_ .f32 0x00000000#32) reducesTo_S2x8x2048x2048_S2x8x2048_d3 h_S_)
/-- The weights. -/
def wt : FVec Ideal S2x8x2048x2048 .f32 :=
  Host.divf (ex q k) (broadcastInDim S2x8x2048x2048 ![0, 1, 2, 3] bcast_S2x8x2048x1_S2x8x2048x2048_0_1_2_3 (tot q k))
/-- The output gradient split into heads, positions last. -/
def gT : FVec Ideal S2x8x64x2048 .f32 :=
  transpose S2x8x64x2048 [0, 2, 3, 1] (shapeCast _ g shapeCasts_S2x2048x512_S2x2048x8x64) transposes_S2x2048x8x64_S2x8x64x2048_0_2_3_1
/-- The gradient of the weights. -/
def dp : FVec Ideal S2x8x2048x2048 .f32 :=
  Host.dotGeneral dot_S2x8x64x2048_S2x2048x8x64_S2x8x2048x2048_2_3_3_1_01_02 none (gT g) (heads v)
/-- The quotient's part through the row sum. -/
def part : FVec Ideal S2x8x2048 .f32 :=
  Host.reduceAdd (Host.negf (shapeCast _ (Host.reduceAdd (mulf (mulf (dp v g) (broadcastInDim S2x8x2048x2048 ![0, 1, 2, 3] bcast_S2x8x2048x1_S2x8x2048x2048_0_1_2_3 (Host.divf (broadcastInDim S2x8x2048x1 ![] bcast_S_S2x8x2048x1 (constant S_ .f32 0x3F800000#32)) (mulf (tot q k) (tot q k))))) (ex q k)) (constant S_ .f32 0x00000000#32) reducesTo_S2x8x2048x2048_S2x8x2048_d3 h_S_) shapeCasts_S2x8x2048_S2x8x2048x1)) (constant S_ .f32 0x00000000#32) reducesTo_S2x8x2048x1_S2x8x2048_d3 h_S_
/-- The gradient of the scores. -/
def ds : FVec Ideal S2x8x2048x2048 .f32 :=
  mulf (addf (Host.divf (dp v g) (broadcastInDim S2x8x2048x2048 ![0, 1, 2, 3] bcast_S2x8x2048x1_S2x8x2048x2048_0_1_2_3 (tot q k))) (broadcastInDim S2x8x2048x2048 ![0, 1, 2] bcast_S2x8x2048_S2x8x2048x2048_0_1_2 (part q k v g))) (ex q k)
/-- The reference's dq. -/
def refDq : FVec Ideal S2x2048x512 .f32 :=
  shapeCast _ (transpose S2x2048x8x64 [0, 2, 1, 3] (Host.dotGeneral dot_S2x8x2048x2048_S2x2048x8x64_S2x8x2048x64_3_1_2_3_01_02 none (ds q k v g) (heads k)) transposes_S2x8x2048x64_S2x2048x8x64_0_2_1_3) shapeCasts_S2x2048x8x64_S2x2048x512
/-- The reference's dk. -/
def refDk : FVec Ideal S2x2048x512 .f32 :=
  shapeCast _ (transpose S2x2048x8x64 [0, 2, 1, 3] (Host.dotGeneral dot_S2x8x2048x2048_S2x2048x8x64_S2x8x2048x64_2_1_3_3_01_02 none (ds q k v g) (heads q)) transposes_S2x8x2048x64_S2x2048x8x64_0_2_1_3) shapeCasts_S2x2048x8x64_S2x2048x512
/-- The reference's dv. -/
def refDv : FVec Ideal S2x2048x512 .f32 :=
  shapeCast _ (transpose S2x2048x8x64 [0, 3, 1, 2] (Host.dotGeneral dot_S2x8x64x2048_S2x8x2048x2048_S2x8x64x2048_3_2_2_3_01_01 none (gT g) (wt q k)) transposes_S2x8x64x2048_S2x2048x8x64_0_3_1_2) shapeCasts_S2x2048x8x64_S2x2048x512

theorem heads_at (x : FVec Ideal S2x2048x512 .bf16) (b : Fin 2) (i : Fin 2048) (h : Fin 8) (d : Fin 64) :
    heads x (ix4 b i h d) = rows x b h i d := by
  unfold rows headLane
  pointwise [heads]
  exact congrArg (fun l => x (ix3 b i l)) (Fin.ext (Nat.add_right_cancel_iff.mpr (Nat.mul_comm _ _)))

theorem gT_at (b : Fin 2) (i : Fin 2048) (h : Fin 8) (d : Fin 64) : gT g (ix4 b h d i) = rows g b h i d := by
  unfold rows headLane
  pointwise [gT]
  exact congrArg (fun l => g (ix3 b i l)) (Fin.ext (Nat.add_right_cancel_iff.mpr (Nat.mul_comm _ _)))

theorem sc_at (b : Fin 2) (h : Fin 8) (i j : Fin 2048) :
    sc q k (ix4 b h i j) = scores (rows q b h i) (rows k b h) j := by
  pointwise [sc]
  simp only [heads_at]
  rfl

end Cert.ReferenceIdeal.Val

end
-- ==== Proof.RefGrad.lean ====
/-
  The reference program's three results as functions of its arguments: its softmax and its gradients, read at an index,
  are the row functions of `Row` on each head's rows.
-/
module

public import proofs.«01_k».proof.Proof.Ref
public import Idealize.ShloMosaic.Lib.Pointwise

@[expose] public section

set_option maxRecDepth 16384

noncomputable section

namespace Cert.ReferenceIdeal.Val

open Cert.ReferenceIdeal Cert.ReferenceIdeal.Gen Cert.Attn Idealize.ShloMosaic Idealize.ShloMosaic.TcCoe Idealize.SL.Sem Idealize.ShloMosaic.StableHlo
open Cert.KernelIdeal.Val (scores)

variable (q k v : FVec Ideal S2x2048x512 .bf16) (g : FVec Ideal S2x2048x512 .f32)

theorem reduce_at (x : FVec Ideal S2x8x2048x2048 .f32) (e : FVec Ideal S_ .f32) (i : S2x8x2048.Idx) :
    Host.reduce FloatOps.maximumf x e reducesTo_S2x8x2048x2048_S2x8x2048_d3 h_S_ i
      = (Finset.univ : Finset (Fin 2048)).fold FloatOps.maximumf (e (Shape.Idx.first h_S_)) (fun j => x (ix4 (i 0) (i 1) (i 2) j)) := by
  rw [Host.reduce_eq_fold]
  exact Shape.ReducesTo.fold_fiber_r4_a3 _ i _ _ x

/-- The value a row's maximum starts from, as the reference's constant. -/
theorem const_at (i : S_.Idx) : (constant S_ .f32 0xFF800000#32 : FVec Ideal S_ .f32) i = lowest := rfl

/-- The row maximum of an array, at a row. -/
theorem max_at (x : FVec Ideal S2x8x2048x2048 .f32) (e : FVec Ideal S_ .f32) (he : ∀ i, e i = lowest) (i : S2x8x2048.Idx) :
    maximumf (broadcastInDim S2x8x2048 ![] bcast_S_S2x8x2048 e) (Host.reduce FloatOps.maximumf x e reducesTo_S2x8x2048x2048_S2x8x2048_d3 h_S_) i
      = rowMax (fun j : Fin 2048 => x (ix4 (i 0) (i 1) (i 2) j)) := by
  have h1 : maximumf (broadcastInDim S2x8x2048 ![] bcast_S_S2x8x2048 e) (Host.reduce FloatOps.maximumf x e reducesTo_S2x8x2048x2048_S2x8x2048_d3 h_S_) i
      = max (broadcastInDim S2x8x2048 ![] bcast_S_S2x8x2048 e i) (Host.reduce FloatOps.maximumf x e reducesTo_S2x8x2048x2048_S2x8x2048_d3 h_S_ i) := rfl
  have h2 : broadcastInDim S2x8x2048 ![] bcast_S_S2x8x2048 e i = lowest := he _
  rw [h1, h2, reduce_at, he]
  exact max_rowMax _

theorem top_at (b : Fin 2) (h : Fin 8) (i : Fin 2048) :
    top q k (ix3 b h i) = rowMax (scores (rows q b h i) (rows k b h)) := by
  have h1 : top q k (ix3 b h i) = rowMax (fun j : Fin 2048 => sc q k (ix4 b h i j)) := max_at (sc q k) _ const_at (ix3 b h i)
  rw [h1]
  exact congrArg rowMax (funext fun j => sc_at q k b h i j)

theorem ex_at (b : Fin 2) (h : Fin 8) (i j : Fin 2048) :
    ex q k (ix4 b h i j) = expo (scores (rows q b h i) (rows k b h)) j := by
  pointwise [ex]
  simp only [sc_at, top_at]
  rfl

theorem tot_at (b : Fin 2) (h : Fin 8) (i : Fin 2048) :
    tot q k (ix4 b h i 0) = total (scores (rows q b h i) (rows k b h)) := by
  pointwise [tot]
  simp only [ex_at]
  rfl

theorem wt_at (b : Fin 2) (h : Fin 8) (i j : Fin 2048) :
    wt q k (ix4 b h i j) = weight (scores (rows q b h i) (rows k b h)) j := by
  pointwise [wt]
  simp only [ex_at, tot_at]
  rfl

theorem dp_at (b : Fin 2) (h : Fin 8) (i j : Fin 2048) :
    dp v g (ix4 b h i j) = scores (rows g b h i) (rows v b h) j := by
  pointwise [dp]
  simp only [heads_at, gT_at]
  rfl

theorem part_at (b : Fin 2) (h : Fin 8) (i : Fin 2048) :
    part q k v g (ix3 b h i) = -∑ l, scores (rows g b h i) (rows v b h) l
      * Ideal.div 1 (total (scores (rows q b h i) (rows k b h)) * total (scores (rows q b h i) (rows k b h)))
      * expo (scores (rows q b h i) (rows k b h)) l := by
  pointwise [part]
  simp only [dp_at, tot_at, ex_at]
  exact Fin.sum_univ_one _

theorem ds_at (b : Fin 2) (h : Fin 8) (i j : Fin 2048) :
    ds q k v g (ix4 b h i j) = quotientGrad (scores (rows q b h i) (rows k b h)) (scores (rows g b h i) (rows v b h)) j := by
  pointwise [ds]
  simp only [dp_at, tot_at, ex_at, part_at]
  rfl

theorem refDv_at (x : S2x2048x512.Idx) : refDv q k g x = dvArr q k g x := by
  idx_vars x
  pointwise [refDv]
  simp only [gT_at, wt_at]
  unfold dvArr dvOf headOf laneOf
  exact Finset.sum_congr rfl fun i _ => mul_comm _ _

/-- Where the scores are reals, `ds` is the softmax's gradient. -/
theorem ds_real (b : Fin 2) (h : Fin 8) (i j : Fin 2048) (f : Fin 2048 → ℝ)
    (hs : ∀ j, scores (rows q b h i) (rows k b h) j = f j) :
    ds q k v g (ix4 b h i j) = scoreGrad (scores (rows q b h i) (rows k b h)) (scores (rows g b h i) (rows v b h)) j :=
  (ds_at q k v g b h i j).trans (quotientGrad_eq _ _ f hs j)

variable (hq : ∀ x, ∃ r : ℝ, (q x : EReal) = r) (hk : ∀ x, ∃ r : ℝ, (k x : EReal) = r)

include hq hk in
theorem scores_real (b : Fin 2) (h : Fin 8) (i : Fin 2048) :
    ∃ f : Fin 2048 → ℝ, ∀ j, scores (rows q b h i) (rows k b h) j = f j := by
  choose u hu using hq
  choose w hw using hk
  refine ⟨fun j => ∑ d, u (ix3 b i (headLane h d)) * w (ix3 b j (headLane h d)), fun j => ?_⟩
  unfold scores rows
  rw [← coe_sum]
  exact Finset.sum_congr rfl fun d _ => by rw [hu, hw, EReal.coe_mul]

include hq hk in
theorem refDq_at (x : S2x2048x512.Idx) : refDq q k v g x = dqArr q k v g x := by
  idx_vars x
  pointwise [refDq]
  unfold dqArr dqOf headOf laneOf
  refine Finset.sum_congr rfl fun j _ => ?_
  obtain ⟨f, hf⟩ := scores_real q k hq hk x0 ⟨↑x2 / 64, by omega⟩ x1
  rw [heads_at, ds_real q k v g _ _ _ _ f hf]
  rfl

include hq hk in
theorem refDk_at (x : S2x2048x512.Idx) : refDk q k v g x = dkArr q k v g x := by
  idx_vars x
  pointwise [refDk]
  unfold dkArr dkOf headOf laneOf
  refine Finset.sum_congr rfl fun i _ => ?_
  obtain ⟨f, hf⟩ := scores_real q k hq hk x0 ⟨↑x2 / 64, by omega⟩ i
  rw [heads_at, ds_real q k v g _ _ _ _ f hf]
  rfl

end Cert.ReferenceIdeal.Val

end
-- ==== Proof.RefValue.lean ====
/-
  The reference's three result terms are the three gradient arrays of grouped attention, where q and k are real.
-/
module

public import proofs.«01_k».proof.Proof.RefGrad

@[expose] public section

set_option maxRecDepth 16384

noncomputable section

namespace Cert.ReferenceIdeal.Val

open Cert.ReferenceIdeal Cert.ReferenceIdeal.Gen Cert.Attn Idealize.ShloMosaic Idealize.ShloMosaic.TcCoe Idealize.SL.Sem Idealize.ShloMosaic.StableHlo

variable (m : (ℓ : Loc nD τ sig) → Buf (Elt Ideal) ℓ) (c : Dev nD)
variable (q k v : FVec Ideal S2x2048x512 .bf16) (g : FVec Ideal S2x2048x512 .f32)

theorem out_dq (h0 : m ((c.tc : Thread nD τ).loc main_arg0) = q) (h1 : m ((c.tc : Thread nD τ).loc main_arg1) = k) (h2 : m ((c.tc : Thread nD τ).loc main_arg2) = v) (h3 : m ((c.tc : Thread nD τ).loc main_arg3) = g)
    (hq : ∀ i, ∃ r : ℝ, (q i : EReal) = r) (hk : ∀ i, ∃ r : ℝ, (k i : EReal) = r) :
    Value.res_out0 m c = dqArr q k v g := by
  have h : Value.res_out0 m c = refDq (m ((c.tc : Thread nD τ).loc main_arg0)) (m ((c.tc : Thread nD τ).loc main_arg1)) (m ((c.tc : Thread nD τ).loc main_arg2)) (m ((c.tc : Thread nD τ).loc main_arg3)) := rfl
  rw [h, h0, h1, h2, h3]
  exact funext fun x => refDq_at _ _ _ _ hq hk x

theorem out_dk (h0 : m ((c.tc : Thread nD τ).loc main_arg0) = q) (h1 : m ((c.tc : Thread nD τ).loc main_arg1) = k) (h2 : m ((c.tc : Thread nD τ).loc main_arg2) = v) (h3 : m ((c.tc : Thread nD τ).loc main_arg3) = g)
    (hq : ∀ i, ∃ r : ℝ, (q i : EReal) = r) (hk : ∀ i, ∃ r : ℝ, (k i : EReal) = r) :
    Value.res_out1 m c = dkArr q k v g := by
  have h : Value.res_out1 m c = refDk (m ((c.tc : Thread nD τ).loc main_arg0)) (m ((c.tc : Thread nD τ).loc main_arg1)) (m ((c.tc : Thread nD τ).loc main_arg2)) (m ((c.tc : Thread nD τ).loc main_arg3)) := rfl
  rw [h, h0, h1, h2, h3]
  exact funext fun x => refDk_at _ _ _ _ hq hk x

theorem out_dv : refDv q k g = dvArr q k g := funext fun x => refDv_at q k g x

end Cert.ReferenceIdeal.Val

end
-- ==== Proof.Finite.lean ====
/-
  The precondition read back: where `q_and_k_finite` says 1, every element of the first two arguments is a real.
-/
module

public import proofs.«01_k».proof.Pre_q_and_k_finite
public import Idealize.ShloMosaic.Lib.ReduceAll
public import Idealize.ShloMosaic.Lib.Pointwise

@[expose] public section

set_option maxRecDepth 16384

noncomputable section

namespace Cert.Pre_q_and_k_finite

open Idealize.ShloMosaic

/-- The shape facts the precondition states. -/
instance facts : Facts where
  bitsLt_bf16_f32 := by decide
  bcast_S_S2x2048x512 := by decide
  reducesTo_S2x2048x512_S_d0_1_2 := by decide
  h_S_ := by decide

/-- An extended real whose absolute value compares below `+∞` is a real. -/
theorem real_of_olt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

variable (q k v : FVec Ideal S2x2048x512 .bf16) (g : FVec Ideal S2x2048x512 .f32)

theorem all_real (x : FVec Ideal S2x2048x512 .bf16) (j : S_.Idx)
    (h : Host.reduce IntOp.andi (cmpf .olt (Host.absf (extf .f32 x Facts.bitsLt_bf16_f32)) (broadcastInDim S2x2048x512 ![] Facts.bcast_S_S2x2048x512 (constant S_ .f32 0x7F800000#32)))
      (constantI S_ 1 1#1) Facts.reducesTo_S2x2048x512_S_d0_1_2 Facts.h_S_ j = 1#1) (i : S2x2048x512.Idx) :
    ∃ r : ℝ, (x i : EReal) = r := by
  haveI : Subsingleton S_.Idx := ⟨fun a b => funext fun d => d.elim0⟩
  exact real_of_olt _ (Host.reduce_andi_all _ _ _ _ j h i)

theorem and_one : ∀ a b : BitVec 1, IntOp.andi a b = 1#1 → a = 1#1 ∧ b = 1#1 := by decide

theorem real (h : fn q k v g = fun _ => 1#1) :
    (∀ i, ∃ r : ℝ, (q i : EReal) = r) ∧ (∀ i, ∃ r : ℝ, (k i : EReal) = r) := by
  have h0 := congrFun h (Shape.Idx.first Facts.h_S_)
  have h1 := and_one _ _ h0
  exact ⟨all_real q _ h1.1, all_real k _ h1.2⟩

end Cert.Pre_q_and_k_finite

end
-- ==== Proof.FfnRun.lean ====
/-
  The run of the feed-forward program to its last boundary: every buffer outside the kernels' own scopes ends at the
  contents named there.
-/
module

public import proofs.«01_k».proof.Proof.Gen.Kernel2Ideal.Frame
public import Idealize.ShloMosaic.Lib.Pointwise

@[expose] public section

set_option maxRecDepth 16384

noncomputable section

namespace Cert.Kernel2Ideal.Val

open Cert.Kernel2Ideal Cert.Kernel2Ideal.Gen Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode Idealize.ShloMosaic.Rounds

variable (m : (ℓ : Loc nD τ sig) → Buf (Elt Ideal) ℓ) (ρ : Dev nD → PrngReg)

/-- The resources the run is stated over. -/
abbrev Res := MT nD τ sig Unit (Elt Ideal) ℕ (UR sig nD τ) ℕ
/-- The tokens the launch starts from. -/
abbrev tokens : UR sig nD τ := initOf (Pipeline.cells cfgs cellOf_inj) (Pipeline.launchToks cfgs cellOf_inj)

set_option backward.isDefEq.respectTransparency.types false in
theorem final : θ_run defs (onTc (τ := τ) (main (F := Ideal))) ⟨m, fun _ => 0, ρ⟩ fun r =>
    ∀ c : Dev nD, ∀ b ∈ Pipeline.ucRefs τ sig, r.2.mem (((c : Thread nD τ)).1, b) = W7 m ρ c b := by
  refine Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := tokens) (hu₀ := ?tok)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := Pipeline.initEach L lv fun c => ?start)
    (QY := fun c s => ∀ b ∈ Pipeline.ucRefs τ sig, s.mem (((c : Thread nD τ)).1, b) = W7 m ρ c b)
    (hfin := fun c s => ?stop) (hQ := fun s h _ => h)
  case tok =>
    iintro H
    imodintro
    isplitl [H]
    · iapply (show (ownU tokens : sProp Res) ⊢ BI.own (emb₁ tokens) from .rfl)
      iexact H
    · iapply (show (BI.emp : sProp Res) ⊢ bigSep Finset.univ (fun _ : Dev nD => (BI.emp : sProp Res)) from by rw [BI.bigSep_emp_const])
      iempintro
  case start =>
    have h0 : (unscopedBufs c (fun b => m ((c : Thread nD τ).loc b)) : sProp Res) = StableHlo.held (c : Thread nD τ) (Pipeline.ucRefs τ sig) (W0 m ρ c) :=
      Pipeline.unscopedBufs_held c (W0 m ρ c)
    rw [h0]
    iintro ⟨⟨Hb, -, Ho, -, Hg, -⟩, -⟩
    imodintro
    isplitl [Hb]
    · iexact Hb
    isplitl [Hg]
    · iexists _
      iexact Hg
    · iexists ∅
      iexact Ho
  case stop =>
    iintro ⟨⟨Hb, -⟩, Hs⟩
    unfold StableHlo.held
    imodintro
    iapply (pointsTo_read_all (Pipeline.ucRefs τ sig) (fun b => (((c : Thread nD τ)).1, b)) (W7 m ρ c) s)
    isplitl [Hb] <;> iassumption

end Cert.Kernel2Ideal.Val

end
-- ==== Proof.FfnSpec.lean ====
/-
  The mathematics of the feed-forward part: products of matrices, the gate, and the gate's derivative.
-/
module

public import Idealize.ShloMosaic.Lib.Pointwise

@[expose] public section

noncomputable section

namespace Cert.Ffn

open Idealize.ShloMosaic

/-- An index of a matrix from its two coordinates. -/
theorem ix2_of {n k : Nat} (y : (⟨2, ![n, k]⟩ : Shape).Idx) : y = ix2 (y 0) (y 1) := by
  funext a
  match a with
  | 0 => rfl
  | 1 => rfl

/-- An index of a stack of one matrix from its two other coordinates. -/
theorem ix3_one {n k : Nat} (y : (⟨3, ![1, n, k]⟩ : Shape).Idx) : y = ix3 0 (y 1) (y 2) := by
  have h0 : (y 0 : Nat) < 1 := (y 0).isLt
  funext a
  match a with
  | 0 => exact Fin.ext (by show (y 0 : Nat) = 0; omega)
  | 1 => rfl
  | 2 => rfl

/-- A matrix of extended reals. -/
abbrev Mat (n m : Nat) := (⟨2, ![n, m]⟩ : Shape).Idx → EReal

/-- Row `i` of `A` against column `j` of `B`. -/
def nn {n k m : Nat} (A : Mat n k) (B : Mat k m) (i : Fin n) (j : Fin m) : EReal := ∑ l, A (ix2 i l) * B (ix2 l j)
/-- Column `i` of `A` against column `j` of `B`. -/
def tn {n k m : Nat} (A : Mat k n) (B : Mat k m) (i : Fin n) (j : Fin m) : EReal := ∑ l, A (ix2 l i) * B (ix2 l j)
/-- Row `i` of `A` against row `j` of `B`. -/
def nt {n k m : Nat} (A : Mat n k) (B : Mat m k) (i : Fin n) (j : Fin m) : EReal := ∑ l, A (ix2 i l) * B (ix2 j l)

/-- The logistic function. -/
def sigma (x : EReal) : EReal := Ideal.div 1 (1 + Ideal.exp (-x))

variable (X H : Mat 4096 2048) (G U : Mat 2048 5632) (D : Mat 5632 2048) (Y : Mat 4096 2048)

/-- The gate's activation, `silu (h·w_gate)`. -/
def silu : Mat 4096 5632 := fun x => nn H G (x 0) (x 1) * sigma (nn H G (x 0) (x 1))
/-- The hidden activations. -/
def act : Mat 4096 5632 := fun x => silu H G x * nn H U (x 0) (x 1)
/-- What the gradient of the hidden activations is multiplied with on the gate's side. -/
def slope : Mat 4096 5632 := fun x =>
  nn H U (x 0) (x 1) * (sigma (nn H G (x 0) (x 1)) + silu H G x * (1 - sigma (nn H G (x 0) (x 1))))
/-- The gradient of `h·w_up`. -/
def dUp : Mat 4096 5632 := fun x => nt Y D (x 0) (x 1) * silu H G x
/-- The gradient of `h·w_gate`. -/
def dGate : Mat 4096 5632 := fun x => nt Y D (x 0) (x 1) * slope H G U x

/-- The output. -/
def out : Mat 4096 2048 := fun x => nn (act H G U) D (x 0) (x 1) + X x
/-- The gradient of `h`. -/
def dH : Mat 4096 2048 := fun x => nt (dGate H G U D Y) G (x 0) (x 1) + nt (dUp H G D Y) U (x 0) (x 1)
/-- The gradient of `w_down`. -/
def dDown : Mat 5632 2048 := fun x => tn (act H G U) Y (x 0) (x 1)
/-- Column `j` of slab `s` of four. -/
abbrev slabCol (s : Fin 4) (j : Fin 1408) : Fin 5632 := ⟨1408 * s.val + j.val, by omega⟩
/-- The gradient of a weight from `h` and the gradient `E` of its product, cut into four slabs of columns. -/
def slabs (E : Mat 4096 5632) : (⟨3, ![4, 2048, 1408]⟩ : Shape).Idx → EReal := fun x => tn H E (x 1) (slabCol (x 0) (x 2))

end Cert.Ffn

end
-- ==== Proof.FfnUp.lean ====
/-
  The first kernel of the feed-forward part: the hidden activations, the gate's activation and the gate's slope, from
  the three arrays it is entered with.
-/
module

public import proofs.«01_k».proof.Proof.Gen.Kernel2Ideal.Frame
public import proofs.«01_k».proof.Proof.FfnSpec
public import Idealize.ShloMosaic.Lib.Pipeline.ValueKit
public import Idealize.ShloMosaic.Lib.Pipeline.ReadBack
public import Idealize.ShloMosaic.Lib.IdealHost

@[expose] public section

set_option maxRecDepth 16384

noncomputable section

namespace Cert.Kernel2Ideal.Val

open Cert.Kernel2Ideal Cert.Kernel2Ideal.Gen Cert.Ffn Idealize.ShloMosaic Idealize.ShloMosaic.TcCoe Idealize.SL.Sem
open Idealize.ShloMosaic.Pipeline (Dat)

theorem one_word : Ideal.ofBits .f32 0x3F800000#32 = 1 := Ideal.ofBits_one_f32

section payloads

variable (x0 : Vec Ideal S1024x2048 .bf16) (x1 x2 : Vec Ideal S2048x512 .bf16) (i : Fin 1024) (j : Fin 512)

theorem gate_at : k0_pay1 x0 x1 (ix2 i j) = nn x0 x1 i j := by
  unfold nn
  pointwise [k0_pay1]

theorem up_at : k0_pay2 x0 x2 (ix2 i j) = nn x0 x2 i j := by
  unfold nn
  pointwise [k0_pay2]

theorem sigma_at : k0_pay3 x0 x1 (ix2 i j) = sigma (nn x0 x1 i j) := by
  rw [← gate_at]
  unfold sigma
  pointwise [k0_pay3, Ideal.logistic]

theorem silu_at : k0_pay4 x0 x1 (ix2 i j) = nn x0 x1 i j * sigma (nn x0 x1 i j) := by
  rw [← sigma_at, ← gate_at]
  rfl

theorem act_at : k0_pay5 x0 x1 x2 (ix2 i j) = nn x0 x1 i j * sigma (nn x0 x1 i j) * nn x0 x2 i j := by
  rw [← silu_at, ← up_at]
  rfl

theorem silu_out_at : k0_pay6 x0 x1 (ix2 i j) = nn x0 x1 i j * sigma (nn x0 x1 i j) := by
  rw [← silu_at]
  rfl

theorem slope_at : k0_pay7 x0 x1 x2 (ix2 i j)
    = nn x0 x2 i j * (sigma (nn x0 x1 i j) + nn x0 x1 i j * sigma (nn x0 x1 i j) * (1 - sigma (nn x0 x1 i j))) := by
  rw [← silu_at, ← up_at, ← sigma_at, ← one_word]
  rfl

end payloads

variable (V : (c : Dev nD) → (b : Ref sig .tc) → Buf (Elt Ideal) ((c : Thread nD τ).loc b))

theorem idx0 : ∀ t : Fin cfg0.N, win0_0.index t = ![t.val / 11, 0] ∧ win0_1.index t = ![0, t.val % 11]
    ∧ win0_2.index t = ![0, t.val % 11] ∧ win0_3.index t = ![t.val / 11, t.val % 11]
    ∧ win0_4.index t = ![t.val / 11, t.val % 11] ∧ win0_5.index t = ![t.val / 11, t.val % 11] :=
  (by decide +kernel : ∀ t : Fin grid0.N, win0_0.index t = ![t.val / 11, 0] ∧ win0_1.index t = ![0, t.val % 11]
    ∧ win0_2.index t = ![0, t.val % 11] ∧ win0_3.index t = ![t.val / 11, t.val % 11]
    ∧ win0_4.index t = ![t.val / 11, t.val % 11] ∧ win0_5.index t = ![t.val / 11, t.val % 11])

theorem points0 (t : Fin cfg0.N) : t.val < 44 := t.isLt

/-- A point's row among all rows. -/
abbrev row0 (t : Fin cfg0.N) (i : Fin 1024) : Fin 4096 := ⟨1024 * (t.val / 11) + i.val, by have := points0 t; omega⟩
/-- A point's column among all columns. -/
abbrev col0 (t : Fin cfg0.N) (j : Fin 512) : Fin 5632 := ⟨512 * (t.val % 11) + j.val, by omega⟩

theorem gate_block (c : Dev nD) (t : Fin cfg0.N) (i : Fin 1024) (j : Fin 512) :
    nn (iblk0 V c 0 t) (iblk0 V c 1 t) i j = nn (V c main_arg1) (V c main_arg2) (row0 t i) (col0 t j) := by
  unfold nn
  refine Finset.sum_congr rfl fun l _ => ?_
  congr 1
  · blk_ext [iblk0, idx0 t]
  · blk_ext [iblk0, idx0 t]

theorem up_block (c : Dev nD) (t : Fin cfg0.N) (i : Fin 1024) (j : Fin 512) :
    nn (iblk0 V c 0 t) (iblk0 V c 2 t) i j = nn (V c main_arg1) (V c main_arg3) (row0 t i) (col0 t j) := by
  unfold nn
  refine Finset.sum_congr rfl fun l _ => ?_
  congr 1
  · blk_ext [iblk0, idx0 t]
  · blk_ext [iblk0, idx0 t]

/-- Where a point's block lies in each of the three output arrays. -/
theorem place0 (t : Fin cfg0.N) (y : S1024x512.Idx) : (win0_3.blk t).view.emb y = ix2 (row0 t (y 0)) (col0 t (y 1))
    ∧ (win0_4.blk t).view.emb y = ix2 (row0 t (y 0)) (col0 t (y 1)) ∧ (win0_5.blk t).view.emb y = ix2 (row0 t (y 0)) (col0 t (y 1)) := by
  refine ⟨?_, ?_, ?_⟩
  all_goals
    funext a
    match a with
    | 0 => exact Fin.ext (by blk_simp [idx0 t]; show _ = 1024 * (t.val / 11) + (y 0).val; omega)
    | 1 => exact Fin.ext (by blk_simp [idx0 t]; show _ = 512 * (t.val % 11) + (y 1).val; omega)

theorem act_point (c : Dev nD) (t : Fin cfg0.N) (i : Fin 1024) (j : Fin 512) :
    out0_3 (iblk0 V c 0 t) (iblk0 V c 1 t) (iblk0 V c 2 t) (ix2 i j)
      = act (V c main_arg1) (V c main_arg2) (V c main_arg3) (ix2 (row0 t i) (col0 t j)) := by
  frame_out
  rw [act_at, gate_block, up_block]
  rfl

theorem silu_point (c : Dev nD) (t : Fin cfg0.N) (i : Fin 1024) (j : Fin 512) :
    out0_4 (iblk0 V c 0 t) (iblk0 V c 1 t) (iblk0 V c 2 t) (ix2 i j)
      = silu (V c main_arg1) (V c main_arg2) (ix2 (row0 t i) (col0 t j)) := by
  frame_out
  rw [silu_out_at, gate_block]
  rfl

theorem slope_point (c : Dev nD) (t : Fin cfg0.N) (i : Fin 1024) (j : Fin 512) :
    out0_5 (iblk0 V c 0 t) (iblk0 V c 1 t) (iblk0 V c 2 t) (ix2 i j)
      = slope (V c main_arg1) (V c main_arg2) (V c main_arg3) (ix2 (row0 t i) (col0 t j)) := by
  frame_out
  rw [slope_at, gate_block, up_block]
  rfl

theorem act_array (c : Dev nD) : (dat0 V c).arrAt 3 cfg0.N = act (V c main_arg1) (V c main_arg2) (V c main_arg3) := by
  refine (dat0 V c).arrAt_eq_of_covers 3 _ (by decide +kernel) fun t hf y => ?_
  blk_simp
  rw [after0_3, (place0 t y).1]
  exact (congrArg _ (ix2_of y)).trans (act_point V c t (y 0) (y 1))

theorem silu_array (c : Dev nD) : (dat0 V c).arrAt 4 cfg0.N = silu (V c main_arg1) (V c main_arg2) := by
  refine (dat0 V c).arrAt_eq_of_covers 4 _ (by decide +kernel) fun t hf y => ?_
  blk_simp
  rw [after0_4, (place0 t y).2.1]
  exact (congrArg _ (ix2_of y)).trans (silu_point V c t (y 0) (y 1))

theorem slope_array (c : Dev nD) : (dat0 V c).arrAt 5 cfg0.N = slope (V c main_arg1) (V c main_arg2) (V c main_arg3) := by
  refine (dat0 V c).arrAt_eq_of_covers 5 _ (by decide +kernel) fun t hf y => ?_
  blk_simp
  rw [after0_5, (place0 t y).2.2]
  exact (congrArg _ (ix2_of y)).trans (slope_point V c t (y 0) (y 1))

end Cert.Kernel2Ideal.Val

end
-- ==== Proof.FfnDown.lean ====
/-
  The output product and the gradient of `w_down`, from the arrays their kernels are entered with.
-/
module

public import proofs.«01_k».proof.Proof.FfnUp

@[expose] public section

set_option maxRecDepth 16384

noncomputable section

namespace Cert.Kernel2Ideal.Val

open Cert.Kernel2Ideal Cert.Kernel2Ideal.Gen Cert.Ffn Idealize.ShloMosaic Idealize.ShloMosaic.TcCoe Idealize.SL.Sem
open Idealize.ShloMosaic.Pipeline (Dat)

section payloads

theorem out_at (x0 : Vec Ideal S1024x5632 .bf16) (x1 : Vec Ideal S5632x512 .bf16) (x2 : Vec Ideal S1024x512 .f32) (i : Fin 1024) (j : Fin 512) :
    k1_pay1 x0 x1 x2 (ix2 i j) = nn x0 x1 i j + x2 (ix2 i j) := by
  unfold nn
  pointwise [k1_pay1]

theorem down_at (x0 : Vec Ideal S4096x1408 .bf16) (x1 : Vec Ideal S4096x512 .bf16) (i : Fin 1408) (j : Fin 512) :
    k2_pay1 x0 x1 (ix2 i j) = tn x0 x1 i j := by
  unfold tn
  pointwise [k2_pay1]

end payloads

variable (V : (c : Dev nD) → (b : Ref sig .tc) → Buf (Elt Ideal) ((c : Thread nD τ).loc b))

theorem idx1 : ∀ t : Fin cfg1.N, win1_0.index t = ![t.val / 4, 0]
    ∧ win1_1.index t = ![0, t.val % 4]
    ∧ win1_2.index t = ![t.val / 4, t.val % 4]
    ∧ win1_3.index t = ![t.val / 4, t.val % 4] :=
  (by decide +kernel : ∀ t : Fin grid1.N, win1_0.index t = ![t.val / 4, 0]
    ∧ win1_1.index t = ![0, t.val % 4]
    ∧ win1_2.index t = ![t.val / 4, t.val % 4]
    ∧ win1_3.index t = ![t.val / 4, t.val % 4])

theorem points1 (t : Fin cfg1.N) : t.val < 16 := t.isLt

/-- A point's row among all rows. -/
abbrev row1 (t : Fin cfg1.N) (i : Fin 1024) : Fin 4096 := ⟨1024 * (t.val / 4) + i.val, by have := points1 t; omega⟩
/-- A point's column among all columns. -/
abbrev col1 (t : Fin cfg1.N) (j : Fin 512) : Fin 2048 := ⟨512 * (t.val % 4) + j.val, by omega⟩

theorem place1 (t : Fin cfg1.N) (y : S1024x512.Idx) : (win1_3.blk t).view.emb y = ix2 (row1 t (y 0)) (col1 t (y 1)) := by
  funext a
  match a with
  | 0 => exact Fin.ext (by blk_simp [idx1 t]; show _ = 1024 * (t.val / 4) + (y 0).val; omega)
  | 1 => exact Fin.ext (by blk_simp [idx1 t]; show _ = 512 * (t.val % 4) + (y 1).val; omega)

theorem out_block (c : Dev nD) (t : Fin cfg1.N) (i j) :
    nn (iblk1 V c 0 t) (iblk1 V c 1 t) i j = nn (V c main_v0_0) (V c main_arg4) (row1 t i) (col1 t j) := by
  unfold nn
  refine Finset.sum_congr rfl fun l _ => ?_
  congr 1
  · blk_ext [iblk1, idx1 t]
  · blk_ext [iblk1, idx1 t]

theorem res_block (c : Dev nD) (t : Fin cfg1.N) (i j) : iblk1 V c 2 t (ix2 i j) = V c main_arg0 (ix2 (row1 t i) (col1 t j)) := by
  blk_ext [iblk1, idx1 t]

theorem out_point (c : Dev nD) (t : Fin cfg1.N) (i : Fin 1024) (j : Fin 512) :
    out1_3 (iblk1 V c 0 t) (iblk1 V c 1 t) (iblk1 V c 2 t) (ix2 i j)
      = nn (V c main_v0_0) (V c main_arg4) (row1 t i) (col1 t j) + V c main_arg0 (ix2 (row1 t i) (col1 t j)) := by
  frame_out
  rw [out_at, out_block, res_block]

theorem out_array (c : Dev nD) : (dat1 V c).arrAt 3 cfg1.N
    = fun x => nn (V c main_v0_0) (V c main_arg4) (x 0) (x 1) + V c main_arg0 x := by
  refine (dat1 V c).arrAt_eq_of_covers 3 _ (by decide +kernel) fun t hf y => ?_
  blk_simp
  rw [after1_3, place1 t y]
  exact (congrArg _ (ix2_of y)).trans (out_point V c t (y 0) (y 1))

theorem idx2 : ∀ t : Fin cfg2.N, win2_0.index t = ![0, t.val / 4]
    ∧ win2_1.index t = ![0, t.val % 4]
    ∧ win2_2.index t = ![t.val / 4, t.val % 4] :=
  (by decide +kernel : ∀ t : Fin grid2.N, win2_0.index t = ![0, t.val / 4]
    ∧ win2_1.index t = ![0, t.val % 4]
    ∧ win2_2.index t = ![t.val / 4, t.val % 4])

theorem points2 (t : Fin cfg2.N) : t.val < 16 := t.isLt

/-- A point's row among all rows. -/
abbrev row2 (t : Fin cfg2.N) (i : Fin 1408) : Fin 5632 := ⟨1408 * (t.val / 4) + i.val, by have := points2 t; omega⟩
/-- A point's column among all columns. -/
abbrev col2 (t : Fin cfg2.N) (j : Fin 512) : Fin 2048 := ⟨512 * (t.val % 4) + j.val, by omega⟩

theorem place2 (t : Fin cfg2.N) (y : S1408x512.Idx) : (win2_2.blk t).view.emb y = ix2 (row2 t (y 0)) (col2 t (y 1)) := by
  funext a
  match a with
  | 0 => exact Fin.ext (by blk_simp [idx2 t]; show _ = 1408 * (t.val / 4) + (y 0).val; omega)
  | 1 => exact Fin.ext (by blk_simp [idx2 t]; show _ = 512 * (t.val % 4) + (y 1).val; omega)

theorem down_block (c : Dev nD) (t : Fin cfg2.N) (i j) :
    tn (iblk2 V c 0 t) (iblk2 V c 1 t) i j = tn (V c main_v0_0) (V c main_arg5) (row2 t i) (col2 t j) := by
  unfold tn
  refine Finset.sum_congr rfl fun l _ => ?_
  congr 1
  · blk_ext [iblk2, idx2 t]
  · blk_ext [iblk2, idx2 t]

theorem down_point (c : Dev nD) (t : Fin cfg2.N) (i : Fin 1408) (j : Fin 512) :
    out2_2 (iblk2 V c 0 t) (iblk2 V c 1 t) (ix2 i j) = tn (V c main_v0_0) (V c main_arg5) (row2 t i) (col2 t j) := by
  frame_out
  rw [down_at, down_block]

theorem down_array (c : Dev nD) : (dat2 V c).arrAt 2 cfg2.N = fun x => tn (V c main_v0_0) (V c main_arg5) (x 0) (x 1) := by
  refine (dat2 V c).arrAt_eq_of_covers 2 _ (by decide +kernel) fun t hf y => ?_
  blk_simp
  rw [after2_2, place2 t y]
  exact (congrArg _ (ix2_of y)).trans (down_point V c t (y 0) (y 1))

end Cert.Kernel2Ideal.Val

end
-- ==== Proof.FfnAct.lean ====
/-
  The gradients of the two products that make the hidden activations, from the arrays their kernel is entered with.
-/
module

public import proofs.«01_k».proof.Proof.FfnUp

@[expose] public section

set_option maxRecDepth 16384

noncomputable section

namespace Cert.Kernel2Ideal.Val

open Cert.Kernel2Ideal Cert.Kernel2Ideal.Gen Cert.Ffn Idealize.ShloMosaic Idealize.ShloMosaic.TcCoe Idealize.SL.Sem
open Idealize.ShloMosaic.Pipeline (Dat)

section payloads

variable (x0 : Vec Ideal S1024x2048 .bf16) (x1 : Vec Ideal S512x2048 .bf16) (x2 : Vec Ideal S1024x512 .bf16) (i : Fin 1024) (j : Fin 512)

theorem dact_at : k3_pay1 x0 x1 (ix2 i j) = nt x0 x1 i j := by
  unfold nt
  pointwise [k3_pay1]

theorem dup_at : k3_pay2 x0 x1 x2 (ix2 i j) = nt x0 x1 i j * x2 (ix2 i j) := by
  rw [← dact_at]
  pointwise [k3_pay2]

theorem dgate_at : k3_pay3 x0 x1 x2 (ix2 i j) = nt x0 x1 i j * x2 (ix2 i j) := by
  rw [← dact_at]
  pointwise [k3_pay3]

end payloads

variable (V : (c : Dev nD) → (b : Ref sig .tc) → Buf (Elt Ideal) ((c : Thread nD τ).loc b))

theorem idx3 : ∀ t : Fin cfg3.N, win3_0.index t = ![t.val / 11, 0]
    ∧ win3_1.index t = ![t.val % 11, 0]
    ∧ win3_2.index t = ![t.val / 11, t.val % 11]
    ∧ win3_3.index t = ![t.val / 11, t.val % 11]
    ∧ win3_4.index t = ![t.val / 11, t.val % 11]
    ∧ win3_5.index t = ![t.val / 11, t.val % 11] :=
  (by decide +kernel : ∀ t : Fin grid3.N, win3_0.index t = ![t.val / 11, 0]
    ∧ win3_1.index t = ![t.val % 11, 0]
    ∧ win3_2.index t = ![t.val / 11, t.val % 11]
    ∧ win3_3.index t = ![t.val / 11, t.val % 11]
    ∧ win3_4.index t = ![t.val / 11, t.val % 11]
    ∧ win3_5.index t = ![t.val / 11, t.val % 11])

theorem points3 (t : Fin cfg3.N) : t.val < 44 := t.isLt

/-- A point's row among all rows. -/
abbrev row3 (t : Fin cfg3.N) (i : Fin 1024) : Fin 4096 := ⟨1024 * (t.val / 11) + i.val, by have := points3 t; omega⟩
/-- A point's column among all columns. -/
abbrev col3 (t : Fin cfg3.N) (j : Fin 512) : Fin 5632 := ⟨512 * (t.val % 11) + j.val, by omega⟩

theorem place3 (t : Fin cfg3.N) (y : S1024x512.Idx) : (win3_4.blk t).view.emb y = ix2 (row3 t (y 0)) (col3 t (y 1))
    ∧ (win3_5.blk t).view.emb y = ix2 (row3 t (y 0)) (col3 t (y 1)) := by
  refine ⟨?_, ?_⟩
  all_goals
    funext a
    match a with
    | 0 => exact Fin.ext (by blk_simp [idx3 t]; show _ = 1024 * (t.val / 11) + (y 0).val; omega)
    | 1 => exact Fin.ext (by blk_simp [idx3 t]; show _ = 512 * (t.val % 11) + (y 1).val; omega)

theorem dact_block (c : Dev nD) (t : Fin cfg3.N) (i j) :
    nt (iblk3 V c 0 t) (iblk3 V c 1 t) i j = nt (V c main_arg5) (V c main_arg4) (row3 t i) (col3 t j) := by
  unfold nt
  refine Finset.sum_congr rfl fun l _ => ?_
  congr 1
  · blk_ext [iblk3, idx3 t]
  · blk_ext [iblk3, idx3 t]

theorem silu_block (c : Dev nD) (t : Fin cfg3.N) (i j) : iblk3 V c 2 t (ix2 i j) = V c main_v0_1 (ix2 (row3 t i) (col3 t j)) := by
  blk_ext [iblk3, idx3 t]

theorem dup_point (c : Dev nD) (t : Fin cfg3.N) (i : Fin 1024) (j : Fin 512) :
    out3_5 (iblk3 V c 0 t) (iblk3 V c 1 t) (iblk3 V c 2 t) (iblk3 V c 3 t) (ix2 i j)
      = nt (V c main_arg5) (V c main_arg4) (row3 t i) (col3 t j) * V c main_v0_1 (ix2 (row3 t i) (col3 t j)) := by
  frame_out
  rw [dup_at, dact_block, silu_block]

theorem dup_array (c : Dev nD) : (dat3 V c).arrAt 5 cfg3.N
    = fun x => nt (V c main_arg5) (V c main_arg4) (x 0) (x 1) * V c main_v0_1 x := by
  refine (dat3 V c).arrAt_eq_of_covers 5 _ (by decide +kernel) fun t hf y => ?_
  blk_simp
  rw [after3_5, (place3 t y).2]
  exact (congrArg _ (ix2_of y)).trans (dup_point V c t (y 0) (y 1))

theorem slope_block (c : Dev nD) (t : Fin cfg3.N) (i j) : iblk3 V c 3 t (ix2 i j) = V c main_v0_2 (ix2 (row3 t i) (col3 t j)) := by
  blk_ext [iblk3, idx3 t]

theorem dgate_point (c : Dev nD) (t : Fin cfg3.N) (i : Fin 1024) (j : Fin 512) :
    out3_4 (iblk3 V c 0 t) (iblk3 V c 1 t) (iblk3 V c 2 t) (iblk3 V c 3 t) (ix2 i j)
      = nt (V c main_arg5) (V c main_arg4) (row3 t i) (col3 t j) * V c main_v0_2 (ix2 (row3 t i) (col3 t j)) := by
  frame_out
  rw [dgate_at, dact_block, slope_block]

theorem dgate_array (c : Dev nD) : (dat3 V c).arrAt 4 cfg3.N
    = fun x => nt (V c main_arg5) (V c main_arg4) (x 0) (x 1) * V c main_v0_2 x := by
  refine (dat3 V c).arrAt_eq_of_covers 4 _ (by decide +kernel) fun t hf y => ?_
  blk_simp
  rw [after3_4, (place3 t y).1]
  exact (congrArg _ (ix2_of y)).trans (dgate_point V c t (y 0) (y 1))

end Cert.Kernel2Ideal.Val

end
-- ==== Proof.FfnGrad.lean ====
/-
  The gradients of `w_gate`, `w_up` and `h`, from the arrays their kernels are entered with.
-/
module

public import proofs.«01_k».proof.Proof.FfnUp

@[expose] public section

set_option maxRecDepth 16384

noncomputable section

namespace Cert.Kernel2Ideal.Val

open Cert.Kernel2Ideal Cert.Kernel2Ideal.Gen Cert.Ffn Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem wgate_at (x0 : Vec Ideal S4096x512 .bf16) (x1 : Vec Ideal S4096x1408 .bf16) (i : Fin 512) (j : Fin 1408) :
    k4_pay1 x0 x1 (ix3 0 i j) = tn x0 x1 i j := by
  unfold tn
  pointwise [k4_pay1]

theorem idx4 : ∀ t : Fin cfg4.N, win4_0.index t = ![0, t.val % 4]
    ∧ win4_1.index t = ![0, t.val / 4]
    ∧ win4_2.index t = ![t.val / 4, t.val % 4, 0] :=
  (by decide +kernel : ∀ t : Fin grid4.N, win4_0.index t = ![0, t.val % 4]
    ∧ win4_1.index t = ![0, t.val / 4]
    ∧ win4_2.index t = ![t.val / 4, t.val % 4, 0])

theorem points4 (t : Fin cfg4.N) : t.val < 16 := t.isLt

/-- A point's slab. -/
abbrev slab4 (t : Fin cfg4.N) : Fin 4 := ⟨t.val / 4, by have := points4 t; omega⟩
/-- A point's row among all rows. -/
abbrev row4 (t : Fin cfg4.N) (i : Fin 512) : Fin 2048 := ⟨512 * (t.val % 4) + i.val, by omega⟩
/-- A point's column among all columns. -/
abbrev col4 (t : Fin cfg4.N) (j : Fin 1408) : Fin 5632 := slabCol (slab4 t) j

theorem place4 (t : Fin cfg4.N) (y : S1x512x1408.Idx) : (win4_2.blk t).view.emb y = ix3 (slab4 t) (row4 t (y 1)) (y 2) := by
  have h0 : (y 0 : Nat) < 1 := (y 0).isLt
  funext a
  match a with
  | 0 => exact Fin.ext (by blk_simp [idx4 t])
  | 1 => exact Fin.ext (by blk_simp [idx4 t]; show _ = 512 * (t.val % 4) + (y 1).val; omega)
  | 2 => exact Fin.ext (by blk_simp [idx4 t])

theorem wgate_block (c : Dev nD) (t : Fin cfg4.N) (i j) :
    tn (iblk4 V c 0 t) (iblk4 V c 1 t) i j = tn (V c main_arg1) (V c main_v3_0) (row4 t i) (col4 t j) := by
  unfold tn
  refine Finset.sum_congr rfl fun l _ => ?_
  congr 1
  · blk_ext [iblk4, idx4 t]
  · blk_ext [iblk4, idx4 t]

theorem wgate_point (c : Dev nD) (t : Fin cfg4.N) (i : Fin 512) (j : Fin 1408) :
    out4_2 (iblk4 V c 0 t) (iblk4 V c 1 t) (ix3 0 i j) = slabs (V c main_arg1) (V c main_v3_0) (ix3 (slab4 t) (row4 t i) j) := by
  frame_out
  rw [wgate_at, wgate_block]
  rfl

theorem wgate_array (c : Dev nD) : (dat4 V c).arrAt 2 cfg4.N = slabs (V c main_arg1) (V c main_v3_0) := by
  refine (dat4 V c).arrAt_eq_of_covers 2 _ (by decide +kernel) fun t hf y => ?_
  blk_simp
  rw [after4_2, place4 t y]
  exact (congrArg _ (ix3_one y)).trans (wgate_point V c t (y 1) (y 2))

theorem wup_at (x0 : Vec Ideal S4096x512 .bf16) (x1 : Vec Ideal S4096x1408 .bf16) (i : Fin 512) (j : Fin 1408) :
    k5_pay1 x0 x1 (ix3 0 i j) = tn x0 x1 i j := by
  unfold tn
  pointwise [k5_pay1]

theorem idx5 : ∀ t : Fin cfg5.N, win5_0.index t = ![0, t.val % 4]
    ∧ win5_1.index t = ![0, t.val / 4]
    ∧ win5_2.index t = ![t.val / 4, t.val % 4, 0] :=
  (by decide +kernel : ∀ t : Fin grid5.N, win5_0.index t = ![0, t.val % 4]
    ∧ win5_1.index t = ![0, t.val / 4]
    ∧ win5_2.index t = ![t.val / 4, t.val % 4, 0])

theorem points5 (t : Fin cfg5.N) : t.val < 16 := t.isLt

/-- A point's slab. -/
abbrev slab5 (t : Fin cfg5.N) : Fin 4 := ⟨t.val / 4, by have := points5 t; omega⟩
/-- A point's row among all rows. -/
abbrev row5 (t : Fin cfg5.N) (i : Fin 512) : Fin 2048 := ⟨512 * (t.val % 4) + i.val, by omega⟩
/-- A point's column among all columns. -/
abbrev col5 (t : Fin cfg5.N) (j : Fin 1408) : Fin 5632 := slabCol (slab5 t) j

theorem place5 (t : Fin cfg5.N) (y : S1x512x1408.Idx) : (win5_2.blk t).view.emb y = ix3 (slab5 t) (row5 t (y 1)) (y 2) := by
  have h0 : (y 0 : Nat) < 1 := (y 0).isLt
  funext a
  match a with
  | 0 => exact Fin.ext (by blk_simp [idx5 t])
  | 1 => exact Fin.ext (by blk_simp [idx5 t]; show _ = 512 * (t.val % 4) + (y 1).val; omega)
  | 2 => exact Fin.ext (by blk_simp [idx5 t])

theorem wup_block (c : Dev nD) (t : Fin cfg5.N) (i j) :
    tn (iblk5 V c 0 t) (iblk5 V c 1 t) i j = tn (V c main_arg1) (V c main_v3_1) (row5 t i) (col5 t j) := by
  unfold tn
  refine Finset.sum_congr rfl fun l _ => ?_
  congr 1
  · blk_ext [iblk5, idx5 t]
  · blk_ext [iblk5, idx5 t]

theorem wup_point (c : Dev nD) (t : Fin cfg5.N) (i : Fin 512) (j : Fin 1408) :
    out5_2 (iblk5 V c 0 t) (iblk5 V c 1 t) (ix3 0 i j) = slabs (V c main_arg1) (V c main_v3_1) (ix3 (slab5 t) (row5 t i) j) := by
  frame_out
  rw [wup_at, wup_block]
  rfl

theorem wup_array (c : Dev nD) : (dat5 V c).arrAt 2 cfg5.N = slabs (V c main_arg1) (V c main_v3_1) := by
  refine (dat5 V c).arrAt_eq_of_covers 2 _ (by decide +kernel) fun t hf y => ?_
  blk_simp
  rw [after5_2, place5 t y]
  exact (congrArg _ (ix3_one y)).trans (wup_point V c t (y 1) (y 2))

theorem dh_at (x0 x1 x2 x3 : Vec Ideal S512x5632 .bf16) (i j : Fin 512) :
    k6_pay1 x0 x2 x1 x3 (ix2 i j) = nt x0 x2 i j + nt x1 x3 i j := by
  unfold nt
  pointwise [k6_pay1]

theorem idx6 : ∀ t : Fin cfg6.N, win6_0.index t = ![t.val % 8, 0]
    ∧ win6_1.index t = ![t.val % 8, 0]
    ∧ win6_2.index t = ![t.val / 8, 0]
    ∧ win6_3.index t = ![t.val / 8, 0]
    ∧ win6_4.index t = ![t.val % 8, t.val / 8] :=
  (by decide +kernel : ∀ t : Fin grid6.N, win6_0.index t = ![t.val % 8, 0]
    ∧ win6_1.index t = ![t.val % 8, 0]
    ∧ win6_2.index t = ![t.val / 8, 0]
    ∧ win6_3.index t = ![t.val / 8, 0]
    ∧ win6_4.index t = ![t.val % 8, t.val / 8])

theorem points6 (t : Fin cfg6.N) : t.val < 32 := t.isLt

/-- A point's row among all rows. -/
abbrev row6 (t : Fin cfg6.N) (i : Fin 512) : Fin 4096 := ⟨512 * (t.val % 8) + i.val, by omega⟩
/-- A point's column among all columns. -/
abbrev col6 (t : Fin cfg6.N) (j : Fin 512) : Fin 2048 := ⟨512 * (t.val / 8) + j.val, by have := points6 t; omega⟩

theorem place6 (t : Fin cfg6.N) (y : S512x512.Idx) : (win6_4.blk t).view.emb y = ix2 (row6 t (y 0)) (col6 t (y 1)) := by
  funext a
  match a with
  | 0 => exact Fin.ext (by blk_simp [idx6 t]; show _ = 512 * (t.val % 8) + (y 0).val; omega)
  | 1 => exact Fin.ext (by blk_simp [idx6 t]; show _ = 512 * (t.val / 8) + (y 1).val; omega)

theorem gate_part (c : Dev nD) (t : Fin cfg6.N) (i j) :
    nt (iblk6 V c 0 t) (iblk6 V c 2 t) i j = nt (V c main_v3_0) (V c main_arg2) (row6 t i) (col6 t j) := by
  unfold nt
  refine Finset.sum_congr rfl fun l _ => ?_
  congr 1
  · blk_ext [iblk6, idx6 t]
  · blk_ext [iblk6, idx6 t]

theorem up_part (c : Dev nD) (t : Fin cfg6.N) (i j) :
    nt (iblk6 V c 1 t) (iblk6 V c 3 t) i j = nt (V c main_v3_1) (V c main_arg3) (row6 t i) (col6 t j) := by
  unfold nt
  refine Finset.sum_congr rfl fun l _ => ?_
  congr 1
  · blk_ext [iblk6, idx6 t]
  · blk_ext [iblk6, idx6 t]

theorem dh_point (c : Dev nD) (t : Fin cfg6.N) (i j : Fin 512) :
    out6_4 (iblk6 V c 0 t) (iblk6 V c 1 t) (iblk6 V c 2 t) (iblk6 V c 3 t) (ix2 i j)
      = nt (V c main_v3_0) (V c main_arg2) (row6 t i) (col6 t j) + nt (V c main_v3_1) (V c main_arg3) (row6 t i) (col6 t j) := by
  frame_out
  rw [dh_at, gate_part, up_part]

theorem dh_array (c : Dev nD) : (dat6 V c).arrAt 4 cfg6.N
    = fun x => nt (V c main_v3_0) (V c main_arg2) (x 0) (x 1) + nt (V c main_v3_1) (V c main_arg3) (x 0) (x 1) := by
  refine (dat6 V c).arrAt_eq_of_covers 4 _ (by decide +kernel) fun t hf y => ?_
  blk_simp
  rw [after6_4, place6 t y]
  exact (congrArg _ (ix2_of y)).trans (dh_point V c t (y 0) (y 1))

end Cert.Kernel2Ideal.Val

end
-- ==== Proof.FfnValue.lean ====
/-
  The run of the feed-forward program, its five result arrays as functions of the six argument arrays.
-/
module

public import proofs.«01_k».proof.Proof.FfnRun
public import proofs.«01_k».proof.Proof.FfnDown
public import proofs.«01_k».proof.Proof.FfnAct
public import proofs.«01_k».proof.Proof.FfnGrad

@[expose] public section

set_option maxRecDepth 16384

noncomputable section

namespace Cert.Kernel2Ideal.Val

open Cert.Kernel2Ideal Cert.Kernel2Ideal.Gen Cert.Ffn Idealize.ShloMosaic Idealize.ShloMosaic.TcCoe Idealize.SL.Sem

variable (m : (ℓ : Loc nD τ sig) → Buf (Elt Ideal) ℓ) (ρ : Dev nD → PrngReg) (c : Dev nD)

/-- An argument array as launched. -/
abbrev arg (a : Ref sig .tc) : Buf (Elt Ideal) ((c : Thread nD τ).loc a) := m ((c : Thread nD τ).loc a)

theorem act_val : W1 m ρ c main_v0_0 = act (arg m c main_arg1) (arg m c main_arg2) (arg m c main_arg3) := by
  refine (W1_arr m ρ c 3).trans ((act_array (V0 m ρ) c).trans ?_)
  rw [show V0 m ρ c main_arg1 = _ from W0_args m ρ c main_arg1 (by decide), show V0 m ρ c main_arg2 = _ from W0_args m ρ c main_arg2 (by decide),
    show V0 m ρ c main_arg3 = _ from W0_args m ρ c main_arg3 (by decide)]

theorem silu_val : W1 m ρ c main_v0_1 = silu (arg m c main_arg1) (arg m c main_arg2) := by
  refine (W1_arr m ρ c 4).trans ((silu_array (V0 m ρ) c).trans ?_)
  rw [show V0 m ρ c main_arg1 = _ from W0_args m ρ c main_arg1 (by decide), show V0 m ρ c main_arg2 = _ from W0_args m ρ c main_arg2 (by decide)]

theorem slope_val : W1 m ρ c main_v0_2 = slope (arg m c main_arg1) (arg m c main_arg2) (arg m c main_arg3) := by
  refine (W1_arr m ρ c 5).trans ((slope_array (V0 m ρ) c).trans ?_)
  rw [show V0 m ρ c main_arg1 = _ from W0_args m ρ c main_arg1 (by decide), show V0 m ρ c main_arg2 = _ from W0_args m ρ c main_arg2 (by decide),
    show V0 m ρ c main_arg3 = _ from W0_args m ρ c main_arg3 (by decide)]

theorem out_val : W2 m ρ c main_v1
    = out (arg m c main_arg0) (arg m c main_arg1) (arg m c main_arg2) (arg m c main_arg3) (arg m c main_arg4) := by
  refine (W2_arr m ρ c 3).trans ((out_array (V1 m ρ) c).trans ?_)
  rw [show V1 m ρ c main_v0_0 = _ from act_val m ρ c, show V1 m ρ c main_arg4 = _ from W1_args m ρ c main_arg4 (by decide),
    show V1 m ρ c main_arg0 = _ from W1_args m ρ c main_arg0 (by decide)]
  rfl

theorem down_val : W3 m ρ c main_v2
    = dDown (arg m c main_arg1) (arg m c main_arg2) (arg m c main_arg3) (arg m c main_arg5) := by
  refine (W3_arr m ρ c 2).trans ((down_array (V2 m ρ) c).trans ?_)
  rw [show V2 m ρ c main_v0_0 = _ from (W2_of m ρ c main_v0_0 (by decide)).trans (act_val m ρ c),
    show V2 m ρ c main_arg5 = _ from W2_args m ρ c main_arg5 (by decide)]
  rfl

theorem dgate_val : W4 m ρ c main_v3_0
    = dGate (arg m c main_arg1) (arg m c main_arg2) (arg m c main_arg3) (arg m c main_arg4) (arg m c main_arg5) := by
  refine (W4_arr m ρ c 4).trans ((dgate_array (V3 m ρ) c).trans ?_)
  rw [show V3 m ρ c main_v0_2 = _ from (W3_of m ρ c main_v0_2 (by decide)).trans ((W2_of m ρ c main_v0_2 (by decide)).trans (slope_val m ρ c)),
    show V3 m ρ c main_arg4 = _ from W3_args m ρ c main_arg4 (by decide), show V3 m ρ c main_arg5 = _ from W3_args m ρ c main_arg5 (by decide)]
  rfl

theorem dup_val : W4 m ρ c main_v3_1
    = dUp (arg m c main_arg1) (arg m c main_arg2) (arg m c main_arg4) (arg m c main_arg5) := by
  refine (W4_arr m ρ c 5).trans ((dup_array (V3 m ρ) c).trans ?_)
  rw [show V3 m ρ c main_v0_1 = _ from (W3_of m ρ c main_v0_1 (by decide)).trans ((W2_of m ρ c main_v0_1 (by decide)).trans (silu_val m ρ c)),
    show V3 m ρ c main_arg4 = _ from W3_args m ρ c main_arg4 (by decide), show V3 m ρ c main_arg5 = _ from W3_args m ρ c main_arg5 (by decide)]
  rfl

theorem wgate_val : W5 m ρ c main_v4 = slabs (arg m c main_arg1)
    (dGate (arg m c main_arg1) (arg m c main_arg2) (arg m c main_arg3) (arg m c main_arg4) (arg m c main_arg5)) := by
  refine (W5_arr m ρ c 2).trans ((wgate_array (V4 m ρ) c).trans ?_)
  rw [show V4 m ρ c main_v3_0 = _ from dgate_val m ρ c, show V4 m ρ c main_arg1 = _ from W4_args m ρ c main_arg1 (by decide)]

theorem wup_val : W6 m ρ c main_v5 = slabs (arg m c main_arg1)
    (dUp (arg m c main_arg1) (arg m c main_arg2) (arg m c main_arg4) (arg m c main_arg5)) := by
  refine (W6_arr m ρ c 2).trans ((wup_array (V5 m ρ) c).trans ?_)
  rw [show V5 m ρ c main_v3_1 = _ from (W5_of m ρ c main_v3_1 (by decide)).trans (dup_val m ρ c),
    show V5 m ρ c main_arg1 = _ from W5_args m ρ c main_arg1 (by decide)]

theorem dh_val : W7 m ρ c main_v6
    = dH (arg m c main_arg1) (arg m c main_arg2) (arg m c main_arg3) (arg m c main_arg4) (arg m c main_arg5) := by
  refine (W7_arr m ρ c 4).trans ((dh_array (V6 m ρ) c).trans ?_)
  rw [show V6 m ρ c main_v3_0 = _ from (W6_of m ρ c main_v3_0 (by decide)).trans ((W5_of m ρ c main_v3_0 (by decide)).trans (dgate_val m ρ c)),
    show V6 m ρ c main_v3_1 = _ from (W6_of m ρ c main_v3_1 (by decide)).trans ((W5_of m ρ c main_v3_1 (by decide)).trans (dup_val m ρ c)),
    show V6 m ρ c main_arg2 = _ from W6_args m ρ c main_arg2 (by decide), show V6 m ρ c main_arg3 = _ from W6_args m ρ c main_arg3 (by decide)]
  rfl

theorem run : θ_run defs (onTc (τ := τ) (main (F := Ideal))) ⟨m, fun _ => 0, ρ⟩ fun r => ∀ c : Dev nD,
      r.2.mem ((c.tc : Thread nD τ).loc main_v1)
        = out (arg m c main_arg0) (arg m c main_arg1) (arg m c main_arg2) (arg m c main_arg3) (arg m c main_arg4)
      ∧ r.2.mem ((c.tc : Thread nD τ).loc main_v6)
        = dH (arg m c main_arg1) (arg m c main_arg2) (arg m c main_arg3) (arg m c main_arg4) (arg m c main_arg5)
      ∧ r.2.mem ((c.tc : Thread nD τ).loc main_v4) = slabs (arg m c main_arg1)
          (dGate (arg m c main_arg1) (arg m c main_arg2) (arg m c main_arg3) (arg m c main_arg4) (arg m c main_arg5))
      ∧ r.2.mem ((c.tc : Thread nD τ).loc main_v5) = slabs (arg m c main_arg1)
          (dUp (arg m c main_arg1) (arg m c main_arg2) (arg m c main_arg4) (arg m c main_arg5))
      ∧ r.2.mem ((c.tc : Thread nD τ).loc main_v2)
        = dDown (arg m c main_arg1) (arg m c main_arg2) (arg m c main_arg3) (arg m c main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (final m ρ)
  have at_end := fun (b : Ref sig .tc) (hb : (b : DevRef τ sig) ∈ Pipeline.ucRefs τ sig) => h c b hb
  refine ⟨(at_end main_v1 (mem_uc main_v1 (by decide))).trans ?_, (at_end main_v6 (mem_uc main_v6 (by decide))).trans (dh_val m ρ c),
    (at_end main_v4 (mem_uc main_v4 (by decide))).trans ?_, (at_end main_v5 (mem_uc main_v5 (by decide))).trans ?_,
    (at_end main_v2 (mem_uc main_v2 (by decide))).trans ?_,
    (at_end main_arg0 (mem_uc main_arg0 (by decide))).trans (W7_args m ρ c main_arg0 (by decide)),
    (at_end main_arg1 (mem_uc main_arg1 (by decide))).trans (W7_args m ρ c main_arg1 (by decide)),
    (at_end main_arg2 (mem_uc main_arg2 (by decide))).trans (W7_args m ρ c main_arg2 (by decide)),
    (at_end main_arg3 (mem_uc main_arg3 (by decide))).trans (W7_args m ρ c main_arg3 (by decide)),
    (at_end main_arg4 (mem_uc main_arg4 (by decide))).trans (W7_args m ρ c main_arg4 (by decide)),
    (at_end main_arg5 (mem_uc main_arg5 (by decide))).trans (W7_args m ρ c main_arg5 (by decide))⟩
  · exact (W7_of m ρ c main_v1 (by decide)).trans <| (W6_of m ρ c main_v1 (by decide)).trans <| (W5_of m ρ c main_v1 (by decide)).trans <|
      (W4_of m ρ c main_v1 (by decide)).trans <| (W3_of m ρ c main_v1 (by decide)).trans (out_val m ρ c)
  · exact (W7_of m ρ c main_v4 (by decide)).trans <| (W6_of m ρ c main_v4 (by decide)).trans (wgate_val m ρ c)
  · exact (W7_of m ρ c main_v5 (by decide)).trans (wup_val m ρ c)
  · exact (W7_of m ρ c main_v2 (by decide)).trans <| (W6_of m ρ c main_v2 (by decide)).trans <| (W5_of m ρ c main_v2 (by decide)).trans <|
      (W4_of m ρ c main_v2 (by decide)).trans (down_val m ρ c)

end Cert.Kernel2Ideal.Val

end
-- ==== Proof.FfnReal.lean ====
/-
  The two ways of writing the gradient of the gate's product agree where the output gradient's and the other product's
  entries are real.
-/
module

public import proofs.«01_k».proof.Proof.FfnSpec

@[expose] public section

noncomputable section

namespace Cert.Ffn

open Idealize.ShloMosaic

theorem sigma_top : sigma ⊤ = 1 := by
  have he : Ideal.exp (-(⊤ : EReal)) = 0 := by rw [EReal.neg_top]; rfl
  unfold sigma
  rw [he, add_zero]
  simp [Ideal.div]

theorem sigma_bot : sigma ⊥ = 0 := by
  have he : (1 : EReal) + Ideal.exp (-(⊥ : EReal)) = ⊤ := by rw [EReal.neg_bot]; exact EReal.add_top_of_ne_bot (by decide)
  unfold sigma
  rw [he]
  simp [Ideal.div]

theorem sigma_real (r : ℝ) : ∃ s : ℝ, sigma r = s := by
  have hp : (1 + Real.exp (-r)) ≠ 0 := by positivity
  have he : (1 : EReal) + Ideal.exp (-(r : EReal)) = ((1 + Real.exp (-r) : ℝ) : EReal) := by
    rw [← EReal.coe_neg]
    rfl
  refine ⟨1 * (1 / (1 + Real.exp (-r))), ?_⟩
  unfold sigma
  rw [he, Ideal.div_coe hp, EReal.coe_mul]
  rfl

theorem one_sub_one : (1 : EReal) - 1 = 0 := by
  have : ((1 : ℝ) : EReal) - ((1 : ℝ) : EReal) = ((0 : ℝ) : EReal) := by rw [← EReal.coe_sub, sub_self]
  exact this

/-- The slope written with the logistic's derivative expanded, and with it factored. -/
theorem slope_eq (c u : ℝ) (g : EReal) :
    (c : EReal) * (u * (sigma g + g * sigma g * (1 - sigma g)))
      = c * u * sigma g + g * (c * u) * (sigma g * (1 - sigma g)) := by
  induction g using EReal.rec with
  | bot => simp [sigma_bot]
  | top => simp [sigma_top, one_sub_one]
  | coe r =>
    obtain ⟨s, hs⟩ := sigma_real r
    rw [hs]
    have h1 : (1 : EReal) = ((1 : ℝ) : EReal) := rfl
    rw [h1]
    simp only [← EReal.coe_mul, ← EReal.coe_add, ← EReal.coe_sub]
    congr 1
    ring

theorem sum_real {n : Nat} (f : Fin n → EReal) (hf : ∀ i, ∃ r : ℝ, f i = r) : ∃ r : ℝ, ∑ i, f i = r := by
  choose g hg using hf
  have hs : ∀ s : Finset (Fin n), ∑ i ∈ s, f i = ((∑ i ∈ s, g i : ℝ) : EReal) := by
    intro s
    induction s using Finset.cons_induction with
    | empty => simp
    | cons a s ha ih => rw [Finset.sum_cons, Finset.sum_cons, ih, hg, EReal.coe_add]
  exact ⟨_, hs _⟩

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem nn_real {n k m : Nat} (A : Mat n k) (B : Mat k m) (hA : ∀ x, ∃ r : ℝ, A x = r) (hB : ∀ x, ∃ r : ℝ, B x = r)
    (i : Fin n) (j : Fin m) : ∃ r : ℝ, nn A B i j = r :=
  sum_real _ fun l => mul_real (hA _) (hB _)

theorem nt_real {n k m : Nat} (A : Mat n k) (B : Mat m k) (hA : ∀ x, ∃ r : ℝ, A x = r) (hB : ∀ x, ∃ r : ℝ, B x = r)
    (i : Fin n) (j : Fin m) : ∃ r : ℝ, nt A B i j = r :=
  sum_real _ fun l => mul_real (hA _) (hB _)

end Cert.Ffn

end
-- ==== Proof.FfnRef.lean ====
/-
  The reference's five result terms of the feed-forward part, read at an index.
-/
module

public import proofs.«01_k».proof.Proof.Gen.Reference2Ideal.Run
public import proofs.«01_k».proof.Proof.FfnReal
public import Idealize.ShloMosaic.Lib.Pointwise

@[expose] public section

set_option maxRecDepth 16384

noncomputable section

namespace Cert.Reference2Ideal.Val

open Cert.Reference2Ideal Cert.Reference2Ideal.Gen Cert.Ffn Idealize.ShloMosaic Idealize.ShloMosaic.TcCoe Idealize.SL.Sem Idealize.ShloMosaic.StableHlo

variable (x : FVec Ideal S4096x2048 .f32) (h : FVec Ideal S4096x2048 .bf16) (g u : FVec Ideal S2048x5632 .bf16)
  (d : FVec Ideal S5632x2048 .bf16) (y : FVec Ideal S4096x2048 .bf16)

/-- An array times a weight. -/
def refProd (w : FVec Ideal S2048x5632 .bf16) : FVec Ideal S4096x5632 .f32 :=
  Host.dotGeneral dot_S4096x2048_S2048x5632_S4096x5632_1_0_0_1_n_n none (extf .f32 h bitsLt_bf16_f32) (extf .f32 w bitsLt_bf16_f32)
/-- Ones. -/
def refOne : FVec Ideal S4096x5632 .f32 := broadcastInDim S4096x5632 ![] bcast_S_S4096x5632 (constant S_ .f32 0x3F800000#32)
/-- The logistic function of an array. -/
def refSigma (p : FVec Ideal S4096x5632 .f32) : FVec Ideal S4096x5632 .f32 :=
  Host.divf refOne (addf refOne (Host.exp (Host.negf p)))
/-- The gate's activation. -/
def refSilu : FVec Ideal S4096x5632 .f32 := mulf (refProd h g) (refSigma (refProd h g))
/-- The hidden activations. -/
def refAct : FVec Ideal S4096x5632 .f32 := mulf (refSilu h g) (refProd h u)
/-- The gradient of the hidden activations. -/
def refDact : FVec Ideal S4096x5632 .f32 :=
  Host.dotGeneral dot_S4096x2048_S5632x2048_S4096x5632_1_1_0_0_n_n none (extf .f32 y bitsLt_bf16_f32) (extf .f32 d bitsLt_bf16_f32)
/-- The gradient of `h·w_up`. -/
def refDup : FVec Ideal S4096x5632 .f32 := mulf (refSilu h g) (refDact d y)
/-- The gradient of the gate's activation. -/
def refDsilu : FVec Ideal S4096x5632 .f32 := mulf (refDact d y) (refProd h u)
/-- The logistic's derivative. -/
def refDsigma : FVec Ideal S4096x5632 .f32 := mulf (refSigma (refProd h g)) (subf refOne (refSigma (refProd h g)))
/-- The gradient of `h·w_gate`. -/
def refDgate : FVec Ideal S4096x5632 .f32 :=
  addf (mulf (refDsilu h u d y) (refSigma (refProd h g))) (mulf (mulf (refProd h g) (refDsilu h u d y)) (refDsigma h g))
/-- The output. -/
def refOut : FVec Ideal S4096x2048 .f32 :=
  addf x (Host.dotGeneral dot_S4096x5632_S5632x2048_S4096x2048_1_0_0_1_n_n none (refAct h g u) (extf .f32 d bitsLt_bf16_f32))
/-- The gradient of `h`. -/
def refDh : FVec Ideal S4096x2048 .f32 :=
  addf (Host.dotGeneral dot_S4096x5632_S2048x5632_S4096x2048_1_1_0_0_n_n none (refDup h g d y) (extf .f32 u bitsLt_bf16_f32))
    (Host.dotGeneral dot_S4096x5632_S2048x5632_S4096x2048_1_1_0_0_n_n none (refDgate h g u d y) (extf .f32 g bitsLt_bf16_f32))
/-- A weight's gradient from the gradient of its product, cut into four slabs of columns. -/
def refSlabs (e : FVec Ideal S4096x5632 .f32) : FVec Ideal S4x2048x1408 .bf16 :=
  truncf .bf16 (transpose S4x2048x1408 [1, 0, 2] (shapeCast S2048x4x1408 (transpose S2048x5632 [1, 0]
    (Host.dotGeneral dot_S4096x5632_S4096x2048_S5632x2048_0_0_1_1_n_n none e (extf .f32 h bitsLt_bf16_f32)) transposes_S5632x2048_S2048x5632_1_0)
    shapeCasts_S2048x5632_S2048x4x1408) transposes_S2048x4x1408_S4x2048x1408_1_0_2) bitsLt_bf16_f32
/-- The gradient of `w_down`. -/
def refDdown : FVec Ideal S5632x2048 .bf16 :=
  truncf .bf16 (transpose S5632x2048 [1, 0] (Host.dotGeneral dot_S4096x2048_S4096x5632_S2048x5632_0_0_1_1_n_n none (extf .f32 y bitsLt_bf16_f32) (refAct h g u))
    transposes_S2048x5632_S5632x2048_1_0) bitsLt_bf16_f32

theorem prod_at (w : FVec Ideal S2048x5632 .bf16) (i : Fin 4096) (j : Fin 5632) : refProd h w (ix2 i j) = nn h w i j := by
  unfold nn
  pointwise [refProd]

theorem sigma_at (p : FVec Ideal S4096x5632 .f32) (i : Fin 4096) (j : Fin 5632) : refSigma p (ix2 i j) = sigma (p (ix2 i j)) := by
  unfold sigma
  pointwise [refSigma, refOne]

theorem silu_at (i : Fin 4096) (j : Fin 5632) : refSilu h g (ix2 i j) = silu h g (ix2 i j) := by
  have e : refSilu h g (ix2 i j) = refProd h g (ix2 i j) * refSigma (refProd h g) (ix2 i j) := rfl
  rw [e, sigma_at, prod_at]
  rfl

theorem act_at (i : Fin 4096) (j : Fin 5632) : refAct h g u (ix2 i j) = act h g u (ix2 i j) := by
  have e : refAct h g u (ix2 i j) = refSilu h g (ix2 i j) * refProd h u (ix2 i j) := rfl
  rw [e, silu_at, prod_at]
  rfl

theorem dact_at (i : Fin 4096) (j : Fin 5632) : refDact d y (ix2 i j) = nt y d i j := by
  unfold nt
  pointwise [refDact]

theorem dup_at (i : Fin 4096) (j : Fin 5632) : refDup h g d y (ix2 i j) = dUp h g d y (ix2 i j) := by
  have e : refDup h g d y (ix2 i j) = refSilu h g (ix2 i j) * refDact d y (ix2 i j) := rfl
  rw [e, silu_at, dact_at, mul_comm]
  rfl

theorem dsilu_at (i : Fin 4096) (j : Fin 5632) : refDsilu h u d y (ix2 i j) = nt y d i j * nn h u i j := by
  have e : refDsilu h u d y (ix2 i j) = refDact d y (ix2 i j) * refProd h u (ix2 i j) := rfl
  rw [e, dact_at, prod_at]

theorem one_at (i : Fin 4096) (j : Fin 5632) : refOne (ix2 i j) = 1 := by
  pointwise [refOne]

theorem dsigma_at (i : Fin 4096) (j : Fin 5632) : refDsigma h g (ix2 i j) = sigma (nn h g i j) * (1 - sigma (nn h g i j)) := by
  have e : refDsigma h g (ix2 i j) = refSigma (refProd h g) (ix2 i j) * (refOne (ix2 i j) - refSigma (refProd h g) (ix2 i j)) := rfl
  rw [e, sigma_at, prod_at, one_at]

theorem act_eq : refAct h g u = act h g u := by
  funext z
  idx_vars z
  exact act_at h g u _ _

theorem dup_eq : refDup h g d y = dUp h g d y := by
  funext z
  idx_vars z
  exact dup_at h g d y _ _

section real

variable (hh : ∀ i, ∃ r : ℝ, (h i : EReal) = r) (hu : ∀ i, ∃ r : ℝ, (u i : EReal) = r)
  (hd : ∀ i, ∃ r : ℝ, (d i : EReal) = r) (hy : ∀ i, ∃ r : ℝ, (y i : EReal) = r)

include hh hu hd hy in
theorem dgate_at (i : Fin 4096) (j : Fin 5632) : refDgate h g u d y (ix2 i j) = dGate h g u d y (ix2 i j) := by
  have e : refDgate h g u d y (ix2 i j) = refDsilu h u d y (ix2 i j) * refSigma (refProd h g) (ix2 i j)
      + refProd h g (ix2 i j) * refDsilu h u d y (ix2 i j) * refDsigma h g (ix2 i j) := rfl
  rw [e, dsilu_at, sigma_at, prod_at, dsigma_at]
  obtain ⟨c, hc⟩ := nt_real y d hy hd i j
  obtain ⟨w, hw⟩ := nn_real h u hh hu i j
  rw [hc, hw, ← slope_eq, ← hc, ← hw]
  rfl

include hh hu hd hy in
theorem dgate_eq : refDgate h g u d y = dGate h g u d y := by
  funext z
  idx_vars z
  exact dgate_at h g u d y hh hu hd hy _ _

include hh hu hd hy in
theorem dh_eq : refDh h g u d y = dH h g u d y := by
  funext z
  idx_vars z
  unfold refDh dH nt
  rw [dup_eq, dgate_eq h g u d y hh hu hd hy]
  pointwise
  exact add_comm _ _

end real

theorem out_eq : refOut x h g u d = out x h g u d := by
  funext z
  idx_vars z
  unfold refOut out nn
  rw [act_eq]
  pointwise
  exact add_comm _ _

theorem down_eq : refDdown h g u y = dDown h g u y := by
  funext z
  idx_vars z
  unfold refDdown dDown tn
  rw [act_eq]
  pointwise
  exact Finset.sum_congr rfl fun l _ => mul_comm _ _

theorem slabs_eq (e : Mat 4096 5632) : refSlabs h e = slabs h e := by
  funext z
  idx_vars z
  unfold refSlabs slabs tn
  pointwise
  have ec : (⟨z0.val * 1408 + z2.val, by omega⟩ : Fin 5632) = slabCol z0 z2 := Fin.ext (by show z0.val * 1408 + z2.val = 1408 * z0.val + z2.val; omega)
  rw [ec]
  exact Finset.sum_congr rfl fun l _ => mul_comm _ _

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v23) = refDh (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v26) = refSlabs (m ((c.tc : Thread nD τ).loc main_arg1)) (refDgate (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v29) = refSlabs (m ((c.tc : Thread nD τ).loc main_arg1)) (refDup (m ((c.tc : Thread nD τ).loc main_arg1)) (m ((c.tc : Thread nD τ).loc main_arg2)) (m ((c.tc : Thread nD τ).loc main_arg4)) (m ((c.tc : Thread nD τ).loc main_arg5)))
      ∧ r.2.mem ((c.tc : Thread nD τ).loc main_v30) = refDdown (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h => h) (Value.run m ρ)

end Cert.Reference2Ideal.Val

end
-- ==== Proof.FfnFinite.lean ====
/-
  The precondition of the feed-forward part read back: where `ffn_finite` says 1, every element of `h`, `w_up`, `w_down`
  and the output gradient is a real.
-/
module

public import proofs.«01_k».proof.Pre_ffn_finite
public import proofs.«01_k».proof.Proof.Finite

@[expose] public section

set_option maxRecDepth 16384

noncomputable section

namespace Cert.Pre_ffn_finite

open Idealize.ShloMosaic

/-- The shape facts the precondition states. -/
instance facts : Facts where
  bitsLt_bf16_f32 := by decide
  bcast_S_S4096x2048 := by decide
  reducesTo_S4096x2048_S_d0_1 := by decide
  h_S_ := by decide
  bcast_S_S2048x5632 := by decide
  reducesTo_S2048x5632_S_d0_1 := by decide
  bcast_S_S5632x2048 := by decide
  reducesTo_S5632x2048_S_d0_1 := by decide

/-- An array whose absolute values all compare below `+∞` is real throughout. -/
theorem all_real {s : Shape} {dims : List (Fin s.rank)} (x : FVec Ideal s .bf16) (hb : FTy.bits .bf16 < FTy.bits .f32)
    (hc : S_.BroadcastsInDim s (![] : Fin 0 → Fin s.rank)) (hr : s.ReducesTo dims S_) (h1 : 0 < S_.numel) (j : S_.Idx)
    (h : Host.reduce IntOp.andi (cmpf .olt (Host.absf (extf .f32 x hb)) (broadcastInDim s ![] hc (constant S_ .f32 0x7F800000#32)))
      (constantI S_ 1 1#1) hr h1 j = 1#1) (i : s.Idx) : ∃ r : ℝ, (x i : EReal) = r := by
  haveI : Subsingleton S_.Idx := ⟨fun a b => funext fun d => d.elim0⟩
  exact Cert.Pre_q_and_k_finite.real_of_olt _ (Host.reduce_andi_all _ _ _ _ j h i)

variable (x : FVec Ideal S4096x2048 .f32) (h y : FVec Ideal S4096x2048 .bf16) (g u : FVec Ideal S2048x5632 .bf16) (d : FVec Ideal S5632x2048 .bf16)

theorem real (hp : fn x h g u d y = fun _ => 1#1) :
    (∀ i, ∃ r : ℝ, (h i : EReal) = r) ∧ (∀ i, ∃ r : ℝ, (u i : EReal) = r) ∧ (∀ i, ∃ r : ℝ, (d i : EReal) = r)
      ∧ (∀ i, ∃ r : ℝ, (y i : EReal) = r) := by
  have h0 := congrFun hp (Shape.Idx.first Facts.h_S_)
  have h1 := Cert.Pre_q_and_k_finite.and_one _ _ h0
  have h2 := Cert.Pre_q_and_k_finite.and_one _ _ h1.1
  have h3 := Cert.Pre_q_and_k_finite.and_one _ _ h2.1
  exact ⟨all_real h _ _ _ _ _ h3.1, all_real u _ _ _ _ _ h3.2, all_real d _ _ _ _ _ h2.2, all_real y _ _ _ _ _ h1.2⟩

end Cert.Pre_ffn_finite

end
-- ==== Proof.NormSpec.lean ====
/-
  The root-mean-square norm of a row, and a product against a slab of columns, over the extended reals.
-/
module

public import proofs.«01_k».proof.Proof.FfnSpec

@[expose] public section

set_option maxRecDepth 16384

noncomputable section

namespace Cert.Norm

open Idealize.ShloMosaic Cert.Ffn

/-- A row vector of gains. -/
abbrev Row (k : Nat) := (⟨1, ![k]⟩ : Shape).Idx → EReal

/-- The number of columns, 2048, as the programs write it. -/
def width : EReal := Ideal.ofBits .f32 0x45000000#32
/-- What the norm adds to the mean, one in a million, as the programs write it. -/
def shift : EReal := Ideal.ofBits .f32 0x358637BD#32

/-- The mean square of row `i`, shifted. -/
def power {n : Nat} (X : Mat n 2048) (i : Fin n) : EReal := Ideal.div (∑ l, X (ix2 i l) * X (ix2 i l)) width + shift
/-- What row `i` is multiplied with. -/
def scale {n : Nat} (X : Mat n 2048) (i : Fin n) : EReal := Ideal.rsqrt (power X i)
/-- The norm of an array's rows with gains. -/
def normed {n : Nat} (X : Mat n 2048) (g : Row 2048) : Mat n 2048 := fun x => X x * scale X (x 0) * g (ix1 (x 1))

/-- The norm with the gains held as an array of one row. -/
def rowed {n : Nat} (X : Mat n 2048) (G : Mat 1 2048) : Mat n 2048 := fun x => X x * scale X (x 0) * G (ix2 0 (x 1))

theorem rowed_eq {n : Nat} (X : Mat n 2048) (G : Mat 1 2048) (g : Row 2048) (h : ∀ j, G (ix2 0 j) = g (ix1 j)) : rowed X G = normed X g := by
  funext x
  exact congrArg (fun v => X x * scale X (x 0) * v) (h (x 1))

/-- A product added to an array. -/
def mid {n k m : Nat} (Y : Mat n k) (W : Mat k m) (X : Mat n m) : Mat n m := fun x => nn Y W (x 0) (x 1) + X x

/-- A stack of arrays. -/
abbrev Stack (s n k : Nat) := (⟨3, ![s, n, k]⟩ : Shape).Idx → EReal
/-- The transpose of `H` times array `s` of a stack. -/
def cut {s n k a : Nat} (H : Mat n a) (E : Stack s n k) (t : Fin s) (i : Fin a) (j : Fin k) : EReal := ∑ l, H (ix2 l i) * E (ix3 t l j)

/-- Minus one half, as the programs write it. -/
def minusHalf : EReal := Ideal.ofBits .f32 0xBF000000#32
/-- The gradient of half the sum of row `i`'s squares, from the gradient `D` of the norm. -/
def pull {n : Nat} (D X : Mat n 2048) (g : Fin 2048 → EReal) (i : Fin n) : EReal :=
  Ideal.div ((∑ l, X (ix2 i l) * (D (ix2 i l) * g l)) * (minusHalf * Ideal.div (scale X i) (power X i))) width
/-- The gradient of the norm's rows, added to `R`. -/
def normGrad {n : Nat} (D X : Mat n 2048) (g : Fin 2048 → EReal) (R : Mat n 2048) (i : Fin n) (j : Fin 2048) : EReal :=
  D (ix2 i j) * g j * scale X i + X (ix2 i j) * pull D X g i + pull D X g i * X (ix2 i j) + R (ix2 i j)
/-- The gradient of the norm's gains. -/
def gainGrad {n : Nat} (D X : Mat n 2048) (j : Fin 2048) : EReal := ∑ i, X (ix2 i j) * scale X i * D (ix2 i j)

/-- Column `j` of slab `s` of four. -/
abbrev inCol (s : Fin 4) (j : Fin 1088) : Fin 4352 := ⟨1088 * s.val + j.val, by omega⟩
/-- The gradient of a weight from `H` and the gradient `E` of its product, cut into four slabs of columns. -/
def inSlabs (H : Mat 4096 2048) (E : Mat 4096 4352) : Stack 4 2048 1088 := fun x => tn H E (x 1) (inCol (x 0) (x 2))

end Cert.Norm

end
-- ==== Proof.MixSpec.lean ====
/-
  The root-mean-square norm of a mixer's 512 columns and its gradient, over the extended reals.
-/
module

public import proofs.«01_k».proof.Proof.NormSpec

@[expose] public section

set_option maxRecDepth 16384

noncomputable section

namespace Cert.Mix

open Idealize.ShloMosaic Cert.Ffn Cert.Norm

/-- The number of a mixer's columns, 512, as the programs write it. -/
def cols : EReal := Ideal.ofBits .f32 0x44000000#32

/-- The mean square of row `i`, shifted. -/
def energy {n : Nat} (X : Mat n 512) (i : Fin n) : EReal := Ideal.div (∑ l, X (ix2 i l) * X (ix2 i l)) cols + shift
/-- What row `i` is multiplied with. -/
def factor {n : Nat} (X : Mat n 512) (i : Fin n) : EReal := Ideal.rsqrt (energy X i)
/-- The norm at row `i`, column `j`. -/
def normAt {n : Nat} (X : Mat n 512) (g : Fin 512 → EReal) (i : Fin n) (j : Fin 512) : EReal := X (ix2 i j) * factor X i * g j
/-- The gradient of half the sum of row `i`'s squares, from the gradient `D` of the norm. -/
def draw {n : Nat} (D X : Mat n 512) (g : Fin 512 → EReal) (i : Fin n) : EReal :=
  Ideal.div ((∑ l, X (ix2 i l) * (D (ix2 i l) * g l)) * (minusHalf * Ideal.div (factor X i) (energy X i))) cols
/-- The gradient of the norm's rows. -/
def rowGrad {n : Nat} (D X : Mat n 512) (g : Fin 512 → EReal) (i : Fin n) (j : Fin 512) : EReal :=
  D (ix2 i j) * g j * factor X i + X (ix2 i j) * draw D X g i + draw D X g i * X (ix2 i j)
/-- The gradient of the norm's gains. -/
def colGrad {n : Nat} (D X : Mat n 512) (j : Fin 512) : EReal := ∑ i, X (ix2 i j) * factor X i * D (ix2 i j)

/-- Column `j` of mixer `s`, among the columns of all four. -/
abbrev mixCol (s : Fin 4) (j : Fin 512) : Fin 2048 := ⟨512 * s.val + j.val, by omega⟩
/-- The columns of mixer `s`. -/
def part {n : Nat} (D : Mat n 2048) (s : Fin 4) : Mat n 512 := fun z => D (ix2 (z 0) (mixCol s (z 1)))
/-- The gains of mixer `s`. -/
def gainPart (g : Row 2048) (s : Fin 4) : Fin 512 → EReal := fun j => g (ix1 (mixCol s j))

/-- Whose column `q` is, of the four mixers'. -/
abbrev mixOf (q : Fin 2048) : Fin 4 := ⟨q.val / 512, by omega⟩
/-- Where column `q` stands among its mixer's. -/
abbrev colOf (q : Fin 2048) : Fin 512 := ⟨q.val % 512, by omega⟩

theorem mixCol_of (q : Fin 2048) : mixCol (mixOf q) (colOf q) = q :=
  Fin.ext (by show 512 * (q.val / 512) + q.val % 512 = q.val; omega)

/-- The norms of four mixers, side by side. -/
def joined {n : Nat} (X : Fin 4 → Mat n 512) (g : Row 2048) : Mat n 2048 := fun z =>
  normAt (X (mixOf (z 1))) (gainPart g (mixOf (z 1))) (z 0) (colOf (z 1))

section rows

variable {k n : Nat} (r : Fin k → Fin n) (d x : Mat k 512) (D X : Mat n 512)

theorem energy_rows (hx : ∀ i j, x (ix2 i j) = X (ix2 (r i) j)) (i : Fin k) : energy x i = energy X (r i) := by
  unfold energy
  simp only [hx]

theorem factor_rows (hx : ∀ i j, x (ix2 i j) = X (ix2 (r i) j)) (i : Fin k) : factor x i = factor X (r i) := by
  unfold factor
  rw [energy_rows r x X hx]

theorem normAt_rows (g G : Fin 512 → EReal) (hx : ∀ i j, x (ix2 i j) = X (ix2 (r i) j)) (hg : ∀ j, g j = G j) (i : Fin k) (j : Fin 512) :
    normAt x g i j = normAt X G (r i) j := by
  unfold normAt
  rw [factor_rows r x X hx, hx, hg]

theorem draw_rows (g G : Fin 512 → EReal) (hd : ∀ i j, d (ix2 i j) = D (ix2 (r i) j)) (hx : ∀ i j, x (ix2 i j) = X (ix2 (r i) j))
    (hg : ∀ j, g j = G j) (i : Fin k) : draw d x g i = draw D X G (r i) := by
  unfold draw
  rw [factor_rows r x X hx, energy_rows r x X hx]
  simp only [hd, hx, hg]

theorem rowGrad_rows (g G : Fin 512 → EReal) (hd : ∀ i j, d (ix2 i j) = D (ix2 (r i) j)) (hx : ∀ i j, x (ix2 i j) = X (ix2 (r i) j))
    (hg : ∀ j, g j = G j) (i : Fin k) (j : Fin 512) : rowGrad d x g i j = rowGrad D X G (r i) j := by
  unfold rowGrad
  rw [draw_rows r d x D X g G hd hx hg, factor_rows r x X hx, hd, hx, hg]

theorem colGrad_rows (hd : ∀ i j, d (ix2 i j) = D (ix2 (r i) j)) (hx : ∀ i j, x (ix2 i j) = X (ix2 (r i) j)) (j : Fin 512) :
    colGrad d x j = ∑ i, X (ix2 (r i) j) * factor X (r i) * D (ix2 (r i) j) := by
  unfold colGrad
  simp only [factor_rows r x X hx, hd, hx]

end rows

end Cert.Mix

end
-- ==== Proof.MixPoint.lean ====
/-
  What a point of the mixer norms' backward kernel leaves in its output blocks, read off its run.
-/
module

public import proofs.«01_k».proof.Proof.Gen.Kernel7Ideal.Value
public import proofs.«01_k».proof.Proof.MixSpec
public import Idealize.ShloMosaic.Lib.Pipeline.ValueKit
public import Idealize.ShloMosaic.Lib.Pipeline.ReadBack
public import Idealize.ShloMosaic.Lib.IdealHost

@[expose] public section

set_option maxRecDepth 16384

noncomputable section

namespace Cert.Kernel7Ideal.Val

open Cert.Kernel7Ideal Cert.Kernel7Ideal.Gen Cert.Ffn Cert.Norm Cert.Mix Idealize.ShloMosaic Idealize.ShloMosaic.TcCoe Idealize.SL.Sem
open Idealize.ShloMosaic.Pipeline (Dat)

/-- The gains of an array of one row. -/
abbrev gains (G : Mat 1 512) : Fin 512 → EReal := fun j => G (ix2 0 j)

section payloads

variable (d x : Vec Ideal S512x512 .f32) (g : Vec Ideal S1x512 .f32)

theorem energy_at (i : Fin 512) : k0_pay8 x (ix2 i 0) = energy x i := by
  unfold energy cols shift
  pointwise [k0_pay8]

theorem factor_at (i : Fin 512) : k0_pay9 x (ix2 i 0) = factor x i := by
  unfold factor
  rw [← energy_at]
  unfold k0_pay9
  pointwise

theorem col0_at (j : Fin 512) : k0_pay12 (k0_pay11 d x) (ix2 0 j) = colGrad d x j := by
  unfold colGrad
  simp only [← factor_at]
  unfold k0_pay12 k0_pay11
  generalize k0_pay9 x = p
  pointwise

theorem row0_at (i : Fin 512) (j : Fin 512) : k0_pay13 d x (k0_pay4 g) (k0_pay9 x) (k0_pay10 x) (ix2 i j) = rowGrad d x (gains g) i j := by
  unfold rowGrad draw minusHalf cols
  rw [← factor_at, ← energy_at]
  unfold k0_pay13 k0_pay10 k0_pay4
  generalize k0_pay9 x = p
  generalize k0_pay8 x = q
  pointwise
  simp only [Fin.sum_univ_one, gains]

theorem col1_at (j : Fin 512) : k0_pay16 d x (ix2 0 j) = colGrad d x j :=
  (congrFun (show k0_pay16 d x = k0_pay12 (k0_pay11 d x) from rfl) (ix2 0 j)).trans (col0_at d x j)

theorem row1_at (i : Fin 512) (j : Fin 512) : k0_pay21 x (k0_pay18 d x (k0_pay5 g)) (k0_pay19 d x (k0_pay5 g)) (k0_pay20 d x (k0_pay5 g)) (ix2 i j)
    = rowGrad d x (gains g) i j :=
  (congrFun (show k0_pay21 x (k0_pay18 d x (k0_pay5 g)) (k0_pay19 d x (k0_pay5 g)) (k0_pay20 d x (k0_pay5 g))
    = k0_pay13 d x (k0_pay4 g) (k0_pay9 x) (k0_pay10 x) from rfl) (ix2 i j)).trans (row0_at d x g i j)

theorem col2_at (j : Fin 512) : k0_pay24 d x (ix2 0 j) = colGrad d x j :=
  (congrFun (show k0_pay24 d x = k0_pay12 (k0_pay11 d x) from rfl) (ix2 0 j)).trans (col0_at d x j)

theorem row2_at (i : Fin 512) (j : Fin 512) : k0_pay25 d x (k0_pay6 g) (ix2 i j)
    = rowGrad d x (gains g) i j :=
  (congrFun (show k0_pay25 d x (k0_pay6 g)
    = k0_pay13 d x (k0_pay4 g) (k0_pay9 x) (k0_pay10 x) from rfl) (ix2 i j)).trans (row0_at d x g i j)

theorem col3_at (j : Fin 512) : k0_pay30 d x (k0_pay29 x) (ix2 0 j) = colGrad d x j :=
  (congrFun (show k0_pay30 d x (k0_pay29 x) = k0_pay12 (k0_pay11 d x) from rfl) (ix2 0 j)).trans (col0_at d x j)

theorem row3_at (i : Fin 512) (j : Fin 512) : k0_pay31 d x (k0_pay7 g) (k0_pay27 x) (k0_pay28 x) (ix2 i j)
    = rowGrad d x (gains g) i j :=
  (congrFun (show k0_pay31 d x (k0_pay7 g) (k0_pay27 x) (k0_pay28 x)
    = k0_pay13 d x (k0_pay4 g) (k0_pay9 x) (k0_pay10 x) from rfl) (ix2 i j)).trans (row0_at d x g i j)

theorem add_at (o p : Vec Ideal S1x512 .f32) (j : Fin 512) : k0_pay32 p o (ix2 0 j) = o (ix2 0 j) + p (ix2 0 j) := by
  unfold k0_pay32
  pointwise

end payloads

variable (m : (ℓ : Loc nD τ sig) → Buf (Elt Ideal) ℓ)

/-- The first point. -/
theorem first_point (t : Fin cfg0.N) (h : t.val % 8 = 0) : ¬ 1 ≤ t.val := by
  have : t.val < 8 := t.isLt
  omega

theorem later_point (t : Fin cfg0.N) (h : ¬ t.val % 8 = 0) : 1 ≤ t.val := by omega

theorem row0_point (c : Dev nD) (t : Fin cfg0.N) (i : Fin 512) (j : Fin 512) : (outsAt0 m c t.val t.isLt).1 (ix2 i j)
    = rowGrad (iblk m c 0 t) (iblk m c 4 t) (gains (iblk m c 8 t)) i j := by
  by_cases h : t.val % 8 = 0
  · rw [outsAt0_A m c t h (first_point t h) h (first_point t h) h (first_point t h) h (first_point t h)]
    frame_out
    exact row0_at _ _ _ i j
  · rw [outsAt0_B m c t h (later_point t h) h (later_point t h) h (later_point t h) h (later_point t h)]
    frame_out
    exact row0_at _ _ _ i j

theorem row1_point (c : Dev nD) (t : Fin cfg0.N) (i : Fin 512) (j : Fin 512) : (outsAt0 m c t.val t.isLt).2.1 (ix2 i j)
    = rowGrad (iblk m c 1 t) (iblk m c 5 t) (gains (iblk m c 9 t)) i j := by
  by_cases h : t.val % 8 = 0
  · rw [outsAt0_A m c t h (first_point t h) h (first_point t h) h (first_point t h) h (first_point t h)]
    frame_out
    exact row1_at _ _ _ i j
  · rw [outsAt0_B m c t h (later_point t h) h (later_point t h) h (later_point t h) h (later_point t h)]
    frame_out
    exact row1_at _ _ _ i j

theorem row2_point (c : Dev nD) (t : Fin cfg0.N) (i : Fin 512) (j : Fin 512) : (outsAt0 m c t.val t.isLt).2.2.1 (ix2 i j)
    = rowGrad (iblk m c 2 t) (iblk m c 6 t) (gains (iblk m c 10 t)) i j := by
  by_cases h : t.val % 8 = 0
  · rw [outsAt0_A m c t h (first_point t h) h (first_point t h) h (first_point t h) h (first_point t h)]
    frame_out
    exact row2_at _ _ _ i j
  · rw [outsAt0_B m c t h (later_point t h) h (later_point t h) h (later_point t h) h (later_point t h)]
    frame_out
    exact row2_at _ _ _ i j

theorem row3_point (c : Dev nD) (t : Fin cfg0.N) (i : Fin 512) (j : Fin 512) : (outsAt0 m c t.val t.isLt).2.2.2.1 (ix2 i j)
    = rowGrad (iblk m c 3 t) (iblk m c 7 t) (gains (iblk m c 11 t)) i j := by
  by_cases h : t.val % 8 = 0
  · rw [outsAt0_A m c t h (first_point t h) h (first_point t h) h (first_point t h) h (first_point t h)]
    frame_out
    exact row3_at _ _ _ i j
  · rw [outsAt0_B m c t h (later_point t h) h (later_point t h) h (later_point t h) h (later_point t h)]
    frame_out
    exact row3_at _ _ _ i j

theorem col0_first (c : Dev nD) (t : Fin cfg0.N) (h : t.val % 8 = 0) (j : Fin 512) :
    (outsAt0 m c t.val t.isLt).2.2.2.2.1 (ix2 0 j) = 0 + colGrad (iblk m c 0 t) (iblk m c 4 t) j := by
  rw [outsAt0_A m c t h (first_point t h) h (first_point t h) h (first_point t h) h (first_point t h), zero_add]
  frame_out
  exact col0_at _ _ j

theorem col0_next (c : Dev nD) (t : Fin cfg0.N) (h : ¬ t.val % 8 = 0) (j : Fin 512) :
    (outsAt0 m c t.val t.isLt).2.2.2.2.1 (ix2 0 j)
      = (outsAt0 m c (t.val - 1) (Nat.lt_of_le_of_lt (Nat.sub_le _ _) t.isLt)).2.2.2.2.1 (ix2 0 j) + colGrad (iblk m c 0 t) (iblk m c 4 t) j := by
  rw [outsAt0_B m c t h (later_point t h) h (later_point t h) h (later_point t h) h (later_point t h)]
  frame_out
  exact (add_at _ _ j).trans (congrArg _ (col0_at _ _ j))

theorem col1_first (c : Dev nD) (t : Fin cfg0.N) (h : t.val % 8 = 0) (j : Fin 512) :
    (outsAt0 m c t.val t.isLt).2.2.2.2.2.1 (ix2 0 j) = 0 + colGrad (iblk m c 1 t) (iblk m c 5 t) j := by
  rw [outsAt0_A m c t h (first_point t h) h (first_point t h) h (first_point t h) h (first_point t h), zero_add]
  frame_out
  exact col1_at _ _ j

theorem col1_next (c : Dev nD) (t : Fin cfg0.N) (h : ¬ t.val % 8 = 0) (j : Fin 512) :
    (outsAt0 m c t.val t.isLt).2.2.2.2.2.1 (ix2 0 j)
      = (outsAt0 m c (t.val - 1) (Nat.lt_of_le_of_lt (Nat.sub_le _ _) t.isLt)).2.2.2.2.2.1 (ix2 0 j) + colGrad (iblk m c 1 t) (iblk m c 5 t) j := by
  rw [outsAt0_B m c t h (later_point t h) h (later_point t h) h (later_point t h) h (later_point t h)]
  frame_out
  exact (add_at _ _ j).trans (congrArg _ (col1_at _ _ j))

theorem col2_first (c : Dev nD) (t : Fin cfg0.N) (h : t.val % 8 = 0) (j : Fin 512) :
    (outsAt0 m c t.val t.isLt).2.2.2.2.2.2.1 (ix2 0 j) = 0 + colGrad (iblk m c 2 t) (iblk m c 6 t) j := by
  rw [outsAt0_A m c t h (first_point t h) h (first_point t h) h (first_point t h) h (first_point t h), zero_add]
  frame_out
  exact col2_at _ _ j

theorem col2_next (c : Dev nD) (t : Fin cfg0.N) (h : ¬ t.val % 8 = 0) (j : Fin 512) :
    (outsAt0 m c t.val t.isLt).2.2.2.2.2.2.1 (ix2 0 j)
      = (outsAt0 m c (t.val - 1) (Nat.lt_of_le_of_lt (Nat.sub_le _ _) t.isLt)).2.2.2.2.2.2.1 (ix2 0 j) + colGrad (iblk m c 2 t) (iblk m c 6 t) j := by
  rw [outsAt0_B m c t h (later_point t h) h (later_point t h) h (later_point t h) h (later_point t h)]
  frame_out
  exact (add_at _ _ j).trans (congrArg _ (col2_at _ _ j))

theorem col3_first (c : Dev nD) (t : Fin cfg0.N) (h : t.val % 8 = 0) (j : Fin 512) :
    (outsAt0 m c t.val t.isLt).2.2.2.2.2.2.2 (ix2 0 j) = 0 + colGrad (iblk m c 3 t) (iblk m c 7 t) j := by
  rw [outsAt0_A m c t h (first_point t h) h (first_point t h) h (first_point t h) h (first_point t h), zero_add]
  frame_out
  exact col3_at _ _ j

theorem col3_next (c : Dev nD) (t : Fin cfg0.N) (h : ¬ t.val % 8 = 0) (j : Fin 512) :
    (outsAt0 m c t.val t.isLt).2.2.2.2.2.2.2 (ix2 0 j)
      = (outsAt0 m c (t.val - 1) (Nat.lt_of_le_of_lt (Nat.sub_le _ _) t.isLt)).2.2.2.2.2.2.2 (ix2 0 j) + colGrad (iblk m c 3 t) (iblk m c 7 t) j := by
  rw [outsAt0_B m c t h (later_point t h) h (later_point t h) h (later_point t h) h (later_point t h)]
  frame_out
  exact (add_at _ _ j).trans (congrArg _ (col3_at _ _ j))

end Cert.Kernel7Ideal.Val

end
-- ==== Proof.MixArrays.lean ====
/-
  The eight output arrays of the mixer norms' backward kernel as functions of the six argument arrays: the gradients of the
  four mixers' rows block by block, and the gradients of their gains summed over the eight points.
-/
module

public import proofs.«01_k».proof.Proof.MixPoint

@[expose] public section

set_option maxRecDepth 16384

noncomputable section

namespace Cert.Kernel7Ideal.Val

open Cert.Kernel7Ideal Cert.Kernel7Ideal.Gen Cert.Ffn Cert.Norm Cert.Mix Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0]
    ∧ win0_1.index t = ![t.val, 1]
    ∧ win0_2.index t = ![t.val, 2]
    ∧ win0_3.index t = ![t.val, 3]
    ∧ win0_4.index t = ![t.val, 0]
    ∧ win0_5.index t = ![t.val, 0]
    ∧ win0_6.index t = ![t.val, 0]
    ∧ win0_7.index t = ![t.val, 0]
    ∧ win0_8.index t = ![0, 0]
    ∧ win0_9.index t = ![0, 0]
    ∧ win0_10.index t = ![0, 0]
    ∧ win0_11.index t = ![0, 0]
    ∧ win0_12.index t = ![t.val, 0]
    ∧ win0_13.index t = ![t.val, 0]
    ∧ win0_14.index t = ![t.val, 0]
    ∧ win0_15.index t = ![t.val, 0]
    ∧ win0_16.index t = ![0, 0]
    ∧ win0_17.index t = ![0, 0]
    ∧ win0_18.index t = ![0, 0]
    ∧ win0_19.index t = ![0, 0] :=
  (by decide +kernel : ∀ t : Fin grid0.N, win0_0.index t = ![t.val, 0]
    ∧ win0_1.index t = ![t.val, 1]
    ∧ win0_2.index t = ![t.val, 2]
    ∧ win0_3.index t = ![t.val, 3]
    ∧ win0_4.index t = ![t.val, 0]
    ∧ win0_5.index t = ![t.val, 0]
    ∧ win0_6.index t = ![t.val, 0]
    ∧ win0_7.index t = ![t.val, 0]
    ∧ win0_8.index t = ![0, 0]
    ∧ win0_9.index t = ![0, 0]
    ∧ win0_10.index t = ![0, 0]
    ∧ win0_11.index t = ![0, 0]
    ∧ win0_12.index t = ![t.val, 0]
    ∧ win0_13.index t = ![t.val, 0]
    ∧ win0_14.index t = ![t.val, 0]
    ∧ win0_15.index t = ![t.val, 0]
    ∧ win0_16.index t = ![0, 0]
    ∧ win0_17.index t = ![0, 0]
    ∧ win0_18.index t = ![0, 0]
    ∧ win0_19.index t = ![0, 0])

theorem points (t : Fin cfg0.N) : t.val < 8 := t.isLt

/-- A point's row among all rows. -/
abbrev rowOf (t : Fin cfg0.N) (i : Fin 512) : Fin 4096 := ⟨512 * t.val + i.val, by have := points t; omega⟩

theorem gain0_val (c : Dev nD) : V m c main_v1 = broadcastInDim S1x512 ![1] bcast_S512_S1x512_1
    (extractStridedSlice S512 ![0] (m (c.tc.loc main_arg4)) slices_S2048_S512_0) := by
  show StableHlo.after hostOps0 _ (Proc.devRef .tc main_v1) = _
  after_results

theorem grad0_in (c : Dev nD) (t : Fin cfg0.N) (i j) : iblk m c 0 t (ix2 i j) = part (m (c.tc.loc main_arg5)) 0 (ix2 (rowOf t i) j) := by
  show _ = m (c.tc.loc main_arg5) (ix2 (rowOf t i) (mixCol 0 j))
  blk_ext [iblk, V, idx t]

theorem row0_in (c : Dev nD) (t : Fin cfg0.N) (i j) : iblk m c 4 t (ix2 i j) = m (c.tc.loc main_arg0) (ix2 (rowOf t i) j) := by
  blk_ext [iblk, V, idx t]

theorem gain0_in (c : Dev nD) (t : Fin cfg0.N) (j) : gains (iblk m c 8 t) j = gainPart (m (c.tc.loc main_arg4)) 0 j := by
  have e : iblk m c 8 t (ix2 0 j) = V m c main_v1 (ix2 0 j) := by blk_ext [iblk, idx t]
  show iblk m c 8 t (ix2 0 j) = m (c.tc.loc main_arg4) (ix1 (mixCol 0 j))
  rw [e, gain0_val]
  pointwise
  exact congrArg (fun q => m (c.tc.loc main_arg4) (ix1 q)) (Fin.ext (by show j.val = 512*0 + j.val; omega))

theorem gain1_val (c : Dev nD) : V m c main_v3 = broadcastInDim S1x512 ![1] bcast_S512_S1x512_1
    (extractStridedSlice S512 ![512] (m (c.tc.loc main_arg4)) slices_S2048_S512_512) := by
  show StableHlo.after hostOps0 _ (Proc.devRef .tc main_v3) = _
  after_results

theorem grad1_in (c : Dev nD) (t : Fin cfg0.N) (i j) : iblk m c 1 t (ix2 i j) = part (m (c.tc.loc main_arg5)) 1 (ix2 (rowOf t i) j) := by
  show _ = m (c.tc.loc main_arg5) (ix2 (rowOf t i) (mixCol 1 j))
  blk_ext [iblk, V, idx t]

theorem row1_in (c : Dev nD) (t : Fin cfg0.N) (i j) : iblk m c 5 t (ix2 i j) = m (c.tc.loc main_arg1) (ix2 (rowOf t i) j) := by
  blk_ext [iblk, V, idx t]

theorem gain1_in (c : Dev nD) (t : Fin cfg0.N) (j) : gains (iblk m c 9 t) j = gainPart (m (c.tc.loc main_arg4)) 1 j := by
  have e : iblk m c 9 t (ix2 0 j) = V m c main_v3 (ix2 0 j) := by blk_ext [iblk, idx t]
  show iblk m c 9 t (ix2 0 j) = m (c.tc.loc main_arg4) (ix1 (mixCol 1 j))
  rw [e, gain1_val]
  pointwise
  exact congrArg (fun q => m (c.tc.loc main_arg4) (ix1 q)) (Fin.ext (by show 512 + j.val = 512*1 + j.val; omega))

theorem gain2_val (c : Dev nD) : V m c main_v5 = broadcastInDim S1x512 ![1] bcast_S512_S1x512_1
    (extractStridedSlice S512 ![1024] (m (c.tc.loc main_arg4)) slices_S2048_S512_1024) := by
  show StableHlo.after hostOps0 _ (Proc.devRef .tc main_v5) = _
  after_results

theorem grad2_in (c : Dev nD) (t : Fin cfg0.N) (i j) : iblk m c 2 t (ix2 i j) = part (m (c.tc.loc main_arg5)) 2 (ix2 (rowOf t i) j) := by
  show _ = m (c.tc.loc main_arg5) (ix2 (rowOf t i) (mixCol 2 j))
  blk_ext [iblk, V, idx t]

theorem row2_in (c : Dev nD) (t : Fin cfg0.N) (i j) : iblk m c 6 t (ix2 i j) = m (c.tc.loc main_arg2) (ix2 (rowOf t i) j) := by
  blk_ext [iblk, V, idx t]

theorem gain2_in (c : Dev nD) (t : Fin cfg0.N) (j) : gains (iblk m c 10 t) j = gainPart (m (c.tc.loc main_arg4)) 2 j := by
  have e : iblk m c 10 t (ix2 0 j) = V m c main_v5 (ix2 0 j) := by blk_ext [iblk, idx t]
  show iblk m c 10 t (ix2 0 j) = m (c.tc.loc main_arg4) (ix1 (mixCol 2 j))
  rw [e, gain2_val]
  pointwise
  exact congrArg (fun q => m (c.tc.loc main_arg4) (ix1 q)) (Fin.ext (by show 1024 + j.val = 512*2 + j.val; omega))

theorem gain3_val (c : Dev nD) : V m c main_v7 = broadcastInDim S1x512 ![1] bcast_S512_S1x512_1
    (extractStridedSlice S512 ![1536] (m (c.tc.loc main_arg4)) slices_S2048_S512_1536) := by
  show StableHlo.after hostOps0 _ (Proc.devRef .tc main_v7) = _
  after_results

theorem grad3_in (c : Dev nD) (t : Fin cfg0.N) (i j) : iblk m c 3 t (ix2 i j) = part (m (c.tc.loc main_arg5)) 3 (ix2 (rowOf t i) j) := by
  show _ = m (c.tc.loc main_arg5) (ix2 (rowOf t i) (mixCol 3 j))
  blk_ext [iblk, V, idx t]

theorem row3_in (c : Dev nD) (t : Fin cfg0.N) (i j) : iblk m c 7 t (ix2 i j) = m (c.tc.loc main_arg3) (ix2 (rowOf t i) j) := by
  blk_ext [iblk, V, idx t]

theorem gain3_in (c : Dev nD) (t : Fin cfg0.N) (j) : gains (iblk m c 11 t) j = gainPart (m (c.tc.loc main_arg4)) 3 j := by
  have e : iblk m c 11 t (ix2 0 j) = V m c main_v7 (ix2 0 j) := by blk_ext [iblk, idx t]
  show iblk m c 11 t (ix2 0 j) = m (c.tc.loc main_arg4) (ix1 (mixCol 3 j))
  rw [e, gain3_val]
  pointwise
  exact congrArg (fun q => m (c.tc.loc main_arg4) (ix1 q)) (Fin.ext (by show 1536 + j.val = 512*3 + j.val; omega))

/-- The points of the whole run. -/
abbrev runPoint (t : Fin cfg0.N) (hr : t.val % 8 = 7) (s : Fin 8) : Fin cfg0.N := ⟨8 * (t.val / 8) + s.val, Pipeline.run_point_lt_of_flush t hr s⟩

/-- What eight points add up, each its rows' share. -/
theorem sum_points (f : (n : Nat) → n < cfg0.N → Fin 512 → EReal) (d x : Fin cfg0.N → Mat 512 512) (D X : Mat 4096 512)
    (hd : ∀ t i j, d t (ix2 i j) = D (ix2 (rowOf t i) j)) (hx : ∀ t i j, x t (ix2 i j) = X (ix2 (rowOf t i) j))
    (first : ∀ t : Fin cfg0.N, t.val % 8 = 0 → ∀ j, f t.val t.isLt j = 0 + colGrad (d t) (x t) j)
    (next : ∀ t : Fin cfg0.N, ¬ t.val % 8 = 0 → ∀ j,
      f t.val t.isLt j = f (t.val - 1) (Nat.lt_of_le_of_lt (Nat.sub_le _ _) t.isLt) j + colGrad (d t) (x t) j)
    (t : Fin cfg0.N) (hr : t.val % 8 = 7) (j : Fin 512) : f t.val t.isLt j = colGrad D X j := by
  have hsum := Pipeline.eq_sum_fin_of_reset_step_apply_of_flush
    f 8 (fun _ => (0 : EReal)) (fun t j => colGrad (d t) (x t) j) (fun t h j => first t h j) (fun t h j => next t h j) t hr j
  refine hsum.trans ?_
  rw [zero_add]
  refine (Finset.sum_congr rfl fun s _ => colGrad_rows (rowOf (runPoint t hr s)) _ _ D X (hd _) (hx _) j).trans ?_
  unfold colGrad
  refine Eq.trans ?_ (Fin.sum_univ_tiles 8 512 rfl _).symm
  refine Finset.sum_congr rfl fun s _ => Finset.sum_congr rfl fun i _ => ?_
  have e : rowOf (runPoint t hr s) i = ⟨s.val * 512 + i.val, by omega⟩ :=
    Fin.ext (by show 512 * (8 * (t.val / 8) + s.val) + i.val = s.val * 512 + i.val; have := points t; omega)
  rw [e]

theorem dy0_array (c : Dev nD) : (dats m 0 c).arrAt 12 cfg0.N
    = fun x => rowGrad (part (m (c.tc.loc main_arg5)) 0) (m (c.tc.loc main_arg0)) (gainPart (m (c.tc.loc main_arg4)) 0) (x 0) (x 1) := by
  refine (dats m 0 c).arrAt_eq_of_covers 12 _ (by decide +kernel) fun t hf y => ?_
  blk_simp
  rw [after0_12]
  have he : (win0_12.blk t).view.emb y = ix2 (rowOf t (y 0)) (y 1) := by
    funext a
    match a with
    | 0 => exact Fin.ext (by blk_simp [idx t]; show _ = 512 * t.val + (y 0).val; omega)
    | 1 => exact Fin.ext (by blk_simp [idx t])
  rw [he]
  exact (congrArg _ (ix2_of y)).trans ((row0_point m c t (y 0) (y 1)).trans
    (rowGrad_rows (rowOf t) _ _ _ _ _ _ (grad0_in m c t) (row0_in m c t) (gain0_in m c t) (y 0) (y 1)))

theorem dy1_array (c : Dev nD) : (dats m 0 c).arrAt 13 cfg0.N
    = fun x => rowGrad (part (m (c.tc.loc main_arg5)) 1) (m (c.tc.loc main_arg1)) (gainPart (m (c.tc.loc main_arg4)) 1) (x 0) (x 1) := by
  refine (dats m 0 c).arrAt_eq_of_covers 13 _ (by decide +kernel) fun t hf y => ?_
  blk_simp
  rw [after0_13]
  have he : (win0_13.blk t).view.emb y = ix2 (rowOf t (y 0)) (y 1) := by
    funext a
    match a with
    | 0 => exact Fin.ext (by blk_simp [idx t]; show _ = 512 * t.val + (y 0).val; omega)
    | 1 => exact Fin.ext (by blk_simp [idx t])
  rw [he]
  exact (congrArg _ (ix2_of y)).trans ((row1_point m c t (y 0) (y 1)).trans
    (rowGrad_rows (rowOf t) _ _ _ _ _ _ (grad1_in m c t) (row1_in m c t) (gain1_in m c t) (y 0) (y 1)))

theorem dy2_array (c : Dev nD) : (dats m 0 c).arrAt 14 cfg0.N
    = fun x => rowGrad (part (m (c.tc.loc main_arg5)) 2) (m (c.tc.loc main_arg2)) (gainPart (m (c.tc.loc main_arg4)) 2) (x 0) (x 1) := by
  refine (dats m 0 c).arrAt_eq_of_covers 14 _ (by decide +kernel) fun t hf y => ?_
  blk_simp
  rw [after0_14]
  have he : (win0_14.blk t).view.emb y = ix2 (rowOf t (y 0)) (y 1) := by
    funext a
    match a with
    | 0 => exact Fin.ext (by blk_simp [idx t]; show _ = 512 * t.val + (y 0).val; omega)
    | 1 => exact Fin.ext (by blk_simp [idx t])
  rw [he]
  exact (congrArg _ (ix2_of y)).trans ((row2_point m c t (y 0) (y 1)).trans
    (rowGrad_rows (rowOf t) _ _ _ _ _ _ (grad2_in m c t) (row2_in m c t) (gain2_in m c t) (y 0) (y 1)))

theorem dy3_array (c : Dev nD) : (dats m 0 c).arrAt 15 cfg0.N
    = fun x => rowGrad (part (m (c.tc.loc main_arg5)) 3) (m (c.tc.loc main_arg3)) (gainPart (m (c.tc.loc main_arg4)) 3) (x 0) (x 1) := by
  refine (dats m 0 c).arrAt_eq_of_covers 15 _ (by decide +kernel) fun t hf y => ?_
  blk_simp
  rw [after0_15]
  have he : (win0_15.blk t).view.emb y = ix2 (rowOf t (y 0)) (y 1) := by
    funext a
    match a with
    | 0 => exact Fin.ext (by blk_simp [idx t]; show _ = 512 * t.val + (y 0).val; omega)
    | 1 => exact Fin.ext (by blk_simp [idx t])
  rw [he]
  exact (congrArg _ (ix2_of y)).trans ((row3_point m c t (y 0) (y 1)).trans
    (rowGrad_rows (rowOf t) _ _ _ _ _ _ (grad3_in m c t) (row3_in m c t) (gain3_in m c t) (y 0) (y 1)))

theorem dg0_array (c : Dev nD) : (dats m 0 c).arrAt 16 cfg0.N = fun x => colGrad (part (m (c.tc.loc main_arg5)) 0) (m (c.tc.loc main_arg0)) (x 1) := by
  refine (dats m 0 c).arrAt_eq_of_covers 16 _ (by decide +kernel) fun t hf y => ?_
  have hr := (flush0_16 t).mp hf
  blk_simp
  rw [after0_16]
  have hy : y = ix2 0 (y 1) := by
    have h0 : (y 0 : Nat) < 1 := (y 0).isLt
    funext a
    match a with
    | 0 => exact Fin.ext (by show (y 0 : Nat) = 0; omega)
    | 1 => rfl
  have he : (win0_16.blk t).view.emb y = ix2 0 (y 1) := by
    have h0 : (y 0 : Nat) < 1 := (y 0).isLt
    funext a
    match a with
    | 0 => exact Fin.ext (by blk_simp [idx t]; rfl)
    | 1 => exact Fin.ext (by blk_simp [idx t])
  rw [he]
  exact (congrArg _ hy).trans (sum_points (fun n hn j => (outsAt0 m c n hn).2.2.2.2.1 (ix2 0 j)) (fun t => iblk m c 0 t) (fun t => iblk m c 4 t) _ _
    (grad0_in m c) (row0_in m c) (col0_first m c) (col0_next m c) t hr (y 1))

theorem dg1_array (c : Dev nD) : (dats m 0 c).arrAt 17 cfg0.N = fun x => colGrad (part (m (c.tc.loc main_arg5)) 1) (m (c.tc.loc main_arg1)) (x 1) := by
  refine (dats m 0 c).arrAt_eq_of_covers 17 _ (by decide +kernel) fun t hf y => ?_
  have hr := (flush0_17 t).mp hf
  blk_simp
  rw [after0_17]
  have hy : y = ix2 0 (y 1) := by
    have h0 : (y 0 : Nat) < 1 := (y 0).isLt
    funext a
    match a with
    | 0 => exact Fin.ext (by show (y 0 : Nat) = 0; omega)
    | 1 => rfl
  have he : (win0_17.blk t).view.emb y = ix2 0 (y 1) := by
    have h0 : (y 0 : Nat) < 1 := (y 0).isLt
    funext a
    match a with
    | 0 => exact Fin.ext (by blk_simp [idx t]; rfl)
    | 1 => exact Fin.ext (by blk_simp [idx t])
  rw [he]
  exact (congrArg _ hy).trans (sum_points (fun n hn j => (outsAt0 m c n hn).2.2.2.2.2.1 (ix2 0 j)) (fun t => iblk m c 1 t) (fun t => iblk m c 5 t) _ _
    (grad1_in m c) (row1_in m c) (col1_first m c) (col1_next m c) t hr (y 1))

theorem dg2_array (c : Dev nD) : (dats m 0 c).arrAt 18 cfg0.N = fun x => colGrad (part (m (c.tc.loc main_arg5)) 2) (m (c.tc.loc main_arg2)) (x 1) := by
  refine (dats m 0 c).arrAt_eq_of_covers 18 _ (by decide +kernel) fun t hf y => ?_
  have hr := (flush0_18 t).mp hf
  blk_simp
  rw [after0_18]
  have hy : y = ix2 0 (y 1) := by
    have h0 : (y 0 : Nat) < 1 := (y 0).isLt
    funext a
    match a with
    | 0 => exact Fin.ext (by show (y 0 : Nat) = 0; omega)
    | 1 => rfl
  have he : (win0_18.blk t).view.emb y = ix2 0 (y 1) := by
    have h0 : (y 0 : Nat) < 1 := (y 0).isLt
    funext a
    match a with
    | 0 => exact Fin.ext (by blk_simp [idx t]; rfl)
    | 1 => exact Fin.ext (by blk_simp [idx t])
  rw [he]
  exact (congrArg _ hy).trans (sum_points (fun n hn j => (outsAt0 m c n hn).2.2.2.2.2.2.1 (ix2 0 j)) (fun t => iblk m c 2 t) (fun t => iblk m c 6 t) _ _
    (grad2_in m c) (row2_in m c) (col2_first m c) (col2_next m c) t hr (y 1))

theorem dg3_array (c : Dev nD) : (dats m 0 c).arrAt 19 cfg0.N = fun x => colGrad (part (m (c.tc.loc main_arg5)) 3) (m (c.tc.loc main_arg3)) (x 1) := by
  refine (dats m 0 c).arrAt_eq_of_covers 19 _ (by decide +kernel) fun t hf y => ?_
  have hr := (flush0_19 t).mp hf
  blk_simp
  rw [after0_19]
  have hy : y = ix2 0 (y 1) := by
    have h0 : (y 0 : Nat) < 1 := (y 0).isLt
    funext a
    match a with
    | 0 => exact Fin.ext (by show (y 0 : Nat) = 0; omega)
    | 1 => rfl
  have he : (win0_19.blk t).view.emb y = ix2 0 (y 1) := by
    have h0 : (y 0 : Nat) < 1 := (y 0).isLt
    funext a
    match a with
    | 0 => exact Fin.ext (by blk_simp [idx t]; rfl)
    | 1 => exact Fin.ext (by blk_simp [idx t])
  rw [he]
  exact (congrArg _ hy).trans (sum_points (fun n hn j => (outsAt0 m c n hn).2.2.2.2.2.2.2 (ix2 0 j)) (fun t => iblk m c 3 t) (fun t => iblk m c 7 t) _ _
    (grad3_in m c) (row3_in m c) (col3_first m c) (col3_next m c) t hr (y 1))

theorem run (ρ : Dev nD → PrngReg) : θ_run defs (onTc (τ := τ) (main (F := Ideal))) ⟨m, fun _ => 0, ρ⟩ fun r => ∀ c : Dev nD,
      r.2.mem ((c.tc : Thread nD τ).loc main_v8_0) = (fun x => rowGrad (part (m ((c.tc : Thread nD τ).loc main_arg5)) 0) (m ((c.tc : Thread nD τ).loc main_arg0)) (gainPart (m ((c.tc : Thread nD τ).loc main_arg4)) 0) (x 0) (x 1) : Mat 4096 512)
      ∧ r.2.mem ((c.tc : Thread nD τ).loc main_v8_1) = (fun x => rowGrad (part (m ((c.tc : Thread nD τ).loc main_arg5)) 1) (m ((c.tc : Thread nD τ).loc main_arg1)) (gainPart (m ((c.tc : Thread nD τ).loc main_arg4)) 1) (x 0) (x 1) : Mat 4096 512)
      ∧ r.2.mem ((c.tc : Thread nD τ).loc main_v8_2) = (fun x => rowGrad (part (m ((c.tc : Thread nD τ).loc main_arg5)) 2) (m ((c.tc : Thread nD τ).loc main_arg2)) (gainPart (m ((c.tc : Thread nD τ).loc main_arg4)) 2) (x 0) (x 1) : Mat 4096 512)
      ∧ r.2.mem ((c.tc : Thread nD τ).loc main_v8_3) = (fun x => rowGrad (part (m ((c.tc : Thread nD τ).loc main_arg5)) 3) (m ((c.tc : Thread nD τ).loc main_arg3)) (gainPart (m ((c.tc : Thread nD τ).loc main_arg4)) 3) (x 0) (x 1) : Mat 4096 512)
      ∧ r.2.mem ((c.tc : Thread nD τ).loc main_v8_4) = (fun x => colGrad (part (m ((c.tc : Thread nD τ).loc main_arg5)) 0) (m ((c.tc : Thread nD τ).loc main_arg0)) (x 1) : Mat 1 512)
      ∧ r.2.mem ((c.tc : Thread nD τ).loc main_v8_5) = (fun x => colGrad (part (m ((c.tc : Thread nD τ).loc main_arg5)) 1) (m ((c.tc : Thread nD τ).loc main_arg1)) (x 1) : Mat 1 512)
      ∧ r.2.mem ((c.tc : Thread nD τ).loc main_v8_6) = (fun x => colGrad (part (m ((c.tc : Thread nD τ).loc main_arg5)) 2) (m ((c.tc : Thread nD τ).loc main_arg2)) (x 1) : Mat 1 512)
      ∧ r.2.mem ((c.tc : Thread nD τ).loc main_v8_7) = (fun x => colGrad (part (m ((c.tc : Thread nD τ).loc main_arg5)) 3) (m ((c.tc : Thread nD τ).loc main_arg3)) (x 1) : Mat 1 512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run_blocks m ρ)
  obtain ⟨h0, h1, h2, h3, h4, h5, h6, h7, rest⟩ := h c
  exact ⟨h0.trans (dy0_array m c), h1.trans (dy1_array m c), h2.trans (dy2_array m c), h3.trans (dy3_array m c),
    h4.trans (dg0_array m c), h5.trans (dg1_array m c), h6.trans (dg2_array m c), h7.trans (dg3_array m c), rest⟩

end Cert.Kernel7Ideal.Val

end
-- ==== Proof.MixRef.lean ====
/-
  The reference's eight result terms of the mixer norms' gradient, read at an index: four mixers side by side in an array of
  three axes, the norm along the last.
-/
module

public import proofs.«01_k».proof.Proof.Gen.Reference7Ideal.Run
public import proofs.«01_k».proof.Proof.MixSpec
public import Idealize.ShloMosaic.Lib.Pointwise
public import Idealize.ShloMosaic.Lib.IdealHost

@[expose] public section

set_option maxRecDepth 16384

noncomputable section

namespace Cert.Reference7Ideal.Val

open Cert.Reference7Ideal Cert.Reference7Ideal.Gen Cert.Ffn Cert.Norm Cert.Mix Idealize.ShloMosaic Idealize.ShloMosaic.TcCoe Idealize.SL.Sem Idealize.ShloMosaic.StableHlo

variable (a b c d : FVec Ideal S4096x512 .f32) (g : FVec Ideal S2048 .f32) (e : FVec Ideal S4096x2048 .f32)

/-- The four mixers side by side. -/
def refStack : FVec Ideal S4096x4x512 .f32 :=
  concatenate S4096x4x512 1 [⟨S4096x1x512, broadcastInDim S4096x1x512 ![0, 2] bcast_S4096x512_S4096x1x512_0_2 a⟩,
    ⟨S4096x1x512, broadcastInDim S4096x1x512 ![0, 2] bcast_S4096x512_S4096x1x512_0_2 b⟩,
    ⟨S4096x1x512, broadcastInDim S4096x1x512 ![0, 2] bcast_S4096x512_S4096x1x512_0_2 c⟩,
    ⟨S4096x1x512, broadcastInDim S4096x1x512 ![0, 2] bcast_S4096x512_S4096x1x512_0_2 d⟩] concatenates_S4096x1x512_S4096x1x512_S4096x1x512_S4096x1x512_S4096x4x512_d1
/-- One of the four mixers. -/
def pick : Fin 4 → FVec Ideal S4096x512 .f32 := ![a, b, c, d]

theorem stack_at (i : Fin 4096) (s : Fin 4) (j : Fin 512) : refStack a b c d (ix3 i s j) = pick a b c d s (ix2 i j) := by
  unfold refStack pick
  fin_cases s <;> pointwise

variable (x : FVec Ideal S4096x4x512 .f32)

/-- Mixer `s` of a stack. -/
def layer (s : Fin 4) : Mat 4096 512 := fun z => x (ix3 (z 0) s (z 1))

theorem layer_stack (s : Fin 4) : layer (refStack a b c d) s = pick a b c d s := by
  funext z
  idx_vars z
  exact stack_at a b c d z0 s z1

/-- The gradient, side by side. -/
def refD : FVec Ideal S4096x4x512 .f32 := shapeCast S4096x4x512 e shapeCasts_S4096x2048_S4096x4x512
/-- The gains, side by side, in every row. -/
def refGain : FVec Ideal S4096x4x512 .f32 :=
  broadcastInDim S4096x4x512 ![0, 1, 2] bcast_S1x4x512_S4096x4x512_0_1_2 (broadcastInDim S1x4x512 ![1, 2] bcast_S4x512_S1x4x512_1_2 (shapeCast S4x512 g shapeCasts_S2048_S4x512))
/-- The shifted mean square of every row of every mixer. -/
def refPower : FVec Ideal S4096x4x1 .f32 :=
  addf (Host.divf (broadcastInDim S4096x4x1 ![0, 1] bcast_S4096x4_S4096x4x1_0_1 (Host.reduceAdd (mulf x x) (constant S_ .f32 0x00000000#32) reducesTo_S4096x4x512_S4096x4_d2 h_S_))
    (broadcastInDim S4096x4x1 ![] bcast_S_S4096x4x1 (constant S_ .f32 0x44000000#32))) (broadcastInDim S4096x4x1 ![] bcast_S_S4096x4x1 (constant S_ .f32 0x358637BD#32))
/-- What every row of every mixer is multiplied with, in every column. -/
def refScale : FVec Ideal S4096x4x512 .f32 := broadcastInDim S4096x4x512 ![0, 1, 2] bcast_S4096x4x1_S4096x4x512_0_1_2 (Host.rsqrt (refPower x))
/-- The gradient of half the sum of every row's squares. -/
def refPull : FVec Ideal S4096x4x512 .f32 :=
  broadcastInDim S4096x4x512 ![0, 1] bcast_S4096x4_S4096x4x512_0_1 (Host.reduceAdd (Host.divf (mulf (shapeCast S4096x4x1 (Host.reduceAdd (mulf x (mulf (refD e) (refGain g)))
    (constant S_ .f32 0x00000000#32) reducesTo_S4096x4x512_S4096x4_d2 h_S_) shapeCasts_S4096x4_S4096x4x1)
    (mulf (broadcastInDim S4096x4x1 ![] bcast_S_S4096x4x1 (constant S_ .f32 0xBF000000#32)) (Host.divf (Host.rsqrt (refPower x)) (refPower x))))
    (broadcastInDim S4096x4x1 ![] bcast_S_S4096x4x1 (constant S_ .f32 0x44000000#32))) (constant S_ .f32 0x00000000#32) reducesTo_S4096x4x1_S4096x4_d2 h_S_)
/-- The gradient of the rows of the four mixers. -/
def refDx : FVec Ideal S4096x4x512 .f32 :=
  addf (addf (mulf (mulf (refD e) (refGain g)) (refScale x)) (mulf x (refPull g e x))) (mulf (refPull g e x) x)
/-- The gradient of all gains, as one row. -/
def refDg : FVec Ideal S1x2048 .f32 :=
  broadcastInDim S1x2048 ![1] bcast_S2048_S1x2048_1 (shapeCast S2048 (Host.reduceAdd (shapeCast S1x4x512 (Host.reduceAdd (mulf (mulf x (refScale x)) (refD e))
    (constant S_ .f32 0x00000000#32) reducesTo_S4096x4x512_S4x512_d0 h_S_) shapeCasts_S4x512_S1x4x512) (constant S_ .f32 0x00000000#32) reducesTo_S1x4x512_S4x512_d0 h_S_) shapeCasts_S4x512_S2048)

theorem grad_at (i : Fin 4096) (s : Fin 4) (j : Fin 512) : refD e (ix3 i s j) = part e s (ix2 i j) := by
  show _ = e (ix2 i (mixCol s j))
  pointwise [refD]
  exact congrArg (fun q => e (ix2 i q)) (Fin.ext (by show s.val * 512 + j.val = 512 * s.val + j.val; omega))

theorem gain_at (i : Fin 4096) (s : Fin 4) (j : Fin 512) : refGain g (ix3 i s j) = gainPart g s j := by
  show _ = g (ix1 (mixCol s j))
  pointwise [refGain]
  exact congrArg (fun q => g (ix1 q)) (Fin.ext (by show s.val * 512 + j.val = 512 * s.val + j.val; omega))

theorem power_at (i : Fin 4096) (s : Fin 4) : refPower x (ix3 i s 0) = energy (layer x s) i := by
  unfold energy cols shift layer
  pointwise [refPower]

theorem scale_at (i : Fin 4096) (s : Fin 4) (j : Fin 512) : refScale x (ix3 i s j) = factor (layer x s) i := by
  unfold factor
  rw [← power_at]
  pointwise [refScale]

theorem pull_at (i : Fin 4096) (s : Fin 4) (j : Fin 512) : refPull g e x (ix3 i s j) = draw (part e s) (layer x s) (gainPart g s) i := by
  have h : draw (part e s) (layer x s) (gainPart g s) i
      = Ideal.div ((∑ l, x (ix3 i s l) * (refD e (ix3 i s l) * refGain g (ix3 i s l))) * (minusHalf * Ideal.div (Ideal.rsqrt (refPower x (ix3 i s 0))) (refPower x (ix3 i s 0)))) cols := by
    unfold draw factor
    simp only [gain_at, power_at, grad_at]
    rfl
  rw [h]
  unfold minusHalf cols refPull
  generalize refPower x = p
  generalize refGain g = q
  generalize refD e = r
  pointwise
  exact Fin.sum_univ_one _

theorem dx_at (i : Fin 4096) (s : Fin 4) (j : Fin 512) : refDx g e x (ix3 i s j) = rowGrad (part e s) (layer x s) (gainPart g s) i j := by
  have h : refDx g e x (ix3 i s j) = refD e (ix3 i s j) * refGain g (ix3 i s j) * refScale x (ix3 i s j) + x (ix3 i s j) * refPull g e x (ix3 i s j)
      + refPull g e x (ix3 i s j) * x (ix3 i s j) := rfl
  rw [h, gain_at, scale_at, pull_at, grad_at]
  rfl

theorem dg_at (s : Fin 4) (j : Fin 512) : refDg e x (ix2 0 (mixCol s j)) = colGrad (part e s) (layer x s) j := by
  have h : colGrad (part e s) (layer x s) j = ∑ i, x (ix3 i s j) * refScale x (ix3 i s j) * refD e (ix3 i s j) := by
    unfold colGrad
    simp only [scale_at, grad_at]
    rfl
  refine Eq.trans ?_ h.symm
  unfold refDg
  generalize refScale x = p
  generalize refD e = r
  pointwise
  exact Fin.sum_univ_one _

/-- The gradient of mixer 0's rows. -/
def refDy0 : FVec Ideal S4096x512 .f32 :=
  shapeCast S4096x512 (extractStridedSlice S4096x1x512 ![0, 0, 0] (refDx g e x) slices_S4096x4x512_S4096x1x512_0_0_0) shapeCasts_S4096x1x512_S4096x512
/-- The gradient of mixer 0's gains. -/
def refDg0 : FVec Ideal S1x512 .f32 := extractStridedSlice S1x512 ![0, 0] (refDg e x) slices_S1x2048_S1x512_0_0

theorem dy0_eq : refDy0 g e (refStack a b c d) = fun z => rowGrad (part e 0) a (gainPart g 0) (z 0) (z 1) := by
  funext z
  idx_vars z
  have h : refDy0 g e (refStack a b c d) (ix2 z0 z1) = refDx g e (refStack a b c d) (ix3 z0 0 z1) := by
    unfold refDy0
    generalize refDx g e (refStack a b c d) = p
    pointwise
  rw [h, dx_at, layer_stack]
  rfl

theorem dg0_eq : refDg0 e (refStack a b c d) = fun z => colGrad (part e 0) a (z 1) := by
  funext z
  idx_vars z
  have h : refDg0 e (refStack a b c d) (ix2 z0 z1) = refDg e (refStack a b c d) (ix2 0 (mixCol 0 z1)) := by
    unfold refDg0
    generalize refDg e (refStack a b c d) = p
    pointwise
    exact congrArg (fun q => p (ix2 0 q)) (Fin.ext (by show z1.val = 512 * 0 + z1.val; omega))
  rw [h, dg_at, layer_stack]
  rfl

/-- The gradient of mixer 1's rows. -/
def refDy1 : FVec Ideal S4096x512 .f32 :=
  shapeCast S4096x512 (extractStridedSlice S4096x1x512 ![0, 1, 0] (refDx g e x) slices_S4096x4x512_S4096x1x512_0_1_0) shapeCasts_S4096x1x512_S4096x512
/-- The gradient of mixer 1's gains. -/
def refDg1 : FVec Ideal S1x512 .f32 := extractStridedSlice S1x512 ![0, 512] (refDg e x) slices_S1x2048_S1x512_0_512

theorem dy1_eq : refDy1 g e (refStack a b c d) = fun z => rowGrad (part e 1) b (gainPart g 1) (z 0) (z 1) := by
  funext z
  idx_vars z
  have h : refDy1 g e (refStack a b c d) (ix2 z0 z1) = refDx g e (refStack a b c d) (ix3 z0 1 z1) := by
    unfold refDy1
    generalize refDx g e (refStack a b c d) = p
    pointwise
  rw [h, dx_at, layer_stack]
  rfl

theorem dg1_eq : refDg1 e (refStack a b c d) = fun z => colGrad (part e 1) b (z 1) := by
  funext z
  idx_vars z
  have h : refDg1 e (refStack a b c d) (ix2 z0 z1) = refDg e (refStack a b c d) (ix2 0 (mixCol 1 z1)) := by
    unfold refDg1
    generalize refDg e (refStack a b c d) = p
    pointwise
    exact congrArg (fun q => p (ix2 0 q)) (Fin.ext (by show 512 + z1.val = 512 * 1 + z1.val; omega))
  rw [h, dg_at, layer_stack]
  rfl

/-- The gradient of mixer 2's rows. -/
def refDy2 : FVec Ideal S4096x512 .f32 :=
  shapeCast S4096x512 (extractStridedSlice S4096x1x512 ![0, 2, 0] (refDx g e x) slices_S4096x4x512_S4096x1x512_0_2_0) shapeCasts_S4096x1x512_S4096x512
/-- The gradient of mixer 2's gains. -/
def refDg2 : FVec Ideal S1x512 .f32 := extractStridedSlice S1x512 ![0, 1024] (refDg e x) slices_S1x2048_S1x512_0_1024

theorem dy2_eq : refDy2 g e (refStack a b c d) = fun z => rowGrad (part e 2) c (gainPart g 2) (z 0) (z 1) := by
  funext z
  idx_vars z
  have h : refDy2 g e (refStack a b c d) (ix2 z0 z1) = refDx g e (refStack a b c d) (ix3 z0 2 z1) := by
    unfold refDy2
    generalize refDx g e (refStack a b c d) = p
    pointwise
  rw [h, dx_at, layer_stack]
  rfl

theorem dg2_eq : refDg2 e (refStack a b c d) = fun z => colGrad (part e 2) c (z 1) := by
  funext z
  idx_vars z
  have h : refDg2 e (refStack a b c d) (ix2 z0 z1) = refDg e (refStack a b c d) (ix2 0 (mixCol 2 z1)) := by
    unfold refDg2
    generalize refDg e (refStack a b c d) = p
    pointwise
    exact congrArg (fun q => p (ix2 0 q)) (Fin.ext (by show 1024 + z1.val = 512 * 2 + z1.val; omega))
  rw [h, dg_at, layer_stack]
  rfl

/-- The gradient of mixer 3's rows. -/
def refDy3 : FVec Ideal S4096x512 .f32 :=
  shapeCast S4096x512 (extractStridedSlice S4096x1x512 ![0, 3, 0] (refDx g e x) slices_S4096x4x512_S4096x1x512_0_3_0) shapeCasts_S4096x1x512_S4096x512
/-- The gradient of mixer 3's gains. -/
def refDg3 : FVec Ideal S1x512 .f32 := extractStridedSlice S1x512 ![0, 1536] (refDg e x) slices_S1x2048_S1x512_0_1536

theorem dy3_eq : refDy3 g e (refStack a b c d) = fun z => rowGrad (part e 3) d (gainPart g 3) (z 0) (z 1) := by
  funext z
  idx_vars z
  have h : refDy3 g e (refStack a b c d) (ix2 z0 z1) = refDx g e (refStack a b c d) (ix3 z0 3 z1) := by
    unfold refDy3
    generalize refDx g e (refStack a b c d) = p
    pointwise
  rw [h, dx_at, layer_stack]
  rfl

theorem dg3_eq : refDg3 e (refStack a b c d) = fun z => colGrad (part e 3) d (z 1) := by
  funext z
  idx_vars z
  have h : refDg3 e (refStack a b c d) (ix2 z0 z1) = refDg e (refStack a b c d) (ix2 0 (mixCol 3 z1)) := by
    unfold refDg3
    generalize refDg e (refStack a b c d) = p
    pointwise
    exact congrArg (fun q => p (ix2 0 q)) (Fin.ext (by show 1536 + z1.val = 512 * 3 + z1.val; omega))
  rw [h, dg_at, layer_stack]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = refDy0 (m ((c.tc : Thread nD τ).loc main_arg4)) (m ((c.tc : Thread nD τ).loc main_arg5)) (refStack (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v48) = refDy1 (m ((c.tc : Thread nD τ).loc main_arg4)) (m ((c.tc : Thread nD τ).loc main_arg5)) (refStack (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v50) = refDy2 (m ((c.tc : Thread nD τ).loc main_arg4)) (m ((c.tc : Thread nD τ).loc main_arg5)) (refStack (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v52) = refDy3 (m ((c.tc : Thread nD τ).loc main_arg4)) (m ((c.tc : Thread nD τ).loc main_arg5)) (refStack (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v54) = refDg0 (m ((c.tc : Thread nD τ).loc main_arg5)) (refStack (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v55) = refDg1 (m ((c.tc : Thread nD τ).loc main_arg5)) (refStack (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v56) = refDg2 (m ((c.tc : Thread nD τ).loc main_arg5)) (refStack (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v57) = refDg3 (m ((c.tc : Thread nD τ).loc main_arg5)) (refStack (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h => h) (Value.run m ρ)

end Cert.Reference7Ideal.Val

end
-- ==== Proof.MixFwd.lean ====
/-
  The mixer norms' forward kernel: the output array as a function of the five argument arrays.
-/
module

public import proofs.«01_k».proof.Proof.Gen.Kernel8Ideal.Value
public import proofs.«01_k».proof.Proof.MixSpec
public import Idealize.ShloMosaic.Lib.Pipeline.ValueKit
public import Idealize.ShloMosaic.Lib.Pipeline.ReadBack
public import Idealize.ShloMosaic.Lib.IdealHost

@[expose] public section

set_option maxRecDepth 16384

noncomputable section

namespace Cert.Kernel8Ideal.Val

open Cert.Kernel8Ideal Cert.Kernel8Ideal.Gen Cert.Ffn Cert.Norm Cert.Mix Idealize.ShloMosaic Idealize.ShloMosaic.TcCoe Idealize.SL.Sem
open Idealize.ShloMosaic.Pipeline (Dat)

/-- The gains of an array of one row. -/
abbrev gains (G : Mat 1 512) : Fin 512 → EReal := fun j => G (ix2 0 j)

theorem norm_at (x : Vec Ideal S512x512 .f32) (g : Vec Ideal S1x512 .f32) (i j : Fin 512) : k0_pay4 x g (ix2 i j) = normAt x (gains g) i j := by
  unfold normAt factor energy cols shift
  pointwise [k0_pay4]

/-- The four blocks of a point, normed. -/
def four (x y z w : Vec Ideal S512x512 .f32) (a b c d : Vec Ideal S1x512 .f32) : Fin 4 → Vec Ideal S512x512 .f32 :=
  ![k0_pay4 x a, k0_pay4 y b, k0_pay4 z c, k0_pay4 w d]

theorem block_at (x y z w : Vec Ideal S512x512 .f32) (a b c d : Vec Ideal S1x512 .f32) (i : Fin 512) (s : Fin 4) (j : Fin 512) :
    k0_pay1 z w (k0_pay2 c) (k0_pay3 d) (k0_pay4 x a) (k0_pay5 y b) (k0_pay6 z) (ix2 i (mixCol s j)) = four x y z w a b c d s (ix2 i j) := by
  have e : k0_pay1 z w (k0_pay2 c) (k0_pay3 d) (k0_pay4 x a) (k0_pay5 y b) (k0_pay6 z)
      = (concatenate S512x2048 1 (List.ofFn fun n : Fin 4 => (⟨S512x512, four x y z w a b c d n⟩ : (q : Shape) × (q.Idx → _)))
        concatenates_S512x512_S512x512_S512x512_S512x512_S512x2048_d1 : Vec Ideal S512x2048 .f32) := rfl
  rw [e]
  have hs : s.val < 4 := s.isLt
  have hj : j.val < 512 := j.isLt
  refine concatenate_ofFn_apply (t := S512x2048) (s₁ := S512x512) (1 : Fin 2) (four x y z w a b c d) _ rfl 512 rfl (ix2 i (mixCol s j)) s
    (by show (512 * s.val + j.val) / 512 = s.val; omega) (ix2 i j) (by show j.val = (512 * s.val + j.val) % 512; omega) ?_
  intro q hq
  match q with
  | 0 => rfl
  | 1 => exact absurd rfl hq

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![t.val, 0] :=
  (by decide +kernel : ∀ t : Fin grid0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![t.val, 0])

theorem points (t : Fin cfg0.N) : t.val < 8 := t.isLt

/-- A point's row among all rows. -/
abbrev rowOf (t : Fin cfg0.N) (i : Fin 512) : Fin 4096 := ⟨512 * t.val + i.val, by have := points t; omega⟩

theorem gain0_val (c : Dev nD) : V m c main_v1 = broadcastInDim S1x512 ![1] bcast_S512_S1x512_1
    (extractStridedSlice S512 ![0] (m (c.tc.loc main_arg4)) slices_S2048_S512_0) := by
  show StableHlo.after hostOps0 _ (Proc.devRef .tc main_v1) = _
  after_results

theorem row0_in (c : Dev nD) (t : Fin cfg0.N) (i j) : iblk m c 0 t (ix2 i j) = m (c.tc.loc main_arg0) (ix2 (rowOf t i) j) := by
  blk_ext [iblk, V, idx t]

theorem gain0_in (c : Dev nD) (t : Fin cfg0.N) (j) : gains (iblk m c 4 t) j = gainPart (m (c.tc.loc main_arg4)) 0 j := by
  have e : iblk m c 4 t (ix2 0 j) = V m c main_v1 (ix2 0 j) := by blk_ext [iblk, idx t]
  show iblk m c 4 t (ix2 0 j) = m (c.tc.loc main_arg4) (ix1 (mixCol 0 j))
  rw [e, gain0_val]
  pointwise
  exact congrArg (fun q => m (c.tc.loc main_arg4) (ix1 q)) (Fin.ext (by show j.val = 512 * 0 + j.val; omega))

theorem norm0_in (c : Dev nD) (t : Fin cfg0.N) (i j) : k0_pay4 (iblk m c 0 t) (iblk m c 4 t) (ix2 i j)
    = normAt (m (c.tc.loc main_arg0)) (gainPart (m (c.tc.loc main_arg4)) 0) (rowOf t i) j :=
  (norm_at _ _ i j).trans (normAt_rows (rowOf t) _ _ _ _ (row0_in m c t) (gain0_in m c t) i j)

theorem gain1_val (c : Dev nD) : V m c main_v3 = broadcastInDim S1x512 ![1] bcast_S512_S1x512_1
    (extractStridedSlice S512 ![512] (m (c.tc.loc main_arg4)) slices_S2048_S512_512) := by
  show StableHlo.after hostOps0 _ (Proc.devRef .tc main_v3) = _
  after_results

theorem row1_in (c : Dev nD) (t : Fin cfg0.N) (i j) : iblk m c 1 t (ix2 i j) = m (c.tc.loc main_arg1) (ix2 (rowOf t i) j) := by
  blk_ext [iblk, V, idx t]

theorem gain1_in (c : Dev nD) (t : Fin cfg0.N) (j) : gains (iblk m c 5 t) j = gainPart (m (c.tc.loc main_arg4)) 1 j := by
  have e : iblk m c 5 t (ix2 0 j) = V m c main_v3 (ix2 0 j) := by blk_ext [iblk, idx t]
  show iblk m c 5 t (ix2 0 j) = m (c.tc.loc main_arg4) (ix1 (mixCol 1 j))
  rw [e, gain1_val]
  pointwise
  exact congrArg (fun q => m (c.tc.loc main_arg4) (ix1 q)) (Fin.ext (by show 512 + j.val = 512 * 1 + j.val; omega))

theorem norm1_in (c : Dev nD) (t : Fin cfg0.N) (i j) : k0_pay4 (iblk m c 1 t) (iblk m c 5 t) (ix2 i j)
    = normAt (m (c.tc.loc main_arg1)) (gainPart (m (c.tc.loc main_arg4)) 1) (rowOf t i) j :=
  (norm_at _ _ i j).trans (normAt_rows (rowOf t) _ _ _ _ (row1_in m c t) (gain1_in m c t) i j)

theorem gain2_val (c : Dev nD) : V m c main_v5 = broadcastInDim S1x512 ![1] bcast_S512_S1x512_1
    (extractStridedSlice S512 ![1024] (m (c.tc.loc main_arg4)) slices_S2048_S512_1024) := by
  show StableHlo.after hostOps0 _ (Proc.devRef .tc main_v5) = _
  after_results

theorem row2_in (c : Dev nD) (t : Fin cfg0.N) (i j) : iblk m c 2 t (ix2 i j) = m (c.tc.loc main_arg2) (ix2 (rowOf t i) j) := by
  blk_ext [iblk, V, idx t]

theorem gain2_in (c : Dev nD) (t : Fin cfg0.N) (j) : gains (iblk m c 6 t) j = gainPart (m (c.tc.loc main_arg4)) 2 j := by
  have e : iblk m c 6 t (ix2 0 j) = V m c main_v5 (ix2 0 j) := by blk_ext [iblk, idx t]
  show iblk m c 6 t (ix2 0 j) = m (c.tc.loc main_arg4) (ix1 (mixCol 2 j))
  rw [e, gain2_val]
  pointwise
  exact congrArg (fun q => m (c.tc.loc main_arg4) (ix1 q)) (Fin.ext (by show 1024 + j.val = 512 * 2 + j.val; omega))

theorem norm2_in (c : Dev nD) (t : Fin cfg0.N) (i j) : k0_pay4 (iblk m c 2 t) (iblk m c 6 t) (ix2 i j)
    = normAt (m (c.tc.loc main_arg2)) (gainPart (m (c.tc.loc main_arg4)) 2) (rowOf t i) j :=
  (norm_at _ _ i j).trans (normAt_rows (rowOf t) _ _ _ _ (row2_in m c t) (gain2_in m c t) i j)

theorem gain3_val (c : Dev nD) : V m c main_v7 = broadcastInDim S1x512 ![1] bcast_S512_S1x512_1
    (extractStridedSlice S512 ![1536] (m (c.tc.loc main_arg4)) slices_S2048_S512_1536) := by
  show StableHlo.after hostOps0 _ (Proc.devRef .tc main_v7) = _
  after_results

theorem row3_in (c : Dev nD) (t : Fin cfg0.N) (i j) : iblk m c 3 t (ix2 i j) = m (c.tc.loc main_arg3) (ix2 (rowOf t i) j) := by
  blk_ext [iblk, V, idx t]

theorem gain3_in (c : Dev nD) (t : Fin cfg0.N) (j) : gains (iblk m c 7 t) j = gainPart (m (c.tc.loc main_arg4)) 3 j := by
  have e : iblk m c 7 t (ix2 0 j) = V m c main_v7 (ix2 0 j) := by blk_ext [iblk, idx t]
  show iblk m c 7 t (ix2 0 j) = m (c.tc.loc main_arg4) (ix1 (mixCol 3 j))
  rw [e, gain3_val]
  pointwise
  exact congrArg (fun q => m (c.tc.loc main_arg4) (ix1 q)) (Fin.ext (by show 1536 + j.val = 512 * 3 + j.val; omega))

theorem norm3_in (c : Dev nD) (t : Fin cfg0.N) (i j) : k0_pay4 (iblk m c 3 t) (iblk m c 7 t) (ix2 i j)
    = normAt (m (c.tc.loc main_arg3)) (gainPart (m (c.tc.loc main_arg4)) 3) (rowOf t i) j :=
  (norm_at _ _ i j).trans (normAt_rows (rowOf t) _ _ _ _ (row3_in m c t) (gain3_in m c t) i j)

/-- One of the four mixers' outputs. -/
abbrev mixer (c : Dev nD) : Fin 4 → Mat 4096 512 :=
  ![m (c.tc.loc main_arg0), m (c.tc.loc main_arg1), m (c.tc.loc main_arg2), m (c.tc.loc main_arg3)]

theorem four_in (c : Dev nD) (t : Fin cfg0.N) (i : Fin 512) (s : Fin 4) (j : Fin 512) :
    four (iblk m c 0 t) (iblk m c 1 t) (iblk m c 2 t) (iblk m c 3 t) (iblk m c 4 t) (iblk m c 5 t) (iblk m c 6 t) (iblk m c 7 t) s (ix2 i j)
      = normAt (mixer m c s) (gainPart (m (c.tc.loc main_arg4)) s) (rowOf t i) j := by
  match s with
  | 0 => exact norm0_in m c t i j
  | 1 => exact norm1_in m c t i j
  | 2 => exact norm2_in m c t i j
  | 3 => exact norm3_in m c t i j

theorem norm_array (c : Dev nD) : (dats m 0 c).arrAt 8 cfg0.N = joined (mixer m c) (m (c.tc.loc main_arg4)) := by
  refine (dats m 0 c).arrAt_eq_of_covers 8 _ (by decide +kernel) fun t hf y => ?_
  blk_simp
  rw [after0_8]
  have he : (win0_8.blk t).view.emb y = ix2 (rowOf t (y 0)) (y 1) := by
    funext a
    match a with
    | 0 => exact Fin.ext (by blk_simp [idx t]; show _ = 512 * t.val + (y 0).val; omega)
    | 1 => exact Fin.ext (by blk_simp [idx t])
  rw [he]
  have hy : (y 1).val < 2048 := (y 1).isLt
  have h1 : (y 1 : Fin 2048) = mixCol (mixOf (y 1)) (colOf (y 1)) := (mixCol_of (y 1)).symm
  have h2 : y = ix2 (y 0) (mixCol (mixOf (y 1)) (colOf (y 1))) := (ix2_of y).trans (congrArg (ix2 (y 0)) h1)
  refine (congrArg _ h2).trans ?_
  frame_out
  exact (block_at _ _ _ _ _ _ _ _ (y 0) (mixOf (y 1)) (colOf (y 1))).trans (four_in m c t (y 0) (mixOf (y 1)) (colOf (y 1)))

theorem run (ρ : Dev nD → PrngReg) : θ_run defs (onTc (τ := τ) (main (F := Ideal))) ⟨m, fun _ => 0, ρ⟩ fun r => ∀ c : Dev nD,
      r.2.mem ((c.tc : Thread nD τ).loc main_v8) = joined (mixer m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run_blocks m ρ)
  obtain ⟨h0, rest⟩ := h c
  exact ⟨h0.trans (norm_array m c), rest⟩

end Cert.Kernel8Ideal.Val

end
-- ==== Proof.MixFwdRef.lean ====
/-
  The reference's result term of the mixer norms, read at an index: four mixers side by side in an array of three axes, the
  norm along the last.
-/
module

public import proofs.«01_k».proof.Proof.Gen.Reference8Ideal.Run
public import proofs.«01_k».proof.Proof.MixSpec
public import Idealize.ShloMosaic.Lib.Pointwise
public import Idealize.ShloMosaic.Lib.IdealHost

@[expose] public section

set_option maxRecDepth 16384

noncomputable section

namespace Cert.Reference8Ideal.Val

open Cert.Reference8Ideal Cert.Reference8Ideal.Gen Cert.Ffn Cert.Norm Cert.Mix Idealize.ShloMosaic Idealize.ShloMosaic.TcCoe Idealize.SL.Sem Idealize.ShloMosaic.StableHlo

variable (a b c d : FVec Ideal S4096x512 .f32) (g : FVec Ideal S2048 .f32)

/-- The four mixers side by side. -/
def refStack : FVec Ideal S4096x4x512 .f32 :=
  concatenate S4096x4x512 1 [⟨S4096x1x512, broadcastInDim S4096x1x512 ![0, 2] bcast_S4096x512_S4096x1x512_0_2 a⟩,
    ⟨S4096x1x512, broadcastInDim S4096x1x512 ![0, 2] bcast_S4096x512_S4096x1x512_0_2 b⟩,
    ⟨S4096x1x512, broadcastInDim S4096x1x512 ![0, 2] bcast_S4096x512_S4096x1x512_0_2 c⟩,
    ⟨S4096x1x512, broadcastInDim S4096x1x512 ![0, 2] bcast_S4096x512_S4096x1x512_0_2 d⟩] concatenates_S4096x1x512_S4096x1x512_S4096x1x512_S4096x1x512_S4096x4x512_d1
/-- One of the four mixers. -/
def pick : Fin 4 → FVec Ideal S4096x512 .f32 := ![a, b, c, d]

theorem stack_at (i : Fin 4096) (s : Fin 4) (j : Fin 512) : refStack a b c d (ix3 i s j) = pick a b c d s (ix2 i j) := by
  unfold refStack pick
  fin_cases s <;> pointwise

variable (x : FVec Ideal S4096x4x512 .f32)

/-- Mixer `s` of a stack. -/
def layer (s : Fin 4) : Mat 4096 512 := fun z => x (ix3 (z 0) s (z 1))

theorem layer_stack (s : Fin 4) : layer (refStack a b c d) s = pick a b c d s := by
  funext z
  idx_vars z
  exact stack_at a b c d z0 s z1

/-- The gains, side by side, in every row. -/
def refGain : FVec Ideal S4096x4x512 .f32 :=
  broadcastInDim S4096x4x512 ![0, 1, 2] bcast_S1x4x512_S4096x4x512_0_1_2 (broadcastInDim S1x4x512 ![1, 2] bcast_S4x512_S1x4x512_1_2 (shapeCast S4x512 g shapeCasts_S2048_S4x512))
/-- The shifted mean square of every row of every mixer. -/
def refPower : FVec Ideal S4096x4x1 .f32 :=
  addf (Host.divf (broadcastInDim S4096x4x1 ![0, 1] bcast_S4096x4_S4096x4x1_0_1 (Host.reduceAdd (mulf x x) (constant S_ .f32 0x00000000#32) reducesTo_S4096x4x512_S4096x4_d2 h_S_))
    (broadcastInDim S4096x4x1 ![] bcast_S_S4096x4x1 (constant S_ .f32 0x44000000#32))) (broadcastInDim S4096x4x1 ![] bcast_S_S4096x4x1 (constant S_ .f32 0x358637BD#32))
/-- What every row of every mixer is multiplied with, in every column. -/
def refScale : FVec Ideal S4096x4x512 .f32 := broadcastInDim S4096x4x512 ![0, 1, 2] bcast_S4096x4x1_S4096x4x512_0_1_2 (Host.rsqrt (refPower x))
/-- The norm, back in one array of two axes. -/
def refNorm : FVec Ideal S4096x2048 .bf16 := truncf .bf16 (shapeCast S4096x2048 (mulf (mulf x (refScale x)) (refGain g)) shapeCasts_S4096x4x512_S4096x2048) bitsLt_bf16_f32

theorem gain_at (i : Fin 4096) (s : Fin 4) (j : Fin 512) : refGain g (ix3 i s j) = gainPart g s j := by
  show _ = g (ix1 (mixCol s j))
  pointwise [refGain]
  exact congrArg (fun q => g (ix1 q)) (Fin.ext (by show s.val * 512 + j.val = 512 * s.val + j.val; omega))

theorem power_at (i : Fin 4096) (s : Fin 4) : refPower x (ix3 i s 0) = energy (layer x s) i := by
  unfold energy cols shift layer
  pointwise [refPower]

theorem scale_at (i : Fin 4096) (s : Fin 4) (j : Fin 512) : refScale x (ix3 i s j) = factor (layer x s) i := by
  unfold factor
  rw [← power_at]
  pointwise [refScale]

theorem norm_at (i : Fin 4096) (q : Fin 2048) : refNorm g x (ix2 i q) = x (ix3 i (mixOf q) (colOf q)) * refScale x (ix3 i (mixOf q) (colOf q)) * refGain g (ix3 i (mixOf q) (colOf q)) := by
  unfold refNorm
  generalize refScale x = p
  generalize refGain g = r
  pointwise

theorem norm_eq : refNorm g (refStack a b c d) = joined (pick a b c d) g := by
  funext z
  idx_vars z
  rw [norm_at, gain_at, scale_at, layer_stack, stack_at]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = refNorm (m ((c.tc : Thread nD τ).loc main_arg4)) (refStack (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h => h) (Value.run m ρ)

end Cert.Reference8Ideal.Val

end
-- ==== Proof.LossSpec.lean ====
/-
  Half the mean square difference of two arrays' rows, summed over the rows, and its gradient, over the extended reals.
-/
module

public import proofs.«01_k».proof.Proof.Row
public import proofs.«01_k».proof.Proof.NormSpec

@[expose] public section

noncomputable section

namespace Cert.Loss

open Idealize.ShloMosaic Cert.Ffn Cert.Norm

/-- One over the number of columns, as the kernel writes it. -/
def share : EReal := Ideal.ofBits .f32 0x3A000000#32
/-- Half of it, as the kernel writes it. -/
def halfShare : EReal := Ideal.ofBits .f32 0x39800000#32
/-- One half, as the programs write it. -/
def half : EReal := Ideal.ofBits .f32 0x3F000000#32
/-- Two, as the reference writes it. -/
def two : EReal := Ideal.ofBits .f32 0x40000000#32

theorem width_eq : width = ((2048 : ℝ) : EReal) := by
  unfold width
  simp [Ideal.ofBits, Ideal.ieee, -EReal.coe_mul]
  norm_num
theorem share_eq : share = ((1 / 2048 : ℝ) : EReal) := by
  unfold share
  simp [Ideal.ofBits, Ideal.ieee, -EReal.coe_mul]
  norm_num
theorem halfShare_eq : halfShare = ((1 / 4096 : ℝ) : EReal) := by
  unfold halfShare
  simp [Ideal.ofBits, Ideal.ieee, -EReal.coe_mul]
  norm_num
theorem half_eq : half = ((1 / 2 : ℝ) : EReal) := by
  unfold half
  simp [Ideal.ofBits, Ideal.ieee, -EReal.coe_mul]
  norm_num
theorem two_eq : two = ((2 : ℝ) : EReal) := by
  unfold two
  simp [Ideal.ofBits, Ideal.ieee, -EReal.coe_mul]
  norm_num

/-- The sum of the squares of row `i`'s differences. -/
def rowLoss {n : Nat} (Y T : Mat n 2048) (i : Fin n) : EReal := ∑ l, (Y (ix2 i l) - T (ix2 i l)) * (Y (ix2 i l) - T (ix2 i l))
/-- The loss as the kernel has it, and its gradient. -/
def loss {n : Nat} (Y T : Mat n 2048) : EReal := halfShare * ∑ i, rowLoss Y T i
def lossGrad {n : Nat} (Y T : Mat n 2048) : Mat n 2048 := fun x => (Y x - T x) * share

/-- The loss as the mean over the columns gives it. -/
theorem mean_loss {n : Nat} (Y T : Mat n 2048) : half * ∑ i, Ideal.div (rowLoss Y T i) width = loss Y T := by
  unfold loss
  have e : ∀ i, Ideal.div (rowLoss Y T i) width = ((1 / 2048 : ℝ) : EReal) * rowLoss Y T i := fun i => by
    rw [width_eq, Ideal.div_coe (by norm_num), mul_comm]
  rw [Finset.sum_congr rfl fun i _ => e i, ← Attn.coe_mul_sum _ _ (by norm_num), ← mul_assoc, half_eq, halfShare_eq, ← EReal.coe_mul]
  norm_num

/-- The gradient as differentiating the square gives it. -/
theorem mean_grad (d : EReal) : Ideal.div (half * 1) width * (two * d) = d * share := by
  rw [mul_one, half_eq, width_eq, Ideal.div_coe (by norm_num), two_eq, share_eq, ← mul_assoc, ← EReal.coe_mul, ← EReal.coe_mul, mul_comm d]
  norm_num

end Cert.Loss

end
-- ==== Proof.LossArrays.lean ====
/-
  The loss kernel: its three output arrays as functions of the two argument arrays, the gradient block by block and the loss
  summed over the eight points.
-/
module

public import proofs.«01_k».proof.Proof.Gen.Kernel9Ideal.Value
public import proofs.«01_k».proof.Proof.LossSpec
public import Idealize.ShloMosaic.Lib.Pipeline.ValueKit
public import Idealize.ShloMosaic.Lib.Pipeline.ReadBack
public import Idealize.ShloMosaic.Lib.IdealHost

@[expose] public section

set_option maxRecDepth 16384

noncomputable section

namespace Cert.Kernel9Ideal.Val

open Cert.Kernel9Ideal Cert.Kernel9Ideal.Gen Cert.Ffn Cert.Norm Cert.Loss Idealize.ShloMosaic Idealize.ShloMosaic.TcCoe Idealize.SL.Sem
open Idealize.ShloMosaic.Pipeline (Dat)

section payloads

variable (y t : Vec Ideal S512x2048 .f32)

theorem grad_at (i : Fin 512) (j : Fin 2048) : k0_pay2 y t (ix2 i j) = lossGrad y t (ix2 i j) := by
  unfold lossGrad share
  pointwise [k0_pay2, k0_pay1]

theorem loss_at : k0_pay3 y t (ix2 0 0) = loss y t := by
  unfold loss halfShare rowLoss
  pointwise [k0_pay3, k0_pay1]

theorem add_at (o : Vec Ideal S1x1 .f32) : k0_pay5 y t o (ix2 0 0) = o (ix2 0 0) + loss y t := by
  rw [← loss_at]
  unfold k0_pay5
  generalize k0_pay3 y t = p
  pointwise

end payloads

variable (m : (ℓ : Loc nD τ sig) → Buf (Elt Ideal) ℓ)

theorem first_point (t : Fin cfg0.N) (h : t.val % 8 = 0) : ¬ 1 ≤ t.val := by
  have : t.val < 8 := t.isLt
  omega

theorem later_point (t : Fin cfg0.N) (h : ¬ t.val % 8 = 0) : 1 ≤ t.val := by omega

theorem grad_point (c : Dev nD) (t : Fin cfg0.N) (i : Fin 512) (j : Fin 2048) :
    (outsAt0 m c t.val t.isLt).1 (ix2 i j) = lossGrad (iblk m c 0 t) (iblk m c 1 t) (ix2 i j) := by
  by_cases h : t.val % 8 = 0
  · rw [outsAt0_A m c t h (first_point t h)]
    frame_out
    exact grad_at _ _ i j
  · rw [outsAt0_B m c t h (later_point t h)]
    frame_out
    exact grad_at _ _ i j

theorem gradb_point (c : Dev nD) (t : Fin cfg0.N) (i : Fin 512) (j : Fin 2048) :
    (outsAt0 m c t.val t.isLt).2.1 (ix2 i j) = lossGrad (iblk m c 0 t) (iblk m c 1 t) (ix2 i j) := by
  by_cases h : t.val % 8 = 0
  · rw [outsAt0_A m c t h (first_point t h)]
    frame_out
    exact grad_at _ _ i j
  · rw [outsAt0_B m c t h (later_point t h)]
    frame_out
    exact grad_at _ _ i j

theorem loss_first (c : Dev nD) (t : Fin cfg0.N) (h : t.val % 8 = 0) :
    (outsAt0 m c t.val t.isLt).2.2 (ix2 0 0) = 0 + loss (iblk m c 0 t) (iblk m c 1 t) := by
  rw [outsAt0_A m c t h (first_point t h), zero_add]
  frame_out
  exact loss_at _ _

theorem loss_next (c : Dev nD) (t : Fin cfg0.N) (h : ¬ t.val % 8 = 0) : (outsAt0 m c t.val t.isLt).2.2 (ix2 0 0)
    = (outsAt0 m c (t.val - 1) (Nat.lt_of_le_of_lt (Nat.sub_le _ _) t.isLt)).2.2 (ix2 0 0) + loss (iblk m c 0 t) (iblk m c 1 t) := by
  rw [outsAt0_B m c t h (later_point t h)]
  frame_out
  exact add_at _ _ _

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0] :=
  (by decide +kernel : ∀ t : Fin grid0.N, win0_0.index t = ![t.val, 0]
    ∧ win0_1.index t = ![t.val, 0]
    ∧ win0_2.index t = ![t.val, 0]
    ∧ win0_3.index t = ![t.val, 0]
    ∧ win0_4.index t = ![0, 0])

theorem points (t : Fin cfg0.N) : t.val < 8 := t.isLt

/-- A point's row among all rows. -/
abbrev rowOf (t : Fin cfg0.N) (i : Fin 512) : Fin 4096 := ⟨512 * t.val + i.val, by have := points t; omega⟩

theorem out_in (c : Dev nD) (t : Fin cfg0.N) (i j) : iblk m c 0 t (ix2 i j) = m (c.tc.loc main_arg0) (ix2 (rowOf t i) j) := by
  blk_ext [iblk, V, idx t]
theorem target_in (c : Dev nD) (t : Fin cfg0.N) (i j) : iblk m c 1 t (ix2 i j) = m (c.tc.loc main_arg1) (ix2 (rowOf t i) j) := by
  blk_ext [iblk, V, idx t]

theorem grad_in (c : Dev nD) (t : Fin cfg0.N) (i j) : lossGrad (iblk m c 0 t) (iblk m c 1 t) (ix2 i j)
    = lossGrad (m (c.tc.loc main_arg0)) (m (c.tc.loc main_arg1)) (ix2 (rowOf t i) j) := by
  unfold lossGrad
  rw [out_in, target_in]

theorem loss_in (c : Dev nD) (t : Fin cfg0.N) : loss (iblk m c 0 t) (iblk m c 1 t)
    = halfShare * ∑ i, rowLoss (m (c.tc.loc main_arg0)) (m (c.tc.loc main_arg1)) (rowOf t i) := by
  unfold loss rowLoss
  simp only [out_in, target_in]

theorem grad_array (c : Dev nD) : (dats m 0 c).arrAt 2 cfg0.N = lossGrad (m (c.tc.loc main_arg0)) (m (c.tc.loc main_arg1)) := by
  refine (dats m 0 c).arrAt_eq_of_covers 2 _ (by decide +kernel) fun t hf y => ?_
  blk_simp
  rw [after0_2]
  have he : (win0_2.blk t).view.emb y = ix2 (rowOf t (y 0)) (y 1) := by
    funext a
    match a with
    | 0 => exact Fin.ext (by blk_simp [idx t]; show _ = 512 * t.val + (y 0).val; omega)
    | 1 => exact Fin.ext (by blk_simp [idx t])
  rw [he]
  exact (congrArg _ (ix2_of y)).trans ((grad_point m c t (y 0) (y 1)).trans (grad_in m c t (y 0) (y 1)))

theorem gradb_array (c : Dev nD) : (dats m 0 c).arrAt 3 cfg0.N = lossGrad (m (c.tc.loc main_arg0)) (m (c.tc.loc main_arg1)) := by
  refine (dats m 0 c).arrAt_eq_of_covers 3 _ (by decide +kernel) fun t hf y => ?_
  blk_simp
  rw [after0_3]
  have he : (win0_3.blk t).view.emb y = ix2 (rowOf t (y 0)) (y 1) := by
    funext a
    match a with
    | 0 => exact Fin.ext (by blk_simp [idx t]; show _ = 512 * t.val + (y 0).val; omega)
    | 1 => exact Fin.ext (by blk_simp [idx t])
  rw [he]
  exact (congrArg _ (ix2_of y)).trans ((gradb_point m c t (y 0) (y 1)).trans (grad_in m c t (y 0) (y 1)))

/-- The points of the whole run. -/
abbrev runPoint (t : Fin cfg0.N) (hr : t.val % 8 = 7) (s : Fin 8) : Fin cfg0.N := ⟨8 * (t.val / 8) + s.val, Pipeline.run_point_lt_of_flush t hr s⟩

/-- What the eight points add up to. -/
theorem loss_sum (c : Dev nD) (t : Fin cfg0.N) (hr : t.val % 8 = 7) :
    (outsAt0 m c t.val t.isLt).2.2 (ix2 0 0) = loss (m (c.tc.loc main_arg0)) (m (c.tc.loc main_arg1)) := by
  have hsum := Pipeline.eq_sum_fin_of_reset_step_apply_of_flush (fun n hn (_ : Fin 1) => (outsAt0 m c n hn).2.2 (ix2 0 0))
    8 (fun _ => (0 : EReal)) (fun t _ => loss (iblk m c 0 t) (iblk m c 1 t))
    (fun t h _ => loss_first m c t h) (fun t h _ => loss_next m c t h) t hr 0
  refine hsum.trans ?_
  rw [zero_add, Finset.sum_congr rfl fun s _ => loss_in m c (runPoint t hr s)]
  unfold loss
  rw [halfShare_eq, ← Attn.coe_mul_sum _ _ (by norm_num)]
  refine congrArg _ (Eq.trans ?_ (Fin.sum_univ_tiles 8 512 rfl _).symm)
  refine Finset.sum_congr rfl fun s _ => Finset.sum_congr rfl fun i _ => ?_
  have e : rowOf (runPoint t hr s) i = ⟨s.val * 512 + i.val, by omega⟩ :=
    Fin.ext (by show 512 * (8 * (t.val / 8) + s.val) + i.val = s.val * 512 + i.val; have := points t; omega)
  rw [e]

theorem loss_array (c : Dev nD) : (dats m 0 c).arrAt 4 cfg0.N = fun _ => loss (m (c.tc.loc main_arg0)) (m (c.tc.loc main_arg1)) := by
  refine (dats m 0 c).arrAt_eq_of_covers 4 _ (by decide +kernel) fun t hf y => ?_
  have hr := (flush0_4 t).mp hf
  blk_simp
  rw [after0_4]
  have hy : y = ix2 0 0 := by
    have h0 : (y 0 : Nat) < 1 := (y 0).isLt
    have h1 : (y 1 : Nat) < 1 := (y 1).isLt
    funext a
    match a with
    | 0 => exact Fin.ext (by show (y 0 : Nat) = 0; omega)
    | 1 => exact Fin.ext (by show (y 1 : Nat) = 0; omega)
  exact (congrArg _ hy).trans (loss_sum m c t hr)

theorem run (ρ : Dev nD → PrngReg) : θ_run defs (onTc (τ := τ) (main (F := Ideal))) ⟨m, fun _ => 0, ρ⟩ fun r => ∀ c : Dev nD,
      r.2.mem ((c.tc : Thread nD τ).loc main_v0_0) = lossGrad (m ((c.tc : Thread nD τ).loc main_arg0)) (m ((c.tc : Thread nD τ).loc main_arg1))
      ∧ r.2.mem ((c.tc : Thread nD τ).loc main_v0_1) = lossGrad (m ((c.tc : Thread nD τ).loc main_arg0)) (m ((c.tc : Thread nD τ).loc main_arg1))
      ∧ r.2.mem ((c.tc : Thread nD τ).loc main_v0_2) = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run_blocks m ρ)
  obtain ⟨h0, h1, h2, rest⟩ := h c
  exact ⟨h0.trans (grad_array m c), h1.trans (gradb_array m c), h2.trans (loss_array m c), rest⟩

end Cert.Kernel9Ideal.Val

end
-- ==== Proof.LossRef.lean ====
/-
  The reference's result terms of the loss and its gradient, read at an index.
-/
module

public import proofs.«01_k».proof.Proof.Gen.Reference9Ideal.Run
public import proofs.«01_k».proof.Proof.LossSpec
public import Idealize.ShloMosaic.Lib.Pointwise
public import Idealize.ShloMosaic.Lib.IdealHost

@[expose] public section

set_option maxRecDepth 16384

noncomputable section

namespace Cert.Reference9Ideal.Val

open Cert.Reference9Ideal Cert.Reference9Ideal.Gen Cert.Ffn Cert.Norm Cert.Loss Idealize.ShloMosaic Idealize.ShloMosaic.TcCoe Idealize.SL.Sem Idealize.ShloMosaic.StableHlo

variable (y t : FVec Ideal S4096x2048 .f32)

/-- What the gradient of every mean is, in every row. -/
def refShare : FVec Ideal S4096 .f32 :=
  Host.divf (broadcastInDim S4096 ![] bcast_S_S4096 (mulf (constant S_ .f32 0x3F000000#32) (constant S_ .f32 0x3F800000#32)))
    (broadcastInDim S4096 ![] bcast_S_S4096 (constant S_ .f32 0x45000000#32))
/-- The gradient. -/
def refGrad : FVec Ideal S4096x2048 .f32 :=
  mulf (broadcastInDim S4096x2048 ![0] bcast_S4096_S4096x2048_0 refShare)
    (mulf (broadcastInDim S4096x2048 ![] bcast_S_S4096x2048 (constant S_ .f32 0x40000000#32)) (subf y t))
/-- Every row's mean square difference. -/
def refMeans : FVec Ideal S4096 .f32 :=
  Host.divf (Host.reduceAdd (mulf (subf y t) (subf y t)) (constant S_ .f32 0x00000000#32) reducesTo_S4096x2048_S4096_d1 h_S_)
    (broadcastInDim S4096 ![] bcast_S_S4096 (constant S_ .f32 0x45000000#32))
/-- The loss. -/
def refLoss : FVec Ideal S1x1 .f32 :=
  broadcastInDim S1x1 ![] bcast_S_S1x1 (mulf (constant S_ .f32 0x3F000000#32)
    (Host.reduceAdd (refMeans y t) (constant S_ .f32 0x00000000#32) reducesTo_S4096_S_d0 h_S_))

theorem share_at (i : Fin 4096) : refShare (ix1 i) = Ideal.div (half * 1) width := by
  unfold half width
  pointwise [refShare]

theorem grad_eq : refGrad y t = lossGrad y t := by
  funext x
  idx_vars x
  unfold lossGrad
  rw [← mean_grad, ← share_at x0]
  unfold refGrad two
  generalize refShare = p
  pointwise

theorem means_at (i : Fin 4096) : refMeans y t (ix1 i) = Ideal.div (rowLoss y t i) width := by
  unfold rowLoss width
  pointwise [refMeans]

theorem loss_eq : refLoss y t = fun _ => loss y t := by
  funext x
  idx_vars x
  rw [← mean_loss, ← Finset.sum_congr rfl fun i _ => means_at y t i]
  unfold refLoss half
  generalize refMeans y t = p
  pointwise

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = refGrad (m ((c.tc : Thread nD τ).loc main_arg0)) (m ((c.tc : Thread nD τ).loc main_arg1))
      ∧ r.2.mem ((c.tc : Thread nD τ).loc main_v15) = refGrad (m ((c.tc : Thread nD τ).loc main_arg0)) (m ((c.tc : Thread nD τ).loc main_arg1))
      ∧ r.2.mem ((c.tc : Thread nD τ).loc main_v16) = refLoss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h => h) (Value.run m ρ)

end Cert.Reference9Ideal.Val

end
-- ==== Proof.StepSpec.lean ====
/-
  One step of AdamW at one parameter, over the extended reals: the two moments and the change of the parameter.
-/
module

public import Idealize.ShloMosaic.Lib.Pointwise

@[expose] public section

noncomputable section

namespace Cert.Step

open Idealize.ShloMosaic

/-- The mean of the gradients: nine tenths of the old and a tenth of the new. -/
def mean (g m : EReal) : EReal := Ideal.ofBits .f32 0x3F666666#32 * m + Ideal.ofBits .f32 0x3DCCCCCD#32 * g
/-- The mean of their squares: all but a thousandth of the old and a thousandth of the new. -/
def square (g v : EReal) : EReal := Ideal.ofBits .f32 0x3F7FBE77#32 * v + Ideal.ofBits .f32 0x3A83126F#32 * (g * g)
/-- The change of a parameter: the corrected mean over the root of the corrected mean square, decayed, times minus the rate. -/
def change (w g m v : EReal) : EReal :=
  Ideal.ofBits .f32 0xBA83126F#32 *
    (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

end Cert.Step

end
-- ==== Proof.StepArrays.lean ====
/-
  The optimiser's kernel: its three output arrays as functions of the four argument arrays, element by element.
-/
module

public import proofs.«01_k».proof.Proof.Gen.Kernel10Ideal.Value
public import proofs.«01_k».proof.Proof.FfnSpec
public import proofs.«01_k».proof.Proof.StepSpec
public import Idealize.ShloMosaic.Lib.Pipeline.ValueKit
public import Idealize.ShloMosaic.Lib.Pipeline.ReadBack
public import Idealize.ShloMosaic.Lib.IdealHost

@[expose] public section

set_option maxRecDepth 16384

noncomputable section

namespace Cert.Kernel10Ideal.Val

open Cert.Kernel10Ideal Cert.Kernel10Ideal.Gen Cert.Ffn Cert.Step Idealize.ShloMosaic Idealize.ShloMosaic.TcCoe Idealize.SL.Sem
open Idealize.ShloMosaic.Pipeline (Dat)

section payloads

variable (w g n v : Vec Ideal S256x128 .f32)

theorem mean_at (i : Fin 256) (j : Fin 128) : k0_pay1 g n (ix2 i j) = mean (g (ix2 i j)) (n (ix2 i j)) := by
  unfold mean
  pointwise [k0_pay1]

theorem square_at (i : Fin 256) (j : Fin 128) : k0_pay2 g v (ix2 i j) = square (g (ix2 i j)) (v (ix2 i j)) := by
  unfold square
  pointwise [k0_pay2]

theorem change_at (i : Fin 256) (j : Fin 128) :
    k0_pay3 w g n v (ix2 i j) = change (w (ix2 i j)) (g (ix2 i j)) (n (ix2 i j)) (v (ix2 i j)) := by
  unfold change
  rw [← mean_at, ← square_at]
  unfold k0_pay3
  generalize k0_pay1 g n = p
  generalize k0_pay2 g v = q
  pointwise

end payloads

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0])

theorem points (t : Fin cfg0.N) : t.val < 9 := t.isLt

/-- A point's row among all rows. -/
abbrev rowOf (t : Fin cfg0.N) (i : Fin 256) : Fin 2304 := ⟨256 * t.val + i.val, by have := points t; omega⟩

theorem weight_in (c : Dev nD) (t : Fin cfg0.N) (i j) : iblk m c 0 t (ix2 i j) = m (c.tc.loc main_arg0) (ix2 (rowOf t i) j) := by
  blk_ext [iblk, V, idx t]
theorem grad_in (c : Dev nD) (t : Fin cfg0.N) (i j) : iblk m c 1 t (ix2 i j) = m (c.tc.loc main_arg1) (ix2 (rowOf t i) j) := by
  blk_ext [iblk, V, idx t]
theorem mean_in (c : Dev nD) (t : Fin cfg0.N) (i j) : iblk m c 2 t (ix2 i j) = m (c.tc.loc main_arg2) (ix2 (rowOf t i) j) := by
  blk_ext [iblk, V, idx t]
theorem square_in (c : Dev nD) (t : Fin cfg0.N) (i j) : iblk m c 3 t (ix2 i j) = m (c.tc.loc main_arg3) (ix2 (rowOf t i) j) := by
  blk_ext [iblk, V, idx t]

/-- The three outputs of a point are the step at its rows. -/
theorem change_point (c : Dev nD) (t : Fin cfg0.N) (i : Fin 256) (j : Fin 128) :
    out0_4 (iblk m c 0 t) (iblk m c 1 t) (iblk m c 2 t) (iblk m c 3 t) (ix2 i j)
      = change (m (c.tc.loc main_arg0) (ix2 (rowOf t i) j)) (m (c.tc.loc main_arg1) (ix2 (rowOf t i) j))
        (m (c.tc.loc main_arg2) (ix2 (rowOf t i) j)) (m (c.tc.loc main_arg3) (ix2 (rowOf t i) j)) := by
  rw [← weight_in m c t, ← grad_in m c t, ← mean_in m c t, ← square_in m c t]
  frame_out
  exact change_at _ _ _ _ i j

theorem mean_point (c : Dev nD) (t : Fin cfg0.N) (i : Fin 256) (j : Fin 128) :
    out0_5 (iblk m c 0 t) (iblk m c 1 t) (iblk m c 2 t) (iblk m c 3 t) (ix2 i j)
      = mean (m (c.tc.loc main_arg1) (ix2 (rowOf t i) j)) (m (c.tc.loc main_arg2) (ix2 (rowOf t i) j)) := by
  rw [← grad_in m c t, ← mean_in m c t]
  frame_out
  exact mean_at _ _ i j

theorem square_point (c : Dev nD) (t : Fin cfg0.N) (i : Fin 256) (j : Fin 128) :
    out0_6 (iblk m c 0 t) (iblk m c 1 t) (iblk m c 2 t) (iblk m c 3 t) (ix2 i j)
      = square (m (c.tc.loc main_arg1) (ix2 (rowOf t i) j)) (m (c.tc.loc main_arg3) (ix2 (rowOf t i) j)) := by
  rw [← grad_in m c t, ← square_in m c t]
  frame_out
  exact square_at _ _ i j

theorem change_array (c : Dev nD) : (dats m 0 c).arrAt 4 cfg0.N = fun x =>
    change (m (c.tc.loc main_arg0) x) (m (c.tc.loc main_arg1) x) (m (c.tc.loc main_arg2) x) (m (c.tc.loc main_arg3) x) := by
  refine (dats m 0 c).arrAt_eq_of_covers 4 _ (by decide +kernel) fun t hf y => ?_
  blk_simp
  rw [after0_4]
  have he : (win0_4.blk t).view.emb y = ix2 (rowOf t (y 0)) (y 1) := by
    funext a
    match a with
    | 0 => exact Fin.ext (by blk_simp [idx t]; show _ = 256 * t.val + (y 0).val; omega)
    | 1 => exact Fin.ext (by blk_simp [idx t])
  rw [he]
  exact (congrArg _ (ix2_of y)).trans (change_point m c t (y 0) (y 1))

theorem mean_array (c : Dev nD) : (dats m 0 c).arrAt 5 cfg0.N = fun x => mean (m (c.tc.loc main_arg1) x) (m (c.tc.loc main_arg2) x) := by
  refine (dats m 0 c).arrAt_eq_of_covers 5 _ (by decide +kernel) fun t hf y => ?_
  blk_simp
  rw [after0_5]
  have he : (win0_5.blk t).view.emb y = ix2 (rowOf t (y 0)) (y 1) := by
    funext a
    match a with
    | 0 => exact Fin.ext (by blk_simp [idx t]; show _ = 256 * t.val + (y 0).val; omega)
    | 1 => exact Fin.ext (by blk_simp [idx t])
  rw [he]
  exact (congrArg _ (ix2_of y)).trans (mean_point m c t (y 0) (y 1))

theorem square_array (c : Dev nD) : (dats m 0 c).arrAt 6 cfg0.N = fun x => square (m (c.tc.loc main_arg1) x) (m (c.tc.loc main_arg3) x) := by
  refine (dats m 0 c).arrAt_eq_of_covers 6 _ (by decide +kernel) fun t hf y => ?_
  blk_simp
  rw [after0_6]
  have he : (win0_6.blk t).view.emb y = ix2 (rowOf t (y 0)) (y 1) := by
    funext a
    match a with
    | 0 => exact Fin.ext (by blk_simp [idx t]; show _ = 256 * t.val + (y 0).val; omega)
    | 1 => exact Fin.ext (by blk_simp [idx t])
  rw [he]
  exact (congrArg _ (ix2_of y)).trans (square_point m c t (y 0) (y 1))

theorem run (ρ : Dev nD → PrngReg) : θ_run defs (onTc (τ := τ) (main (F := Ideal))) ⟨m, fun _ => 0, ρ⟩ fun r => ∀ c : Dev nD,
      r.2.mem ((c.tc : Thread nD τ).loc main_v0_0) = (fun x => change (m ((c.tc : Thread nD τ).loc main_arg0) x) (m ((c.tc : Thread nD τ).loc main_arg1) x)
        (m ((c.tc : Thread nD τ).loc main_arg2) x) (m ((c.tc : Thread nD τ).loc main_arg3) x))
      ∧ r.2.mem ((c.tc : Thread nD τ).loc main_v0_1) = (fun x => mean (m ((c.tc : Thread nD τ).loc main_arg1) x) (m ((c.tc : Thread nD τ).loc main_arg2) x))
      ∧ r.2.mem ((c.tc : Thread nD τ).loc main_v0_2) = (fun x => square (m ((c.tc : Thread nD τ).loc main_arg1) x) (m ((c.tc : Thread nD τ).loc main_arg3) x))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run_blocks m ρ)
  obtain ⟨h0, h1, h2, rest⟩ := h c
  exact ⟨h0.trans (change_array m c), h1.trans (mean_array m c), h2.trans (square_array m c), rest⟩

end Cert.Kernel10Ideal.Val

end
-- ==== Proof.StepRef.lean ====
/-
  The reference's result terms of the optimiser's step, read element by element.
-/
module

public import proofs.«01_k».proof.Proof.Gen.Reference10Ideal.Run
public import proofs.«01_k».proof.Proof.FfnSpec
public import proofs.«01_k».proof.Proof.StepSpec
public import Idealize.ShloMosaic.Lib.Pointwise
public import Idealize.ShloMosaic.Lib.IdealHost

@[expose] public section

set_option maxRecDepth 16384

noncomputable section

namespace Cert.Reference10Ideal.Val

open Cert.Reference10Ideal Cert.Reference10Ideal.Gen Cert.Ffn Cert.Step Idealize.ShloMosaic Idealize.ShloMosaic.TcCoe Idealize.SL.Sem Idealize.ShloMosaic.StableHlo

variable (w g n v p q : FVec Ideal S2304x128 .f32)

/-- One number everywhere. -/
abbrev every (b : BitVec 32) : FVec Ideal S2304x128 .f32 := broadcastInDim S2304x128 ![] bcast_S_S2304x128 (constant S_ .f32 b)
/-- The new means. -/
def refMean : FVec Ideal S2304x128 .f32 := addf (mulf (every 0x3F666666#32) n) (mulf (every 0x3DCCCCCD#32) g)
/-- The new mean squares. -/
def refSquare : FVec Ideal S2304x128 .f32 := addf (mulf (every 0x3F7FBE77#32) v) (mulf (every 0x3A83126F#32) (mulf g g))
/-- The changes, from the new means and mean squares. -/
def refChange : FVec Ideal S2304x128 .f32 :=
  mulf (every 0xBA83126F#32) (addf (Host.divf (Host.divf p (every 0x3F26BD02#32))
    (addf (Host.sqrt (Host.divf q (every 0x3C231ACC#32))) (every 0x322BCC77#32))) (mulf (every 0x3C23D70A#32) w))

theorem mean_eq : refMean g n = fun x => mean (g x) (n x) := by
  funext x
  idx_vars x
  unfold mean
  pointwise [refMean]

theorem square_eq : refSquare g v = fun x => square (g x) (v x) := by
  funext x
  idx_vars x
  unfold square
  pointwise [refSquare]

theorem change_eq : refChange w (refMean g n) (refSquare g v) = fun x => change (w x) (g x) (n x) (v x) := by
  rw [mean_eq, square_eq]
  funext x
  idx_vars x
  unfold change
  pointwise [refChange]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = refChange (m ((c.tc : Thread nD τ).loc main_arg0))
        (refMean (m ((c.tc : Thread nD τ).loc main_arg1)) (m ((c.tc : Thread nD τ).loc main_arg2)))
        (refSquare (m ((c.tc : Thread nD τ).loc main_arg1)) (m ((c.tc : Thread nD τ).loc main_arg3)))
      ∧ r.2.mem ((c.tc : Thread nD τ).loc main_v4) = refMean (m ((c.tc : Thread nD τ).loc main_arg1)) (m ((c.tc : Thread nD τ).loc main_arg2))
      ∧ r.2.mem ((c.tc : Thread nD τ).loc main_v10) = refSquare (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h => h) (Value.run m ρ)

end Cert.Reference10Ideal.Val

end
-- ==== Proof.GateSpec.lean ====
/-
  The gating unit over the extended reals: the activation, the norm of every group of 64 columns, and the mixing of the 128
  rows of a chunk.
-/
module

public import proofs.«01_k».proof.Proof.Row
public import proofs.«01_k».proof.Proof.NormSpec

@[expose] public section

set_option maxRecDepth 16384

noncomputable section

namespace Cert.Gate

open Idealize.ShloMosaic Cert.Ffn Cert.Norm

/-- One half, as the programs write it. -/
def half : EReal := Ideal.ofBits .f32 0x3F000000#32
/-- The factor of the cube in the activation, as the programs write it. -/
def cubic : EReal := Ideal.ofBits .f32 0x3D372713#32
/-- The root of two over pi, as the programs write it. -/
def slope : EReal := Ideal.ofBits .f32 0x3F4C422A#32
/-- The number of columns of a group, 64, as the programs write it. -/
def wide : EReal := Ideal.ofBits .f32 0x42800000#32
/-- What the norm adds to the mean square, as the programs write it. -/
def tiny : EReal := Ideal.ofBits .f32 0x3727C5AC#32

theorem wide_eq : wide = ((64 : ℝ) : EReal) := by
  unfold wide
  simp [Ideal.ofBits, Ideal.ieee, -EReal.coe_mul]
  norm_num

/-- The argument of the activation's hyperbolic tangent. -/
def depth (x : EReal) : EReal := slope * (x + cubic * (x * x * x))
/-- The activation. -/
def gelu (x : EReal) : EReal := half * x * (1 + Ideal.tanh (depth x))
/-- The activation of an array. -/
def geluAll {n k : Nat} (X : Mat n k) : Mat n k := fun z => gelu (X z)

/-- Column `d` of group `g`. -/
abbrev lane (g : Fin 8) (d : Fin 64) : Fin 512 := ⟨64 * g.val + d.val, by omega⟩
/-- Whose group column `j` is. -/
abbrev grp (j : Fin 512) : Fin 8 := ⟨j.val / 64, by omega⟩
/-- Where column `j` stands in its group. -/
abbrev pos (j : Fin 512) : Fin 64 := ⟨j.val % 64, by omega⟩

theorem lane_of (j : Fin 512) : lane (grp j) (pos j) = j := Fin.ext (by show 64 * (j.val / 64) + j.val % 64 = j.val; omega)
theorem grp_lane (g : Fin 8) (d : Fin 64) : grp (lane g d) = g := Fin.ext (by show (64 * g.val + d.val) / 64 = g.val; omega)

/-- The mean of group `g` of row `i`. -/
def mean {n : Nat} (X : Mat n 512) (i : Fin n) (g : Fin 8) : EReal := Ideal.div (∑ d, X (ix2 i (lane g d))) wide
/-- An array's distances from the means of its groups. -/
def centre {n : Nat} (X : Mat n 512) : Mat n 512 := fun z => X z - mean X (z 0) (grp (z 1))
/-- The squares of an array. -/
def squares {n : Nat} (X : Mat n 512) : Mat n 512 := fun z => X z * X z
/-- The root that a group is divided by, inverted. -/
def root {n : Nat} (X : Mat n 512) (i : Fin n) (g : Fin 8) : EReal := Ideal.rsqrt (mean (squares (centre X)) i g + tiny)
/-- An array's groups, normed. -/
def unit {n : Nat} (X : Mat n 512) : Mat n 512 := fun z => centre X z * root X (z 0) (grp (z 1))

/-- The mean as a product with a matrix of 512 columns. -/
def stat {n : Nat} (X : Mat n 512) (M : Mat 512 512) (i : Fin n) (j : Fin 512) : EReal := ∑ l, X (ix2 i l) * M (ix2 l j)
/-- That matrix. -/
def Averages (M : Mat 512 512) : Prop := ∀ l j, M (ix2 l j) = if grp l = grp j then ((1 / 64 : ℝ) : EReal) else 0

/-- A sum over all columns goes over the groups. -/
theorem sum_lanes (f : Fin 512 → EReal) : ∑ l, f l = ∑ g, ∑ d, f (lane g d) :=
  (Fin.sum_univ_tiles 8 64 rfl f).trans (Finset.sum_congr rfl fun g _ => Finset.sum_congr rfl fun d _ =>
    congrArg f (Fin.ext (by show g.val * 64 + d.val = 64 * g.val + d.val; omega)))

theorem stat_eq {n : Nat} (X : Mat n 512) (M : Mat 512 512) (h : Averages M) (i : Fin n) (j : Fin 512) : stat X M i j = mean X i (grp j) := by
  unfold stat mean
  rw [sum_lanes, Finset.sum_eq_single (grp j) (fun g _ hg => Finset.sum_eq_zero fun d _ => by rw [h, grp_lane, if_neg hg, mul_zero])
    (fun h => absurd (Finset.mem_univ _) h), wide_eq, Ideal.div_coe (by norm_num), mul_comm (∑ d, _), Attn.coe_mul_sum _ _ (by norm_num)]
  exact Finset.sum_congr rfl fun d _ => by rw [h, if_pos (grp_lane _ _), mul_comm]

/-- Row `p` of chunk `c`. -/
abbrev line (c : Fin 32) (p : Fin 128) : Fin 4096 := ⟨128 * c.val + p.val, by omega⟩
/-- Whose chunk row `i` is. -/
abbrev chunk (i : Fin 4096) : Fin 32 := ⟨i.val / 128, by omega⟩
/-- Where row `i` stands in its chunk. -/
abbrev place (i : Fin 4096) : Fin 128 := ⟨i.val % 128, by omega⟩

theorem line_of (i : Fin 4096) : line (chunk i) (place i) = i := Fin.ext (by show 128 * (i.val / 128) + i.val % 128 = i.val; omega)

/-- The rows of a chunk mixed by their group's matrix, with the group's offset. -/
def blend (W : Stack 8 128 128) (b : Mat 8 128) (N : Mat 128 512) (p : Fin 128) (j : Fin 512) : EReal :=
  b (ix2 (grp j) p) + ∑ q, W (ix3 (grp j) p q) * N (ix2 q j)
/-- The rows of chunk `c`. -/
def rowsAt (X : Mat 4096 512) (c : Fin 32) : Mat 128 512 := fun z => X (ix2 (line c (z 0)) (z 1))
/-- The gating unit. -/
def gated (U V : Mat 4096 512) (W : Stack 8 128 128) (b : Mat 8 128) : Mat 4096 512 := fun z =>
  gelu (U z) * blend W b (rowsAt (unit (geluAll V)) (chunk (z 0))) (place (z 0)) (z 1)

/-- The 512 columns of a row from the first on. -/
def firstCols (X : Mat 4096 4352) : Mat 4096 512 := fun z => X (ix2 (z 0) (⟨(z 1).val, lt_trans (z 1).isLt (by norm_num)⟩ : Fin 4352))
/-- The 512 columns after them. -/
def secondCols (X : Mat 4096 4352) : Mat 4096 512 := fun z => X (ix2 (z 0) (⟨512 + (z 1).val, lt_of_lt_of_le (Nat.add_lt_add_left (z 1).isLt 512) (by norm_num)⟩ : Fin 4352))

/-- Of eight terms selected by the number of a group, its own is left. -/
theorem own_term (g : Fin 8) (b : EReal) (f : Fin 8 → EReal) :
    b + Scalar.select (IntOp.cmpi .eq (BitVec.ofNat 32 g.val) 0#32) (f 0) 0 + Scalar.select (IntOp.cmpi .eq (BitVec.ofNat 32 g.val) 1#32) (f 1) 0
      + Scalar.select (IntOp.cmpi .eq (BitVec.ofNat 32 g.val) 2#32) (f 2) 0 + Scalar.select (IntOp.cmpi .eq (BitVec.ofNat 32 g.val) 3#32) (f 3) 0
      + Scalar.select (IntOp.cmpi .eq (BitVec.ofNat 32 g.val) 4#32) (f 4) 0 + Scalar.select (IntOp.cmpi .eq (BitVec.ofNat 32 g.val) 5#32) (f 5) 0
      + Scalar.select (IntOp.cmpi .eq (BitVec.ofNat 32 g.val) 6#32) (f 6) 0 + Scalar.select (IntOp.cmpi .eq (BitVec.ofNat 32 g.val) 7#32) (f 7) 0
      = b + f g := by
  fin_cases g <;> simp [Scalar.select, IntOp.cmpi]

section rows

variable {k n : Nat} (r : Fin k → Fin n) (x : Mat k 512) (X : Mat n 512)

theorem geluAll_rows (h : ∀ i j, x (ix2 i j) = X (ix2 (r i) j)) (i j) : geluAll x (ix2 i j) = geluAll X (ix2 (r i) j) := by
  unfold geluAll
  rw [h]

theorem mean_rows (h : ∀ i j, x (ix2 i j) = X (ix2 (r i) j)) (i g) : mean x i g = mean X (r i) g := by
  unfold mean
  simp only [h]

theorem centre_rows (h : ∀ i j, x (ix2 i j) = X (ix2 (r i) j)) (i j) : centre x (ix2 i j) = centre X (ix2 (r i) j) :=
  congrArg₂ (fun a b : EReal => a - b) (h i j) (mean_rows r x X h i (grp j))

theorem root_rows (h : ∀ i j, x (ix2 i j) = X (ix2 (r i) j)) (i g) : root x i g = root X (r i) g := by
  unfold root
  rw [mean_rows r (squares (centre x)) (squares (centre X)) fun i j => congrArg₂ (fun a b : EReal => a * b) (centre_rows r x X h i j) (centre_rows r x X h i j)]

theorem unit_rows (h : ∀ i j, x (ix2 i j) = X (ix2 (r i) j)) (i j) : unit x (ix2 i j) = unit X (ix2 (r i) j) :=
  congrArg₂ (fun a b : EReal => a * b) (centre_rows r x X h i j) (root_rows r x X h i (grp j))

end rows

end Cert.Gate

end
-- ==== Proof.GateFwd.lean ====
/-
  The gating unit's forward kernel: the output array as a function of the three argument arrays. A point holds four chunks of
  128 rows.
-/
module

public import proofs.«01_k».proof.Proof.Gen.Kernel11Ideal.Value
public import proofs.«01_k».proof.Proof.GateSpec
public import Idealize.ShloMosaic.Lib.Pipeline.ValueKit
public import Idealize.ShloMosaic.Lib.Pipeline.ReadBack
public import Idealize.ShloMosaic.Lib.IdealHost

@[expose] public section

set_option maxRecDepth 16384

noncomputable section

namespace Cert.Kernel11Ideal.Val

open Cert.Kernel11Ideal Cert.Kernel11Ideal.Gen Cert.Ffn Cert.Norm Cert.Gate Idealize.ShloMosaic Idealize.ShloMosaic.TcCoe Idealize.SL.Sem
open Idealize.ShloMosaic.Pipeline (Dat)

section payloads

variable (u v : Vec Ideal S128x512 .f32) (M : Vec Ideal S512x512 .f32) (b : Vec Ideal S128x512 .f32) (w : Fin 8 → Vec Ideal S1x128x128 .bf16)

theorem gelu_at (i : Fin 128) (j : Fin 512) : k0_pay1 u (ix2 i j) = gelu (u (ix2 i j)) := by
  unfold gelu depth half Gate.slope cubic
  pointwise [k0_pay1]

theorem unit_at (h : Averages M) (i : Fin 128) (j : Fin 512) : k0_pay2 v M (ix2 i j) = unit (geluAll v) (ix2 i j) := by
  have e : k0_pay2 v M (ix2 i j) = (geluAll v (ix2 i j) - stat (geluAll v) M i j)
      * Ideal.rsqrt (stat (fun z => (geluAll v z - stat (geluAll v) M (z 0) (z 1)) * (geluAll v z - stat (geluAll v) M (z 0) (z 1))) M i j + tiny) := by
    unfold stat geluAll gelu depth half Gate.slope cubic tiny
    pointwise [k0_pay2]
  have s : (fun z : (⟨2, ![128, 512]⟩ : Shape).Idx => (geluAll v z - stat (geluAll v) M (z 0) (z 1)) * (geluAll v z - stat (geluAll v) M (z 0) (z 1)))
      = squares (centre (geluAll v)) := funext fun z =>
    congrArg₂ (fun a b : EReal => (geluAll v z - a) * (geluAll v z - b)) (stat_eq _ M h (z 0) (z 1)) (stat_eq _ M h (z 0) (z 1))
  rw [e, s, stat_eq _ _ h, stat_eq _ _ h]
  rfl

/-- The kernel's group of a column. -/
theorem group_at : ∀ l : Fin 512, (k0_pay3 : IVec S1x512 32) (ix2 0 l) = BitVec.ofNat 32 (l.val / 64) := by
  intro l
  pointwise [k0_pay3]
  revert l
  decide +kernel

/-- What the kernel stores of a chunk. -/
def chunkOut : FVec Ideal S128x512 .f32 :=
  k0_pay9 (k0_pay1 u) (k0_pay2 v M) k0_pay3
    (k0_pay7 (k0_pay2 v M) k0_pay3 (k0_pay4 (k0_pay2 v M) b (w 0)) (k0_pay5 (k0_pay2 v M) (w 1)) k0_pay6 (FloatOps.ofBits FTy.f32 0#32) (w 2) (w 3) (w 4))
    (k0_pay8 (k0_pay2 v M) (w 5)) (w 6) (w 7)

theorem chunk_at (h : Averages M) (i : Fin 128) (j : Fin 512) : chunkOut u v M b w (ix2 i j)
    = gelu (u (ix2 i j)) * (b (ix2 i j) + ∑ q, w (grp j) (ix3 0 i q) * unit (geluAll v) (ix2 q j)) := by
  simp only [← unit_at v M h]
  rw [← gelu_at]
  unfold chunkOut k0_pay9 k0_pay8 k0_pay7 k0_pay6 k0_pay5 k0_pay4
  have hg := group_at j
  generalize (k0_pay3 : IVec S1x512 32) = p at hg ⊢
  generalize k0_pay2 v M = n
  generalize k0_pay1 u = a
  pointwise
  rw [hg]
  exact congrArg (fun t => a (ix2 i j) * t) (own_term (grp j) (b (ix2 i j)) fun g => ∑ q, w g (ix3 0 i q) * n (ix2 q j))

end payloads

variable (m : (ℓ : Loc nD τ sig) → Buf (Elt Ideal) ℓ)

theorem idx : ∀ t : Fin cfg0.N, win0_0.index t = ![t.val, 0]
    ∧ win0_1.index t = ![t.val, 1]
    ∧ win0_2.index t = ![0, 0, 0]
    ∧ win0_3.index t = ![0, 0]
    ∧ win0_4.index t = ![0, 0]
    ∧ win0_5.index t = ![t.val, 0] :=
  (by decide +kernel : ∀ t : Fin grid0.N, win0_0.index t = ![t.val, 0]
    ∧ win0_1.index t = ![t.val, 1]
    ∧ win0_2.index t = ![0, 0, 0]
    ∧ win0_3.index t = ![0, 0]
    ∧ win0_4.index t = ![0, 0]
    ∧ win0_5.index t = ![t.val, 0])

theorem points (t : Fin cfg0.N) : t.val < 8 := t.isLt

/-- A point's row among all rows. -/
abbrev rowOf (t : Fin cfg0.N) (i : Fin 512) : Fin 4096 := ⟨512 * t.val + i.val, by have := points t; omega⟩

theorem first_in (c : Dev nD) (t : Fin cfg0.N) (i : Fin 512) (j : Fin 512) :
    X0_0 m c t (ix2 i j) = m (c.tc.loc main_arg0) (ix2 (rowOf t i) (⟨j.val, by omega⟩ : Fin 4352)) := by
  unfold X0_0 Pipeline.Window.fill
  rw [dif_pos (moved0_0 t _)]
  blk_ext [iblk, V, idx t]

theorem second_in (c : Dev nD) (t : Fin cfg0.N) (i : Fin 512) (j : Fin 512) :
    X0_1 m c t (ix2 i j) = m (c.tc.loc main_arg0) (ix2 (rowOf t i) (⟨512 + j.val, by omega⟩ : Fin 4352)) := by
  unfold X0_1 Pipeline.Window.fill
  rw [dif_pos (moved0_1 t _)]
  blk_ext [iblk, V, idx t]

theorem weight_val (c : Dev nD) : V m c main_v0 = m (c.tc.loc main_arg1) := by
  show StableHlo.after hostOps0 _ (Proc.devRef .tc main_v0) = _
  after_results
  rfl

theorem offset_val (c : Dev nD) : V m c main_v3 = shapeCast S128x512 (broadcastInDim S128x8x64 ![0, 1] bcast_S128x8_S128x8x64_0_1
    (transpose S128x8 [1, 0] (m (c.tc.loc main_arg2)) transposes_S8x128_S128x8_1_0)) shapeCasts_S128x8x64_S128x512 := by
  show StableHlo.after hostOps0 _ (Proc.devRef .tc main_v3) = _
  after_results
  rfl

/-- The group of every column, as the host has it. -/
def hostGroups : IVec S512 32 := shapeCast S512 (iotaInDim S8x64 32 0) shapeCasts_S8x64_S512

theorem average_val (c : Dev nD) : V m c main_v13 = Host.divf (F := Ideal) (uitofp (F := Ideal) .f32 (cmpi .eq
    (broadcastInDim S512x512 ![0, 1] bcast_S512x1_S512x512_0_1 (broadcastInDim S512x1 ![0] bcast_S512_S512x1_0 hostGroups))
    (broadcastInDim S512x512 ![0, 1] bcast_S1x512_S512x512_0_1 (broadcastInDim S1x512 ![1] bcast_S512_S1x512_1 hostGroups))))
    (broadcastInDim S512x512 ![] bcast_S_S512x512 (constant (F := Ideal) S_ .f32 0x42800000#32)) := by
  show StableHlo.after hostOps0 _ (Proc.devRef .tc main_v13) = _
  after_results
  rfl

theorem groups_at (l : Fin 512) : hostGroups (ix1 l) = BitVec.ofNat 32 (l.val / 64) := by
  pointwise [hostGroups]

theorem weight_in (c : Dev nD) (t : Fin cfg0.N) (g : Fin 8) (p q : Fin 128) : iblk m c 2 t (ix3 g p q) = m (c.tc.loc main_arg1) (ix3 g p q) := by
  have e : iblk m c 2 t (ix3 g p q) = V m c main_v0 (ix3 g p q) := by blk_ext [iblk, idx t]
  rw [e, weight_val]

theorem offset_in (c : Dev nD) (t : Fin cfg0.N) (p : Fin 128) (j : Fin 512) : iblk m c 3 t (ix2 p j) = m (c.tc.loc main_arg2) (ix2 (grp j) p) := by
  have e : iblk m c 3 t (ix2 p j) = V m c main_v3 (ix2 p j) := by blk_ext [iblk, idx t]
  rw [e, offset_val]
  pointwise

theorem average_in (c : Dev nD) (t : Fin cfg0.N) : Averages (iblk m c 4 t) := by
  intro l j
  have e : iblk m c 4 t (ix2 l j) = V m c main_v13 (ix2 l j) := by blk_ext [iblk, idx t]
  have hl := groups_at l
  have hj := groups_at j
  rw [e, average_val]
  generalize hostGroups = p at hl hj ⊢
  pointwise
  rw [hl, hj]
  have test : ∀ a b : Fin 8, IntOp.cmpi .eq (BitVec.ofNat 32 a.val) (BitVec.ofNat 32 b.val) = if a = b then 1#1 else 0#1 := by decide
  have ht := test (grp l) (grp j)
  show Ideal.div (FloatOps.uitofp (F := Ideal) .f32 (IntOp.cmpi .eq (BitVec.ofNat 32 (grp l).val) (BitVec.ofNat 32 (grp j).val))) wide = _
  rw [ht, wide_eq, Ideal.div_coe (by norm_num)]
  split
  · show ((((1#1).toNat : ℝ) : EReal) * _) = _
    norm_num
  · show ((((0#1).toNat : ℝ) : EReal) * _) = _
    norm_num

/-- Band `s` of a block's rows. -/
def band (X : Vec Ideal S512x512 .f32) (s : Fin 4) : Vec Ideal S128x512 .f32 :=
  View.ld X (Rect.unit (s := S512x512) ![128 * s.val, 0] S128x512.size fun a => by fin_cases s <;> fin_cases a <;> decide)

/-- The eight matrices. -/
def slabs (X : Vec Ideal S8x128x128 .bf16) (g : Fin 8) : Vec Ideal S1x128x128 .bf16 :=
  View.ld X (Rect.unit (s := S8x128x128) ![g.val, 0, 0] S1x128x128.size fun a => by fin_cases g <;> fin_cases a <;> decide)

theorem band_at (X : Vec Ideal S512x512 .f32) (s : Fin 4) (i : Fin 128) (j : Fin 512) :
    band X s (ix2 i j) = X (ix2 (⟨128 * s.val + i.val, by omega⟩ : Fin 512) j) :=
  congrArg X (funext fun a => Fin.ext (by
    match a with
    | 0 => simp [Rect.emb_apply]
    | 1 => simp [Rect.emb_apply]))

theorem slab_at (X : Vec Ideal S8x128x128 .bf16) (g : Fin 8) (p q : Fin 128) : slabs X g (ix3 0 p q) = X (ix3 g p q) :=
  congrArg X (funext fun a => Fin.ext (by
    match a with
    | 0 => simp [Rect.emb_apply]
    | 1 => simp [Rect.emb_apply]
    | 2 => simp [Rect.emb_apply]))

/-- The kernel's result. -/
def result (c : Dev nD) : Mat 4096 512 := gated (firstCols (m (c.tc.loc main_arg0))) (secondCols (m (c.tc.loc main_arg0)))
  (m (c.tc.loc main_arg1)) (m (c.tc.loc main_arg2))

/-- What the kernel stores of band `s` at point `t`. -/
def bandOut (c : Dev nD) (t : Fin cfg0.N) (s : Fin 4) : FVec Ideal S128x512 .f32 :=
  chunkOut (band (X0_0 m c t) s) (band (X0_1 m c t) s) (iblk m c 4 t) (iblk m c 3 t) (slabs (iblk m c 2 t))

theorem bandOut_at (c : Dev nD) (t : Fin cfg0.N) (s : Fin 4) (i : Fin 128) (j : Fin 512) :
    bandOut m c t s (ix2 i j) = result m c (ix2 (rowOf t (⟨128 * s.val + i.val, by omega⟩ : Fin 512)) j) := by
  have hp : place (rowOf t (⟨128 * s.val + i.val, by omega⟩ : Fin 512)) = i := Fin.ext (by
    show (512 * t.val + (128 * s.val + i.val)) % 128 = i.val
    omega)
  have hc : ∀ q : Fin 128, line (chunk (rowOf t (⟨128 * s.val + i.val, by omega⟩ : Fin 512))) q = rowOf t (⟨128 * s.val + q.val, by omega⟩ : Fin 512) :=
    fun q => Fin.ext (by
      show 128 * ((512 * t.val + (128 * s.val + i.val)) / 128) + q.val = 512 * t.val + (128 * s.val + q.val)
      omega)
  unfold bandOut
  rw [chunk_at _ _ _ _ _ (average_in m c t)]
  refine congrArg₂ (fun a b : EReal => a * b) (congrArg gelu ((band_at _ s i j).trans (first_in m c t _ j))) ?_
  show _ = blend (m (c.tc.loc main_arg1)) (m (c.tc.loc main_arg2)) _ (place (rowOf t (⟨128 * s.val + i.val, by omega⟩ : Fin 512))) j
  rw [hp]
  refine congrArg₂ (fun a b : EReal => a + b) (offset_in m c t i j) (Finset.sum_congr rfl fun q _ => ?_)
  refine congrArg₂ (fun a b : EReal => a * b) ((slab_at _ _ i q).trans (weight_in m c t _ i q)) ?_
  refine (unit_rows (fun q : Fin 128 => rowOf t (⟨128 * s.val + q.val, by omega⟩ : Fin 512)) _ (geluAll (secondCols (m (c.tc.loc main_arg0)))) (fun i j => ?_) q j).trans ?_
  · exact geluAll_rows (fun q : Fin 128 => rowOf t (⟨128 * s.val + q.val, by omega⟩ : Fin 512)) _ (secondCols (m (c.tc.loc main_arg0)))
      (fun i j => (band_at _ s i j).trans (second_in m c t _ j)) i j
  · exact congrArg (fun r => unit (geluAll (secondCols (m (c.tc.loc main_arg0)))) (ix2 r j)) (hc q).symm

/-- The same at a row and a column of the block. -/
theorem band_piece (c : Dev nD) (t : Fin cfg0.N) (s : Fin 4) (x : S128x512.Idx) (y : S512x512.Idx) (h0 : (y 0).val = 128 * s.val + (x 0).val)
    (h1 : (y 1).val = (x 1).val) : bandOut m c t s x = result m c (ix2 (rowOf t (y 0)) (y 1)) := by
  have e := bandOut_at m c t s (x 0) (x 1)
  have hx := ix2_of x
  have f0 : rowOf t (y 0) = rowOf t (⟨128 * s.val + (x 0).val, by have := (x 0).isLt; have : (x 0).val < 128 := this; omega⟩ : Fin 512) :=
    Fin.ext (congrArg (512 * t.val + ·) h0)
  have f1 : (y 1 : Fin 512) = x 1 := Fin.ext h1
  exact (congrArg (bandOut m c t s) hx).trans (e.trans (congrArg₂ (fun r j => result m c (ix2 r j)) f0.symm f1.symm))

/-- The block a point leaves. -/
theorem block_eq (c : Dev nD) (t : Fin cfg0.N) (y : S512x512.Idx) : outsAt0 m c t y = result m c (ix2 (rowOf t (y 0)) (y 1)) := by
  unfold outsAt0
  frame_out
  refine View.canon_apply_of_pieces (Val := Elt Ideal) (e := .f32) (fun y : S512x512.Idx => result m c (ix2 (rowOf t (y 0)) (y 1))) _ (fun p hp x => ?_) y ?_
  · simp only [List.mem_cons, List.mem_nil_iff, or_false] at hp
    rcases hp with rfl | rfl | rfl | rfl
    · exact (show _ = bandOut m c t 3 x from rfl).trans (band_piece m c t 3 x _ (by simp [Rect.emb_apply]) (by simp [Rect.emb_apply]))
    · exact (show _ = bandOut m c t 2 x from rfl).trans (band_piece m c t 2 x _ (by simp [Rect.emb_apply]) (by simp [Rect.emb_apply]))
    · exact (show _ = bandOut m c t 1 x from rfl).trans (band_piece m c t 1 x _ (by simp [Rect.emb_apply]) (by simp [Rect.emb_apply]))
    · exact (show _ = bandOut m c t 0 x from rfl).trans (band_piece m c t 0 x _ (by simp [Rect.emb_apply]) (by simp [Rect.emb_apply]))
  · exact View.cover_of_tiledL (s := S512x512) (Val := Elt Ideal) (e := .f32) _ S128x512.size (by sl_kernel_rfl) y

theorem result_array (c : Dev nD) : (dats m 0 c).arrAt 5 cfg0.N = result m c := by
  refine (dats m 0 c).arrAt_eq_of_covers 5 _ (by decide +kernel) fun t hf y => ?_
  blk_simp
  rw [after0_5]
  have he : (win0_5.blk t).view.emb y = ix2 (rowOf t (y 0)) (y 1) := by
    funext a
    match a with
    | 0 => exact Fin.ext (by blk_simp [idx t]; show _ = 512 * t.val + (y 0).val; omega)
    | 1 => exact Fin.ext (by blk_simp [idx t])
  rw [he]
  exact block_eq m c t y

theorem run (ρ : Dev nD → PrngReg) : θ_run defs (onTc (τ := τ) (main (F := Ideal))) ⟨m, fun _ => 0, ρ⟩ fun r => ∀ c : Dev nD,
    r.2.mem (c.tc.loc main_v14) = result m c
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2) := by
  refine (θ_run defs _ _).mono (fun r h c => ?_) (Value.run_blocks m ρ)
  obtain ⟨h0, rest⟩ := h c
  exact ⟨h0.trans (result_array m c), rest⟩

end Cert.Kernel11Ideal.Val

end
-- ==== Proof.GateFwdRef.lean ====
/-
  The reference's result term of the gating unit, read element by element.
-/
module

public import proofs.«01_k».proof.Proof.Gen.Reference11Ideal.Run
public import proofs.«01_k».proof.Proof.FfnSpec
public import proofs.«01_k».proof.Proof.GateSpec
public import Idealize.ShloMosaic.Lib.Pointwise
public import Idealize.ShloMosaic.Lib.IdealHost

@[expose] public section

set_option maxRecDepth 16384

noncomputable section

namespace Cert.Reference11Ideal.Val

open Cert.Reference11Ideal Cert.Reference11Ideal.Gen Cert.Ffn Cert.Norm Cert.Gate Idealize.ShloMosaic Idealize.ShloMosaic.TcCoe Idealize.SL.Sem Idealize.ShloMosaic.StableHlo

/-- One number everywhere. -/
abbrev every (b : BitVec 32) : FVec Ideal S2x2048x512 .f32 := broadcastInDim S2x2048x512 ![] bcast_S_S2x2048x512 (constant S_ .f32 b)
/-- One number for every group. -/
abbrev everyGroup (b : BitVec 32) : FVec Ideal S2x16x128x8x1 .f32 := broadcastInDim S2x16x128x8x1 ![] bcast_S_S2x16x128x8x1 (constant S_ .f32 b)

def refGelu (x : FVec Ideal S2x2048x512 .f32) : FVec Ideal S2x2048x512 .f32 :=
  mulf x (mulf (every 0x3F000000#32) (addf (every 0x3F800000#32) (Host.tanh (mulf (every 0x3F4C422A#32)
    (addf x (mulf (every 0x3D372713#32) (mulf (mulf x x) x)))))))
/-- The first columns, activated. -/
def refFirst (z : FVec Ideal S4096x4352 .f32) : FVec Ideal S2x2048x512 .f32 :=
  refGelu (shapeCast S2x2048x512 (extractStridedSlice S4096x512 ![0, 0] z slices_S4096x4352_S4096x512_0_0) shapeCasts_S4096x512_S2x2048x512)
/-- The second columns, activated, by chunk and group. -/
def refSecond (z : FVec Ideal S4096x4352 .f32) : FVec Ideal S2x16x128x8x64 .f32 :=
  shapeCast S2x16x128x8x64 (refGelu (shapeCast S2x2048x512 (extractStridedSlice S4096x512 ![0, 512] z slices_S4096x4352_S4096x512_0_512)
    shapeCasts_S4096x512_S2x2048x512)) shapeCasts_S2x2048x512_S2x16x128x8x64

section groups

variable (x : FVec Ideal S2x16x128x8x64 .f32)

/-- Every group's mean. -/
def refMean : FVec Ideal S2x16x128x8x1 .f32 :=
  Host.divf (broadcastInDim S2x16x128x8x1 ![0, 1, 2, 3] bcast_S2x16x128x8_S2x16x128x8x1_0_1_2_3
    (Host.reduceAdd x (constant S_ .f32 0x00000000#32) reducesTo_S2x16x128x8x64_S2x16x128x8_d4 h_S_)) (everyGroup 0x42800000#32)
def refCentre : FVec Ideal S2x16x128x8x64 .f32 :=
  subf x (broadcastInDim S2x16x128x8x64 ![0, 1, 2, 3, 4] bcast_S2x16x128x8x1_S2x16x128x8x64_0_1_2_3_4 (refMean x))
def refUnit : FVec Ideal S2x16x128x8x64 .f32 :=
  mulf (refCentre x) (broadcastInDim S2x16x128x8x64 ![0, 1, 2, 3, 4] bcast_S2x16x128x8x1_S2x16x128x8x64_0_1_2_3_4
    (Host.rsqrt (addf (refMean (mulf (refCentre x) (refCentre x))) (everyGroup 0x3727C5AC#32))))
/-- The rows of every chunk mixed. -/
def refBlend (w : FVec Ideal S8x128x128 .f32) (b : FVec Ideal S8x128 .f32) : FVec Ideal S2x16x128x8x64 .f32 :=
  addf (transpose S2x16x128x8x64 [1, 2, 4, 0, 3] (Host.dotGeneral dot_S2x16x128x8x64_S8x128x128_S8x2x16x64x128_2_2_014_1_3_0 none x w)
      transposes_S8x2x16x64x128_S2x16x128x8x64_1_2_4_0_3)
    (broadcastInDim S2x16x128x8x64 ![0, 1, 2, 3, 4] bcast_S1x1x128x8x1_S2x16x128x8x64_0_1_2_3_4
      (broadcastInDim S1x1x128x8x1 ![2, 3] bcast_S128x8_S1x1x128x8x1_2_3 (transpose S128x8 [1, 0] b transposes_S8x128_S128x8_1_0)))

end groups

def refOut (z : FVec Ideal S4096x4352 .f32) (w : FVec Ideal S8x128x128 .f32) (b : FVec Ideal S8x128 .f32) : FVec Ideal S4096x512 .f32 :=
  shapeCast S4096x512 (mulf (refFirst z) (shapeCast S2x2048x512 (refBlend (refUnit (refSecond z)) w b) shapeCasts_S2x16x128x8x64_S2x2048x512))
    shapeCasts_S2x2048x512_S4096x512

/-- A chunk by its batch. -/
abbrev chunkOf (a : Fin 2) (s : Fin 16) : Fin 32 := ⟨16 * a.val + s.val, by omega⟩

theorem gelu_at (x : FVec Ideal S2x2048x512 .f32) (a : Fin 2) (s : Fin 2048) (j : Fin 512) : refGelu x (ix3 a s j) = gelu (x (ix3 a s j)) := by
  unfold gelu depth half Gate.slope cubic
  rw [mul_comm (Ideal.ofBits .f32 0x3F000000#32), mul_assoc (x (ix3 a s j))]
  pointwise [refGelu]

theorem first_at (z : FVec Ideal S4096x4352 .f32) (a : Fin 2) (s : Fin 2048) (j : Fin 512) :
    refFirst z (ix3 a s j) = gelu (z (ix2 (⟨a.val * 2048 + s.val, by omega⟩ : Fin 4096) (⟨j.val, by omega⟩ : Fin 4352))) := by
  unfold refFirst
  rw [gelu_at]
  refine congrArg gelu ?_
  pointwise

theorem second_at (z : FVec Ideal S4096x4352 .f32) (a : Fin 2) (s : Fin 16) (p : Fin 128) (g : Fin 8) (d : Fin 64) :
    refSecond z (ix5 a s p g d) = geluAll (secondCols z) (ix2 (line (chunkOf a s) p) (lane g d)) := by
  have e : line (chunkOf a s) p = (⟨a.val * 2048 + (s.val * 128 + p.val), by omega⟩ : Fin 4096) :=
    Fin.ext (by show 128 * (16 * a.val + s.val) + p.val = a.val * 2048 + (s.val * 128 + p.val); omega)
  have f : (⟨512 + (lane g d).val, by omega⟩ : Fin 4352) = ⟨512 + (g.val * 64 + d.val), by omega⟩ :=
    Fin.ext (by show 512 + (64 * g.val + d.val) = 512 + (g.val * 64 + d.val); omega)
  show _ = gelu (z (ix2 (line (chunkOf a s) p) (⟨512 + (lane g d).val, _⟩ : Fin 4352)))
  rw [e, f]
  unfold gelu depth half Gate.slope cubic
  rw [mul_comm (Ideal.ofBits .f32 0x3F000000#32), mul_assoc (z _)]
  pointwise [refSecond, refGelu]

section groups

variable (x : FVec Ideal S2x16x128x8x64 .f32) (X : Mat 4096 512)

theorem mean_at (h : ∀ a s p g d, x (ix5 a s p g d) = X (ix2 (line (chunkOf a s) p) (lane g d))) (a s p g) :
    refMean x (ix5 a s p g 0) = mean X (line (chunkOf a s) p) g := by
  unfold mean wide
  simp only [← h]
  pointwise [refMean]

theorem centre_at (h : ∀ a s p g d, x (ix5 a s p g d) = X (ix2 (line (chunkOf a s) p) (lane g d))) (a s p g d) :
    refCentre x (ix5 a s p g d) = centre X (ix2 (line (chunkOf a s) p) (lane g d)) := by
  have e := mean_at x X h a s p g
  show _ = X (ix2 (line (chunkOf a s) p) (lane g d)) - mean X (line (chunkOf a s) p) (grp (lane g d))
  rw [grp_lane, ← e, ← h]
  unfold refCentre
  generalize refMean x = y
  pointwise

theorem unit_at (h : ∀ a s p g d, x (ix5 a s p g d) = X (ix2 (line (chunkOf a s) p) (lane g d))) (a s p g d) :
    refUnit x (ix5 a s p g d) = unit X (ix2 (line (chunkOf a s) p) (lane g d)) := by
  have e := mean_at (mulf (refCentre x) (refCentre x)) (squares (centre X))
    (fun a s p g d => congrArg₂ (fun a b : EReal => a * b) (centre_at x X h a s p g d) (centre_at x X h a s p g d)) a s p g
  show _ = centre X (ix2 (line (chunkOf a s) p) (lane g d)) * root X (line (chunkOf a s) p) (grp (lane g d))
  unfold root
  rw [grp_lane, ← e, ← centre_at x X h]
  unfold refUnit
  generalize refMean (mulf (refCentre x) (refCentre x)) = y
  generalize refCentre x = n
  unfold tiny
  pointwise

theorem blend_at (w : FVec Ideal S8x128x128 .f32) (b : FVec Ideal S8x128 .f32) (a s p g d) : refBlend x w b (ix5 a s p g d)
    = (∑ q, x (ix5 a s q g d) * w (ix3 g p q)) + b (ix2 g p) := by
  pointwise [refBlend]

end groups

theorem gate_eq (z : FVec Ideal S4096x4352 .f32) (w : FVec Ideal S8x128x128 .f32) (b : FVec Ideal S8x128 .f32) :
    refOut z w b = gated (firstCols z) (secondCols z) w b := by
  have e : ∀ (i : Fin 4096) (j : Fin 512), refOut z w b (ix2 i j) = gated (firstCols z) (secondCols z) w b (ix2 i j) := by
    intro i j
    unfold refOut
    generalize hn : refBlend (refUnit (refSecond z)) w b = n
    generalize hy : refFirst z = y
    pointwise
    rw [← hn, ← hy, first_at, blend_at]
    refine congrArg₂ (fun a b : EReal => a * b) (congrArg gelu (congrArg (fun r => z (ix2 r _)) (Fin.ext ?_))) ?_
    · show i.val / 2048 * 2048 + i.val % 2048 = i.val
      omega
    · show _ = blend w b (rowsAt (unit (geluAll (secondCols z))) (chunk i)) (place i) j
      have hp : (⟨i.val % 2048 % 128, by omega⟩ : Fin 128) = place i := Fin.ext (by show i.val % 2048 % 128 = i.val % 128; omega)
      have hc : chunkOf (⟨i.val / 2048, by omega⟩ : Fin 2) (⟨i.val % 2048 / 128, by omega⟩ : Fin 16) = chunk i :=
        Fin.ext (by show 16 * (i.val / 2048) + i.val % 2048 / 128 = i.val / 128; omega)
      have hj : lane (⟨j.val / 64, by omega⟩ : Fin 8) (⟨j.val % 64, by omega⟩ : Fin 64) = j := lane_of j
      rw [hp, add_comm]
      refine congrArg₂ (fun a b : EReal => a + b) rfl (Finset.sum_congr rfl fun q _ => ?_)
      rw [mul_comm, unit_at (refSecond z) (geluAll (secondCols z)) (second_at z), hc, hj]
      rfl
  exact funext fun y => (congrArg _ (ix2_of y)).trans ((e _ _).trans (congrArg _ (ix2_of y).symm))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = refOut (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h => h) (Value.run m ρ)

end Cert.Reference11Ideal.Val

end
-- ==== Proof.InRun.lean ====
/-
  The run of the input projection to its last boundary: every buffer outside the kernels' own scopes ends at the
  contents named there.
-/
module

public import proofs.«01_k».proof.Proof.Gen.Kernel3Ideal.Frame
public import Idealize.ShloMosaic.Lib.Pointwise

@[expose] public section

set_option maxRecDepth 16384

noncomputable section

namespace Cert.Kernel3Ideal.Val

open Cert.Kernel3Ideal Cert.Kernel3Ideal.Gen Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode Idealize.ShloMosaic.Rounds

variable (m : (ℓ : Loc nD τ sig) → Buf (Elt Ideal) ℓ) (ρ : Dev nD → PrngReg)

/-- The resources the run is stated over. -/
abbrev Res := MT nD τ sig Unit (Elt Ideal) ℕ (UR sig nD τ) ℕ
/-- The tokens the launch starts from. -/
abbrev tokens : UR sig nD τ := initOf (Pipeline.cells cfgs cellOf_inj) (Pipeline.launchToks cfgs cellOf_inj)

set_option backward.isDefEq.respectTransparency.types false in
theorem final : θ_run defs (onTc (τ := τ) (main (F := Ideal))) ⟨m, fun _ => 0, ρ⟩ fun r =>
    ∀ c : Dev nD, ∀ b ∈ Pipeline.ucRefs τ sig, r.2.mem (((c : Thread nD τ)).1, b) = W6 m ρ c b := by
  refine Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := tokens) (hu₀ := ?tok)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := Pipeline.initEach L lv fun c => ?start)
    (QY := fun c s => ∀ b ∈ Pipeline.ucRefs τ sig, s.mem (((c : Thread nD τ)).1, b) = W6 m ρ c b)
    (hfin := fun c s => ?stop) (hQ := fun s h _ => h)
  case tok =>
    iintro H
    imodintro
    isplitl [H]
    · iapply (show (ownU tokens : sProp Res) ⊢ BI.own (emb₁ tokens) from .rfl)
      iexact H
    · iapply (show (BI.emp : sProp Res) ⊢ bigSep Finset.univ (fun _ : Dev nD => (BI.emp : sProp Res)) from by rw [BI.bigSep_emp_const])
      iempintro
  case start =>
    have h0 : (unscopedBufs c (fun b => m ((c : Thread nD τ).loc b)) : sProp Res) = StableHlo.held (c : Thread nD τ) (Pipeline.ucRefs τ sig) (W0 m ρ c) :=
      Pipeline.unscopedBufs_held c (W0 m ρ c)
    rw [h0]
    iintro ⟨⟨Hb, -, Ho, -, Hg, -⟩, -⟩
    imodintro
    isplitl [Hb]
    · iexact Hb
    isplitl [Hg]
    · iexists _
      iexact Hg
    · iexists ∅
      iexact Ho
  case stop =>
    iintro ⟨⟨Hb, -⟩, Hs⟩
    unfold StableHlo.held
    imodintro
    iapply (pointsTo_read_all (Pipeline.ucRefs τ sig) (fun b => (((c : Thread nD τ)).1, b)) (W6 m ρ c) s)
    isplitl [Hb] <;> iassumption

end Cert.Kernel3Ideal.Val

end
-- ==== Proof.InBlocks.lean ====
/-
  The four kernels of the input projection, from the arrays they are entered with: the normed rows, their product with
  the weight, and the two gradients of that product.
-/
module

public import proofs.«01_k».proof.Proof.Gen.Kernel3Ideal.Frame
public import proofs.«01_k».proof.Proof.NormSpec
public import Idealize.ShloMosaic.Lib.Pipeline.ValueKit
public import Idealize.ShloMosaic.Lib.Pipeline.ReadBack
public import Idealize.ShloMosaic.Lib.IdealHost

@[expose] public section

set_option maxRecDepth 16384

noncomputable section

namespace Cert.Kernel3Ideal.Val

open Cert.Kernel3Ideal Cert.Kernel3Ideal.Gen Cert.Ffn Cert.Norm Idealize.ShloMosaic Idealize.ShloMosaic.TcCoe Idealize.SL.Sem
open Idealize.ShloMosaic.Pipeline (Dat)

section payloads

theorem norm_at (x0 : Vec Ideal S512x2048 .f32) (x1 : Vec Ideal S1x2048 .f32) (i : Fin 512) (j : Fin 2048) :
    k0_pay1 x0 x1 (ix2 i j) = x0 (ix2 i j) * scale x0 i * x1 (ix2 0 j) := by
  unfold scale power width shift
  pointwise [k0_pay1]

theorem z_at (x0 : Vec Ideal S512x2048 .bf16) (x1 : Vec Ideal S2048x2176 .bf16) (i : Fin 512) (j : Fin 2176) :
    k1_pay1 x0 x1 (ix2 i j) = nn x0 x1 i j := by
  unfold nn
  pointwise [k1_pay1]

theorem win_at (x0 : Vec Ideal S4096x1024 .bf16) (x1 : Vec Ideal S1x4096x1088 .bf16) (i : Fin 1024) (j : Fin 1088) :
    k2_pay1 x0 x1 (ix3 0 i j) = cut x0 x1 0 i j := by
  unfold cut
  pointwise [k2_pay1]

theorem dh_at (x0 : Vec Ideal S1024x4352 .bf16) (x1 : Vec Ideal S512x4352 .bf16) (i : Fin 1024) (j : Fin 512) :
    k3_pay1 x0 x1 (ix2 i j) = nt x0 x1 i j := by
  unfold nt
  pointwise [k3_pay1]

end payloads

variable (V : (c : Dev nD) → (b : Ref sig .tc) → Buf (Elt Ideal) ((c : Thread nD τ).loc b))

theorem idx0 : ∀ t : Fin cfg0.N, win0_0.index t = ![t.val, 0]
    ∧ win0_1.index t = ![0, 0]
    ∧ win0_2.index t = ![t.val, 0] :=
  (by decide +kernel : ∀ t : Fin grid0.N, win0_0.index t = ![t.val, 0]
    ∧ win0_1.index t = ![0, 0]
    ∧ win0_2.index t = ![t.val, 0])

theorem points0 (t : Fin cfg0.N) : t.val < 8 := t.isLt

/-- A point's row among all rows. -/
abbrev row0 (t : Fin cfg0.N) (i : Fin 512) : Fin 4096 := ⟨512 * (t.val) + i.val, by have := points0 t; omega⟩

theorem place0 (t : Fin cfg0.N) (y : S512x2048.Idx) : (win0_2.blk t).view.emb y = ix2 (row0 t (y 0)) (y 1) := by
  funext a
  match a with
  | 0 => exact Fin.ext (by blk_simp [idx0 t]; show _ = 512 * (t.val) + (y 0).val; omega)
  | 1 => exact Fin.ext (by blk_simp [idx0 t])

theorem x_block (c : Dev nD) (t : Fin cfg0.N) (i j) : iblk0 V c 0 t (ix2 i j) = V c main_arg0 (ix2 (row0 t i) j) := by
  blk_ext [iblk0, idx0 t]

theorem gain_block (c : Dev nD) (t : Fin cfg0.N) (j) : iblk0 V c 1 t (ix2 0 j) = V c main_v0 (ix2 0 j) := by
  blk_ext [iblk0, idx0 t]

theorem scale_block (c : Dev nD) (t : Fin cfg0.N) (i) : scale (iblk0 V c 0 t) i = scale (V c main_arg0) (row0 t i) := by
  unfold scale power
  simp only [x_block V c t]

theorem norm_point (c : Dev nD) (t : Fin cfg0.N) (i : Fin 512) (j : Fin 2048) :
    out0_2 (iblk0 V c 0 t) (iblk0 V c 1 t) (ix2 i j) = rowed (V c main_arg0) (V c main_v0) (ix2 (row0 t i) j) := by
  frame_out
  rw [norm_at, x_block, scale_block, gain_block]
  rfl

theorem norm_array (c : Dev nD) : (dat0 V c).arrAt 2 cfg0.N = rowed (V c main_arg0) (V c main_v0) := by
  refine (dat0 V c).arrAt_eq_of_covers 2 _ (by decide +kernel) fun t hf y => ?_
  blk_simp
  rw [after0_2, place0 t y]
  exact (congrArg _ (ix2_of y)).trans (norm_point V c t (y 0) (y 1))

theorem idx1 : ∀ t : Fin cfg1.N, win1_0.index t = ![t.val % 8, 0]
    ∧ win1_1.index t = ![0, t.val / 8]
    ∧ win1_2.index t = ![t.val % 8, t.val / 8] :=
  (by decide +kernel : ∀ t : Fin grid1.N, win1_0.index t = ![t.val % 8, 0]
    ∧ win1_1.index t = ![0, t.val / 8]
    ∧ win1_2.index t = ![t.val % 8, t.val / 8])

theorem points1 (t : Fin cfg1.N) : t.val < 16 := t.isLt

/-- A point's row among all rows. -/
abbrev row1 (t : Fin cfg1.N) (i : Fin 512) : Fin 4096 := ⟨512 * (t.val % 8) + i.val, by have := points1 t; omega⟩
/-- A point's column among all columns. -/
abbrev col1 (t : Fin cfg1.N) (j : Fin 2176) : Fin 4352 := ⟨2176 * (t.val / 8) + j.val, by have := points1 t; omega⟩

theorem place1 (t : Fin cfg1.N) (y : S512x2176.Idx) : (win1_2.blk t).view.emb y = ix2 (row1 t (y 0)) (col1 t (y 1)) := by
  funext a
  match a with
  | 0 => exact Fin.ext (by blk_simp [idx1 t]; show _ = 512 * (t.val % 8) + (y 0).val; omega)
  | 1 => exact Fin.ext (by blk_simp [idx1 t]; show _ = 2176 * (t.val / 8) + (y 1).val; omega)

theorem z_block (c : Dev nD) (t : Fin cfg1.N) (i j) :
    nn (iblk1 V c 0 t) (iblk1 V c 1 t) i j = nn (V c main_v1) (V c main_arg2) (row1 t i) (col1 t j) := by
  unfold nn
  refine Finset.sum_congr rfl fun l _ => ?_
  congr 1
  · blk_ext [iblk1, idx1 t]
  · blk_ext [iblk1, idx1 t]

theorem z_point (c : Dev nD) (t : Fin cfg1.N) (i : Fin 512) (j : Fin 2176) :
    out1_2 (iblk1 V c 0 t) (iblk1 V c 1 t) (ix2 i j) = nn (V c main_v1) (V c main_arg2) (row1 t i) (col1 t j) := by
  frame_out
  rw [z_at, z_block]

theorem z_array (c : Dev nD) : (dat1 V c).arrAt 2 cfg1.N = fun x => nn (V c main_v1) (V c main_arg2) (x 0) (x 1) := by
  refine (dat1 V c).arrAt_eq_of_covers 2 _ (by decide +kernel) fun t hf y => ?_
  blk_simp
  rw [after1_2, place1 t y]
  exact (congrArg _ (ix2_of y)).trans (z_point V c t (y 0) (y 1))

theorem idx2 : ∀ t : Fin cfg2.N, win2_0.index t = ![0, t.val % 2]
    ∧ win2_1.index t = ![t.val / 2, 0, 0]
    ∧ win2_2.index t = ![t.val / 2, t.val % 2, 0] :=
  (by decide +kernel : ∀ t : Fin grid2.N, win2_0.index t = ![0, t.val % 2]
    ∧ win2_1.index t = ![t.val / 2, 0, 0]
    ∧ win2_2.index t = ![t.val / 2, t.val % 2, 0])

theorem points2 (t : Fin cfg2.N) : t.val < 8 := t.isLt

/-- A point's row among all rows. -/
abbrev row2 (t : Fin cfg2.N) (i : Fin 1024) : Fin 2048 := ⟨1024 * (t.val % 2) + i.val, by have := points2 t; omega⟩
/-- A point's slab. -/
abbrev slab2 (t : Fin cfg2.N) : Fin 4 := ⟨t.val / 2, by have := points2 t; omega⟩

theorem place2 (t : Fin cfg2.N) (y : S1x1024x1088.Idx) : (win2_2.blk t).view.emb y = ix3 (slab2 t) (row2 t (y 1)) (y 2) := by
  funext a
  match a with
  | 0 => exact Fin.ext (by blk_simp [idx2 t])
  | 1 => exact Fin.ext (by blk_simp [idx2 t]; show _ = 1024 * (t.val % 2) + (y 1).val; omega)
  | 2 => exact Fin.ext (by blk_simp [idx2 t])

theorem win_block (c : Dev nD) (t : Fin cfg2.N) (i : Fin 1024) (j : Fin 1088) :
    cut (iblk2 V c 0 t) (iblk2 V c 1 t) 0 i j = cut (V c main_v1) (V c main_v4) (slab2 t) (row2 t i) j := by
  unfold cut
  refine Finset.sum_congr rfl fun l _ => ?_
  congr 1
  · blk_ext [iblk2, idx2 t]
  · blk_ext [iblk2, idx2 t]

theorem win_point (c : Dev nD) (t : Fin cfg2.N) (i : Fin 1024) (j : Fin 1088) :
    out2_2 (iblk2 V c 0 t) (iblk2 V c 1 t) (ix3 0 i j)
      = cut (V c main_v1) (V c main_v4) (slab2 t) (row2 t i) j := by
  frame_out
  rw [win_at, win_block]

theorem win_array (c : Dev nD) : (dat2 V c).arrAt 2 cfg2.N
    = fun x => cut (V c main_v1) (V c main_v4) (x 0) (x 1) (x 2) := by
  refine (dat2 V c).arrAt_eq_of_covers 2 _ (by decide +kernel) fun t hf y => ?_
  blk_simp
  rw [after2_2, place2 t y]
  exact (congrArg _ (ix3_one y)).trans (win_point V c t (y 1) (y 2))

theorem idx3 : ∀ t : Fin cfg3.N, win3_0.index t = ![t.val / 4, 0]
    ∧ win3_1.index t = ![t.val % 4, 0]
    ∧ win3_2.index t = ![t.val / 4, t.val % 4] :=
  (by decide +kernel : ∀ t : Fin grid3.N, win3_0.index t = ![t.val / 4, 0]
    ∧ win3_1.index t = ![t.val % 4, 0]
    ∧ win3_2.index t = ![t.val / 4, t.val % 4])

theorem points3 (t : Fin cfg3.N) : t.val < 16 := t.isLt

/-- A point's row among all rows. -/
abbrev row3 (t : Fin cfg3.N) (i : Fin 1024) : Fin 4096 := ⟨1024 * (t.val / 4) + i.val, by have := points3 t; omega⟩
/-- A point's column among all columns. -/
abbrev col3 (t : Fin cfg3.N) (j : Fin 512) : Fin 2048 := ⟨512 * (t.val % 4) + j.val, by have := points3 t; omega⟩

theorem place3 (t : Fin cfg3.N) (y : S1024x512.Idx) : (win3_2.blk t).view.emb y = ix2 (row3 t (y 0)) (col3 t (y 1)) := by
  funext a
  match a with
  | 0 => exact Fin.ext (by blk_simp [idx3 t]; show _ = 1024 * (t.val / 4) + (y 0).val; omega)
  | 1 => exact Fin.ext (by blk_simp [idx3 t]; show _ = 512 * (t.val % 4) + (y 1).val; omega)

theorem dh_block (c : Dev nD) (t : Fin cfg3.N) (i j) :
    nt (iblk3 V c 0 t) (iblk3 V c 1 t) i j = nt (V c main_arg3) (V c main_arg2) (row3 t i) (col3 t j) := by
  unfold nt
  refine Finset.sum_congr rfl fun l _ => ?_
  congr 1
  · blk_ext [iblk3, idx3 t]
  · blk_ext [iblk3, idx3 t]

theorem dh_point (c : Dev nD) (t : Fin cfg3.N) (i : Fin 1024) (j : Fin 512) :
    out3_2 (iblk3 V c 0 t) (iblk3 V c 1 t) (ix2 i j) = nt (V c main_arg3) (V c main_arg2) (row3 t i) (col3 t j) := by
  frame_out
  rw [dh_at, dh_block]

theorem dh_array (c : Dev nD) : (dat3 V c).arrAt 2 cfg3.N = fun x => nt (V c main_arg3) (V c main_arg2) (x 0) (x 1) := by
  refine (dat3 V c).arrAt_eq_of_covers 2 _ (by decide +kernel) fun t hf y => ?_
  blk_simp
  rw [after3_2, place3 t y]
  exact (congrArg _ (ix2_of y)).trans (dh_point V c t (y 0) (y 1))

end Cert.Kernel3Ideal.Val

end
-- ==== Proof.InValue.lean ====
/-
  The run of the input projection, its four result arrays as functions of the four argument arrays.
-/
module

public import proofs.«01_k».proof.Proof.InRun
public import proofs.«01_k».proof.Proof.InBlocks

@[expose] public section

set_option maxRecDepth 16384

noncomputable section

namespace Cert.Kernel3Ideal.Val

open Cert.Kernel3Ideal Cert.Kernel3Ideal.Gen Cert.Ffn Cert.Norm Idealize.ShloMosaic Idealize.ShloMosaic.TcCoe Idealize.SL.Sem

variable (m : (ℓ : Loc nD τ sig) → Buf (Elt Ideal) ℓ) (ρ : Dev nD → PrngReg) (c : Dev nD)

/-- An argument array as launched. -/
abbrev arg (a : Ref sig .tc) : Buf (Elt Ideal) ((c : Thread nD τ).loc a) := m ((c : Thread nD τ).loc a)

theorem gain_val : V1 m ρ c main_v0 = broadcastInDim S1x2048 ![1] bcast_S2048_S1x2048_1 (arg m c main_arg1) := by
  show StableHlo.after hostOps0 (W0 m ρ c) (Proc.devRef .tc main_v0) = _
  after_results

theorem gain_at (j : Fin 2048) : V1 m ρ c main_v0 (ix2 0 j) = arg m c main_arg1 (ix1 j) := by
  rw [gain_val]
  pointwise

theorem norm_val : W2 m ρ c main_v1 = normed (arg m c main_arg0) (arg m c main_arg1) := by
  refine (W2_arr m ρ c 2).trans ((norm_array (V1 m ρ) c).trans ?_)
  rw [show V1 m ρ c main_arg0 = _ from W1_args m ρ c main_arg0 (by decide)]
  exact rowed_eq _ _ _ (gain_at m ρ c)

theorem z_val : W3 m ρ c main_v2 = fun x => nn (normed (arg m c main_arg0) (arg m c main_arg1)) (arg m c main_arg2) (x 0) (x 1) := by
  refine (W3_arr m ρ c 2).trans ((z_array (V2 m ρ) c).trans ?_)
  rw [show V2 m ρ c main_v1 = _ from norm_val m ρ c, show V2 m ρ c main_arg2 = _ from W2_args m ρ c main_arg2 (by decide)]

theorem stack_val : V4 m ρ c main_v4 = transpose S4x4096x1088 [1, 0, 2] (shapeCast S4096x4x1088 (arg m c main_arg3) shapeCasts_S4096x4352_S4096x4x1088)
    transposes_S4096x4x1088_S4x4096x1088_1_0_2 := by
  rw [show arg m c main_arg3 = W3 m ρ c main_arg3 from (W3_args m ρ c main_arg3 (by decide)).symm]
  show StableHlo.after hostOps2 (W3 m ρ c) (Proc.devRef .tc main_v4) = _
  after_results
  rfl

theorem stack_at (s : Fin 4) (l : Fin 4096) (j : Fin 1088) : V4 m ρ c main_v4 (ix3 s l j) = arg m c main_arg3 (ix2 l (inCol s j)) := by
  rw [stack_val]
  pointwise
  refine congrArg (arg m c main_arg3) (congrArg (ix2 l) (Fin.ext ?_))
  show s.val * 1088 + j.val = 1088 * s.val + j.val
  omega

theorem win_val : W5 m ρ c main_v5 = inSlabs (normed (arg m c main_arg0) (arg m c main_arg1)) (arg m c main_arg3) := by
  refine (W5_arr m ρ c 2).trans ((win_array (V4 m ρ) c).trans ?_)
  rw [show V4 m ρ c main_v1 = _ from (W4_of m ρ c main_v1 (by decide)).trans ((W3_of m ρ c main_v1 (by decide)).trans (norm_val m ρ c))]
  funext x
  unfold cut inSlabs tn
  exact Finset.sum_congr rfl fun l _ => congrArg _ (stack_at m ρ c (x 0) l (x 2))

theorem dh_val : W6 m ρ c main_v6 = fun x => nt (arg m c main_arg3) (arg m c main_arg2) (x 0) (x 1) := by
  refine (W6_arr m ρ c 2).trans ((dh_array (V5 m ρ) c).trans ?_)
  rw [show V5 m ρ c main_arg3 = _ from W5_args m ρ c main_arg3 (by decide), show V5 m ρ c main_arg2 = _ from W5_args m ρ c main_arg2 (by decide)]

theorem run : θ_run defs (onTc (τ := τ) (main (F := Ideal))) ⟨m, fun _ => 0, ρ⟩ fun r => ∀ c : Dev nD,
      r.2.mem ((c.tc : Thread nD τ).loc main_v1) = normed (arg m c main_arg0) (arg m c main_arg1)
      ∧ r.2.mem ((c.tc : Thread nD τ).loc main_v2)
        = (fun x => nn (normed (arg m c main_arg0) (arg m c main_arg1)) (arg m c main_arg2) (x 0) (x 1) : Mat 4096 4352)
      ∧ r.2.mem ((c.tc : Thread nD τ).loc main_v5) = inSlabs (normed (arg m c main_arg0) (arg m c main_arg1)) (arg m c main_arg3)
      ∧ r.2.mem ((c.tc : Thread nD τ).loc main_v6) = (fun x => nt (arg m c main_arg3) (arg m c main_arg2) (x 0) (x 1) : Mat 4096 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (final m ρ)
  have at_end := fun (b : Ref sig .tc) (hb : (b : DevRef τ sig) ∈ Pipeline.ucRefs τ sig) => h c b hb
  refine ⟨(at_end main_v1 (mem_uc main_v1 (by decide))).trans ?_, (at_end main_v2 (mem_uc main_v2 (by decide))).trans ?_,
    (at_end main_v5 (mem_uc main_v5 (by decide))).trans ?_, (at_end main_v6 (mem_uc main_v6 (by decide))).trans (dh_val m ρ c),
    (at_end main_arg0 (mem_uc main_arg0 (by decide))).trans (W6_args m ρ c main_arg0 (by decide)),
    (at_end main_arg1 (mem_uc main_arg1 (by decide))).trans (W6_args m ρ c main_arg1 (by decide)),
    (at_end main_arg2 (mem_uc main_arg2 (by decide))).trans (W6_args m ρ c main_arg2 (by decide)),
    (at_end main_arg3 (mem_uc main_arg3 (by decide))).trans (W6_args m ρ c main_arg3 (by decide))⟩
  · exact (W6_of m ρ c main_v1 (by decide)).trans <| (W5_of m ρ c main_v1 (by decide)).trans <| (W4_of m ρ c main_v1 (by decide)).trans <|
      (W3_of m ρ c main_v1 (by decide)).trans (norm_val m ρ c)
  · exact (W6_of m ρ c main_v2 (by decide)).trans <| (W5_of m ρ c main_v2 (by decide)).trans <| (W4_of m ρ c main_v2 (by decide)).trans (z_val m ρ c)
  · exact (W6_of m ρ c main_v5 (by decide)).trans (win_val m ρ c)

end Cert.Kernel3Ideal.Val

end
-- ==== Proof.InRef.lean ====
/-
  The reference's four result terms of the input projection, read at an index.
-/
module

public import proofs.«01_k».proof.Proof.Gen.Reference3Ideal.Run
public import proofs.«01_k».proof.Proof.NormSpec
public import Idealize.ShloMosaic.Lib.Pointwise
public import Idealize.ShloMosaic.Lib.IdealHost

@[expose] public section

set_option maxRecDepth 16384

noncomputable section

namespace Cert.Reference3Ideal.Val

open Cert.Reference3Ideal Cert.Reference3Ideal.Gen Cert.Ffn Cert.Norm Idealize.ShloMosaic Idealize.ShloMosaic.TcCoe Idealize.SL.Sem Idealize.ShloMosaic.StableHlo

variable (x : FVec Ideal S4096x2048 .f32) (g : FVec Ideal S2048 .f32) (w : FVec Ideal S2048x4352 .bf16) (e : FVec Ideal S4096x4352 .bf16)

/-- The shifted mean square of every row. -/
def refPower : FVec Ideal S4096x1 .f32 :=
  addf (Host.divf (broadcastInDim S4096x1 ![0] bcast_S4096_S4096x1_0 (Host.reduceAdd (mulf x x) (constant S_ .f32 0x00000000#32) reducesTo_S4096x2048_S4096_d1 h_S_))
    (broadcastInDim S4096x1 ![] bcast_S_S4096x1 (constant S_ .f32 0x45000000#32))) (broadcastInDim S4096x1 ![] bcast_S_S4096x1 (constant S_ .f32 0x358637BD#32))
/-- What every row is multiplied with, in every column. -/
def refScale : FVec Ideal S4096x2048 .f32 := broadcastInDim S4096x2048 ![0, 1] bcast_S4096x1_S4096x2048_0_1 (Host.rsqrt (refPower x))
/-- The gains in every row. -/
def refGain : FVec Ideal S4096x2048 .f32 := broadcastInDim S4096x2048 ![0, 1] bcast_S1x2048_S4096x2048_0_1 (broadcastInDim S1x2048 ![1] bcast_S2048_S1x2048_1 g)
/-- The norm. -/
def refNorm : FVec Ideal S4096x2048 .f32 := mulf (mulf x (refScale x)) (refGain g)
/-- The normed rows times the weight. -/
def refZ : FVec Ideal S4096x4352 .f32 :=
  Host.dotGeneral dot_S4096x2048_S2048x4352_S4096x4352_1_0_0_1_n_n none (refNorm x g) (extf .f32 w bitsLt_bf16_f32)
/-- The weight's gradient, cut into four slabs of columns. -/
def refSlabs (h : FVec Ideal S4096x2048 .f32) : FVec Ideal S4x2048x1088 .bf16 :=
  truncf .bf16 (transpose S4x2048x1088 [1, 0, 2] (shapeCast S2048x4x1088 (transpose S2048x4352 [1, 0]
    (Host.dotGeneral dot_S4096x4352_S4096x2048_S4352x2048_0_0_1_1_n_n none (extf .f32 e bitsLt_bf16_f32) h) transposes_S4352x2048_S2048x4352_1_0)
    shapeCasts_S2048x4352_S2048x4x1088) transposes_S2048x4x1088_S4x2048x1088_1_0_2) bitsLt_bf16_f32
/-- The gradient of the normed rows. -/
def refDh : FVec Ideal S4096x2048 .f32 :=
  Host.dotGeneral dot_S4096x4352_S2048x4352_S4096x2048_1_1_0_0_n_n none (extf .f32 e bitsLt_bf16_f32) (extf .f32 w bitsLt_bf16_f32)

theorem power_at (i : Fin 4096) : refPower x (ix2 i 0) = power x i := by
  unfold power width shift
  pointwise [refPower]

theorem scale_at (i : Fin 4096) (j : Fin 2048) : refScale x (ix2 i j) = scale x i := by
  unfold scale
  rw [← power_at]
  pointwise [refScale]

theorem gain_at (i : Fin 4096) (j : Fin 2048) : refGain g (ix2 i j) = g (ix1 j) := by
  pointwise [refGain]

theorem norm_eq : refNorm x g = normed x g := by
  funext z
  idx_vars z
  have e : refNorm x g (ix2 z0 z1) = x (ix2 z0 z1) * refScale x (ix2 z0 z1) * refGain g (ix2 z0 z1) := rfl
  rw [e, scale_at, gain_at]
  rfl

theorem z_eq : refZ x g w = fun y => nn (normed x g) w (y 0) (y 1) := by
  funext z
  idx_vars z
  unfold refZ nn
  rw [norm_eq]
  pointwise

theorem slabs_eq (h : Mat 4096 2048) : refSlabs e h = inSlabs h e := by
  funext z
  idx_vars z
  unfold refSlabs inSlabs tn
  pointwise
  have ec : (⟨z0.val * 1088 + z2.val, by omega⟩ : Fin 4352) = inCol z0 z2 := Fin.ext (by show z0.val * 1088 + z2.val = 1088 * z0.val + z2.val; omega)
  rw [ec]
  exact Finset.sum_congr rfl fun l _ => mul_comm _ _

theorem dh_eq : refDh w e = fun y => nt e w (y 0) (y 1) := by
  funext z
  idx_vars z
  unfold refDh nt
  pointwise

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = truncf .bf16 (refNorm (m ((c.tc : Thread nD τ).loc main_arg0)) (m ((c.tc : Thread nD τ).loc main_arg1))) bitsLt_bf16_f32
      ∧ r.2.mem ((c.tc : Thread nD τ).loc main_v14) = refZ (m ((c.tc : Thread nD τ).loc main_arg0)) (m ((c.tc : Thread nD τ).loc main_arg1)) (m ((c.tc : Thread nD τ).loc main_arg2))
      ∧ r.2.mem ((c.tc : Thread nD τ).loc main_v22) = refSlabs (m ((c.tc : Thread nD τ).loc main_arg3)) (refNorm (m ((c.tc : Thread nD τ).loc main_arg0)) (m ((c.tc : Thread nD τ).loc main_arg1)))
      ∧ r.2.mem ((c.tc : Thread nD τ).loc main_v18) = refDh (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h => h) (Value.run m ρ)

end Cert.Reference3Ideal.Val

end
-- ==== Proof.OutRun.lean ====
/-
  The run of the output projection to its last boundary: every buffer outside the kernels' own scopes ends at the
  contents named there.
-/
module

public import proofs.«01_k».proof.Proof.Gen.Kernel4Ideal.Frame
public import Idealize.ShloMosaic.Lib.Pointwise

@[expose] public section

set_option maxRecDepth 16384

noncomputable section

namespace Cert.Kernel4Ideal.Val

open Cert.Kernel4Ideal Cert.Kernel4Ideal.Gen Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode Idealize.ShloMosaic.Rounds

variable (m : (ℓ : Loc nD τ sig) → Buf (Elt Ideal) ℓ) (ρ : Dev nD → PrngReg)

/-- The resources the run is stated over. -/
abbrev Res := MT nD τ sig Unit (Elt Ideal) ℕ (UR sig nD τ) ℕ
/-- The tokens the launch starts from. -/
abbrev tokens : UR sig nD τ := initOf (Pipeline.cells cfgs cellOf_inj) (Pipeline.launchToks cfgs cellOf_inj)

set_option backward.isDefEq.respectTransparency.types false in
theorem final : θ_run defs (onTc (τ := τ) (main (F := Ideal))) ⟨m, fun _ => 0, ρ⟩ fun r =>
    ∀ c : Dev nD, ∀ b ∈ Pipeline.ucRefs τ sig, r.2.mem (((c : Thread nD τ)).1, b) = W4 m ρ c b := by
  refine Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := tokens) (hu₀ := ?tok)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := Pipeline.initEach L lv fun c => ?start)
    (QY := fun c s => ∀ b ∈ Pipeline.ucRefs τ sig, s.mem (((c : Thread nD τ)).1, b) = W4 m ρ c b)
    (hfin := fun c s => ?stop) (hQ := fun s h _ => h)
  case tok =>
    iintro H
    imodintro
    isplitl [H]
    · iapply (show (ownU tokens : sProp Res) ⊢ BI.own (emb₁ tokens) from .rfl)
      iexact H
    · iapply (show (BI.emp : sProp Res) ⊢ bigSep Finset.univ (fun _ : Dev nD => (BI.emp : sProp Res)) from by rw [BI.bigSep_emp_const])
      iempintro
  case start =>
    have h0 : (unscopedBufs c (fun b => m ((c : Thread nD τ).loc b)) : sProp Res) = StableHlo.held (c : Thread nD τ) (Pipeline.ucRefs τ sig) (W0 m ρ c) :=
      Pipeline.unscopedBufs_held c (W0 m ρ c)
    rw [h0]
    iintro ⟨⟨Hb, -, Ho, -, Hg, -⟩, -⟩
    imodintro
    isplitl [Hb]
    · iexact Hb
    isplitl [Hg]
    · iexists _
      iexact Hg
    · iexists ∅
      iexact Ho
  case stop =>
    iintro ⟨⟨Hb, -⟩, Hs⟩
    unfold StableHlo.held
    imodintro
    iapply (pointsTo_read_all (Pipeline.ucRefs τ sig) (fun b => (((c : Thread nD τ)).1, b)) (W4 m ρ c) s)
    isplitl [Hb] <;> iassumption

end Cert.Kernel4Ideal.Val

end
-- ==== Proof.OutBlocks.lean ====
/-
  The three kernels of the output projection, from the arrays they are entered with: the product with its residual and
  the normed rows of the sum, and the two gradients of the product.
-/
module

public import proofs.«01_k».proof.Proof.Gen.Kernel4Ideal.Frame
public import proofs.«01_k».proof.Proof.NormSpec
public import Idealize.ShloMosaic.Lib.Pipeline.ValueKit
public import Idealize.ShloMosaic.Lib.Pipeline.ReadBack
public import Idealize.ShloMosaic.Lib.IdealHost

@[expose] public section

set_option maxRecDepth 16384

noncomputable section

namespace Cert.Kernel4Ideal.Val

open Cert.Kernel4Ideal Cert.Kernel4Ideal.Gen Cert.Ffn Cert.Norm Idealize.ShloMosaic Idealize.ShloMosaic.TcCoe Idealize.SL.Sem
open Idealize.ShloMosaic.Pipeline (Dat)

section payloads

theorem mid_at (x0 : Vec Ideal S512x2048 .bf16) (x1 : Vec Ideal S2048x2048 .bf16) (x2 : Vec Ideal S512x2048 .f32) (i : Fin 512) (j : Fin 2048) :
    k0_pay1 x0 x1 x2 (ix2 i j) = nn x0 x1 i j + x2 (ix2 i j) := by
  unfold nn
  pointwise [k0_pay1]

theorem norm_at (x0 : Vec Ideal S512x2048 .bf16) (x1 : Vec Ideal S2048x2048 .bf16) (x2 : Vec Ideal S512x2048 .f32) (x3 : Vec Ideal S1x2048 .f32)
    (i : Fin 512) (j : Fin 2048) : k0_pay2 x0 x1 x2 x3 (ix2 i j) = rowed (k0_pay1 x0 x1 x2) x3 (ix2 i j) := by
  show _ = k0_pay1 x0 x1 x2 (ix2 i j) * scale (k0_pay1 x0 x1 x2) i * x3 (ix2 0 j)
  unfold scale power width shift k0_pay2
  generalize k0_pay1 x0 x1 x2 = p
  pointwise

theorem dy_at (x0 : Vec Ideal S1024x2048 .bf16) (x1 : Vec Ideal S1024x2048 .bf16) (i : Fin 1024) (j : Fin 1024) :
    k1_pay1 x0 x1 (ix2 i j) = nt x0 x1 i j := by
  unfold nt
  pointwise [k1_pay1]

theorem dw_at (x0 : Vec Ideal S4096x1024 .bf16) (x1 : Vec Ideal S4096x512 .bf16) (i : Fin 1024) (j : Fin 512) :
    k2_pay1 x0 x1 (ix2 i j) = tn x0 x1 i j := by
  unfold tn
  pointwise [k2_pay1]

end payloads

variable (V : (c : Dev nD) → (b : Ref sig .tc) → Buf (Elt Ideal) ((c : Thread nD τ).loc b))

theorem idx0 : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0])

theorem points0 (t : Fin cfg0.N) : t.val < 8 := t.isLt

/-- A point's row among all rows. -/
abbrev row0 (t : Fin cfg0.N) (i : Fin 512) : Fin 4096 := ⟨512 * (t.val) + i.val, by have := points0 t; omega⟩

theorem place0 (t : Fin cfg0.N) (y : S512x2048.Idx) : (win0_4.blk t).view.emb y = ix2 (row0 t (y 0)) (y 1) := by
  funext a
  match a with
  | 0 => exact Fin.ext (by blk_simp [idx0 t]; show _ = 512 * (t.val) + (y 0).val; omega)
  | 1 => exact Fin.ext (by blk_simp [idx0 t])

theorem place0_norm (t : Fin cfg0.N) (y : S512x2048.Idx) : (win0_5.blk t).view.emb y = ix2 (row0 t (y 0)) (y 1) := by
  funext a
  match a with
  | 0 => exact Fin.ext (by blk_simp [idx0 t]; show _ = 512 * (t.val) + (y 0).val; omega)
  | 1 => exact Fin.ext (by blk_simp [idx0 t])

theorem sum_block (c : Dev nD) (t : Fin cfg0.N) (i j) :
    nn (iblk0 V c 0 t) (iblk0 V c 1 t) i j = nn (V c main_arg0) (V c main_arg1) (row0 t i) j := by
  unfold nn
  refine Finset.sum_congr rfl fun l _ => ?_
  congr 1
  · blk_ext [iblk0, idx0 t]
  · blk_ext [iblk0, idx0 t]

theorem res_block (c : Dev nD) (t : Fin cfg0.N) (i j) : iblk0 V c 2 t (ix2 i j) = V c main_arg2 (ix2 (row0 t i) j) := by
  blk_ext [iblk0, idx0 t]

theorem gain_block (c : Dev nD) (t : Fin cfg0.N) (j) : iblk0 V c 3 t (ix2 0 j) = V c main_v0 (ix2 0 j) := by
  blk_ext [iblk0, idx0 t]

theorem mid_block (c : Dev nD) (t : Fin cfg0.N) (i : Fin 512) (j : Fin 2048) :
    k0_pay1 (iblk0 V c 0 t) (iblk0 V c 1 t) (iblk0 V c 2 t) (ix2 i j) = mid (V c main_arg0) (V c main_arg1) (V c main_arg2) (ix2 (row0 t i) j) := by
  rw [mid_at, sum_block, res_block]
  rfl

theorem scale_block (c : Dev nD) (t : Fin cfg0.N) (i : Fin 512) :
    scale (k0_pay1 (iblk0 V c 0 t) (iblk0 V c 1 t) (iblk0 V c 2 t)) i = scale (mid (V c main_arg0) (V c main_arg1) (V c main_arg2)) (row0 t i) := by
  unfold scale power
  simp only [mid_block V c t]

theorem norm_block (c : Dev nD) (t : Fin cfg0.N) (i : Fin 512) (j : Fin 2048) :
    rowed (k0_pay1 (iblk0 V c 0 t) (iblk0 V c 1 t) (iblk0 V c 2 t)) (iblk0 V c 3 t) (ix2 i j)
      = rowed (mid (V c main_arg0) (V c main_arg1) (V c main_arg2)) (V c main_v0) (ix2 (row0 t i) j) :=
  congrArg₂ (· * ·) (congrArg₂ (· * ·) (mid_block V c t i j) (scale_block V c t i)) (gain_block V c t j)

theorem mid_point (c : Dev nD) (t : Fin cfg0.N) (i : Fin 512) (j : Fin 2048) :
    out0_4 (iblk0 V c 0 t) (iblk0 V c 1 t) (iblk0 V c 2 t) (iblk0 V c 3 t) (ix2 i j) = mid (V c main_arg0) (V c main_arg1) (V c main_arg2) (ix2 (row0 t i) j) := by
  frame_out
  rw [mid_block]

theorem norm_point (c : Dev nD) (t : Fin cfg0.N) (i : Fin 512) (j : Fin 2048) :
    out0_5 (iblk0 V c 0 t) (iblk0 V c 1 t) (iblk0 V c 2 t) (iblk0 V c 3 t) (ix2 i j) = rowed (mid (V c main_arg0) (V c main_arg1) (V c main_arg2)) (V c main_v0) (ix2 (row0 t i) j) := by
  frame_out
  rw [norm_at, norm_block]

theorem mid_array (c : Dev nD) : (dat0 V c).arrAt 4 cfg0.N = mid (V c main_arg0) (V c main_arg1) (V c main_arg2) := by
  refine (dat0 V c).arrAt_eq_of_covers 4 _ (by decide +kernel) fun t hf y => ?_
  blk_simp
  rw [after0_4, place0 t y]
  exact (congrArg _ (ix2_of y)).trans (mid_point V c t (y 0) (y 1))

theorem norm_array (c : Dev nD) : (dat0 V c).arrAt 5 cfg0.N = rowed (mid (V c main_arg0) (V c main_arg1) (V c main_arg2)) (V c main_v0) := by
  refine (dat0 V c).arrAt_eq_of_covers 5 _ (by decide +kernel) fun t hf y => ?_
  blk_simp
  rw [after0_5, place0_norm t y]
  exact (congrArg _ (ix2_of y)).trans (norm_point V c t (y 0) (y 1))

theorem idx1 : ∀ t : Fin cfg1.N, win1_0.index t = ![t.val % 4, 0]
    ∧ win1_1.index t = ![t.val / 4, 0]
    ∧ win1_2.index t = ![t.val % 4, t.val / 4] :=
  (by decide +kernel : ∀ t : Fin grid1.N, win1_0.index t = ![t.val % 4, 0]
    ∧ win1_1.index t = ![t.val / 4, 0]
    ∧ win1_2.index t = ![t.val % 4, t.val / 4])

theorem points1 (t : Fin cfg1.N) : t.val < 8 := t.isLt

/-- A point's row among all rows. -/
abbrev row1 (t : Fin cfg1.N) (i : Fin 1024) : Fin 4096 := ⟨1024 * (t.val % 4) + i.val, by have := points1 t; omega⟩
/-- A point's column among all columns. -/
abbrev col1 (t : Fin cfg1.N) (j : Fin 1024) : Fin 2048 := ⟨1024 * (t.val / 4) + j.val, by have := points1 t; omega⟩

theorem place1 (t : Fin cfg1.N) (y : S1024x1024.Idx) : (win1_2.blk t).view.emb y = ix2 (row1 t (y 0)) (col1 t (y 1)) := by
  funext a
  match a with
  | 0 => exact Fin.ext (by blk_simp [idx1 t]; show _ = 1024 * (t.val % 4) + (y 0).val; omega)
  | 1 => exact Fin.ext (by blk_simp [idx1 t]; show _ = 1024 * (t.val / 4) + (y 1).val; omega)

theorem dy_block (c : Dev nD) (t : Fin cfg1.N) (i j) :
    nt (iblk1 V c 0 t) (iblk1 V c 1 t) i j = nt (V c main_arg4) (V c main_arg1) (row1 t i) (col1 t j) := by
  unfold nt
  refine Finset.sum_congr rfl fun l _ => ?_
  congr 1
  · blk_ext [iblk1, idx1 t]
  · blk_ext [iblk1, idx1 t]

theorem dy_point (c : Dev nD) (t : Fin cfg1.N) (i : Fin 1024) (j : Fin 1024) :
    out1_2 (iblk1 V c 0 t) (iblk1 V c 1 t) (ix2 i j) = nt (V c main_arg4) (V c main_arg1) (row1 t i) (col1 t j) := by
  frame_out
  rw [dy_at, dy_block]

theorem dy_array (c : Dev nD) : (dat1 V c).arrAt 2 cfg1.N = fun x => nt (V c main_arg4) (V c main_arg1) (x 0) (x 1) := by
  refine (dat1 V c).arrAt_eq_of_covers 2 _ (by decide +kernel) fun t hf y => ?_
  blk_simp
  rw [after1_2, place1 t y]
  exact (congrArg _ (ix2_of y)).trans (dy_point V c t (y 0) (y 1))

theorem idx2 : ∀ t : Fin cfg2.N, win2_0.index t = ![0, t.val / 4]
    ∧ win2_1.index t = ![0, t.val % 4]
    ∧ win2_2.index t = ![t.val / 4, t.val % 4] :=
  (by decide +kernel : ∀ t : Fin grid2.N, win2_0.index t = ![0, t.val / 4]
    ∧ win2_1.index t = ![0, t.val % 4]
    ∧ win2_2.index t = ![t.val / 4, t.val % 4])

theorem points2 (t : Fin cfg2.N) : t.val < 8 := t.isLt

/-- A point's row among all rows. -/
abbrev row2 (t : Fin cfg2.N) (i : Fin 1024) : Fin 2048 := ⟨1024 * (t.val / 4) + i.val, by have := points2 t; omega⟩
/-- A point's column among all columns. -/
abbrev col2 (t : Fin cfg2.N) (j : Fin 512) : Fin 2048 := ⟨512 * (t.val % 4) + j.val, by have := points2 t; omega⟩

theorem place2 (t : Fin cfg2.N) (y : S1024x512.Idx) : (win2_2.blk t).view.emb y = ix2 (row2 t (y 0)) (col2 t (y 1)) := by
  funext a
  match a with
  | 0 => exact Fin.ext (by blk_simp [idx2 t]; show _ = 1024 * (t.val / 4) + (y 0).val; omega)
  | 1 => exact Fin.ext (by blk_simp [idx2 t]; show _ = 512 * (t.val % 4) + (y 1).val; omega)

theorem dw_block (c : Dev nD) (t : Fin cfg2.N) (i j) :
    tn (iblk2 V c 0 t) (iblk2 V c 1 t) i j = tn (V c main_arg0) (V c main_arg4) (row2 t i) (col2 t j) := by
  unfold tn
  refine Finset.sum_congr rfl fun l _ => ?_
  congr 1
  · blk_ext [iblk2, idx2 t]
  · blk_ext [iblk2, idx2 t]

theorem dw_point (c : Dev nD) (t : Fin cfg2.N) (i : Fin 1024) (j : Fin 512) :
    out2_2 (iblk2 V c 0 t) (iblk2 V c 1 t) (ix2 i j) = tn (V c main_arg0) (V c main_arg4) (row2 t i) (col2 t j) := by
  frame_out
  rw [dw_at, dw_block]

theorem dw_array (c : Dev nD) : (dat2 V c).arrAt 2 cfg2.N = fun x => tn (V c main_arg0) (V c main_arg4) (x 0) (x 1) := by
  refine (dat2 V c).arrAt_eq_of_covers 2 _ (by decide +kernel) fun t hf y => ?_
  blk_simp
  rw [after2_2, place2 t y]
  exact (congrArg _ (ix2_of y)).trans (dw_point V c t (y 0) (y 1))

end Cert.Kernel4Ideal.Val

end
-- ==== Proof.OutValue.lean ====
/-
  The run of the output projection, its four result arrays as functions of the five argument arrays.
-/
module

public import proofs.«01_k».proof.Proof.OutRun
public import proofs.«01_k».proof.Proof.OutBlocks

@[expose] public section

set_option maxRecDepth 16384

noncomputable section

namespace Cert.Kernel4Ideal.Val

open Cert.Kernel4Ideal Cert.Kernel4Ideal.Gen Cert.Ffn Cert.Norm Idealize.ShloMosaic Idealize.ShloMosaic.TcCoe Idealize.SL.Sem

variable (m : (ℓ : Loc nD τ sig) → Buf (Elt Ideal) ℓ) (ρ : Dev nD → PrngReg) (c : Dev nD)

/-- An argument array as launched. -/
abbrev arg (a : Ref sig .tc) : Buf (Elt Ideal) ((c : Thread nD τ).loc a) := m ((c : Thread nD τ).loc a)

theorem gain_val : V1 m ρ c main_v0 = broadcastInDim S1x2048 ![1] bcast_S2048_S1x2048_1 (arg m c main_arg3) := by
  show StableHlo.after hostOps0 (W0 m ρ c) (Proc.devRef .tc main_v0) = _
  after_results

theorem gain_at (j : Fin 2048) : V1 m ρ c main_v0 (ix2 0 j) = arg m c main_arg3 (ix1 j) := by
  rw [gain_val]
  pointwise

theorem mid_val : W2 m ρ c main_v1_0 = mid (arg m c main_arg0) (arg m c main_arg1) (arg m c main_arg2) := by
  refine (W2_arr m ρ c 4).trans ((mid_array (V1 m ρ) c).trans ?_)
  rw [show V1 m ρ c main_arg0 = _ from W1_args m ρ c main_arg0 (by decide), show V1 m ρ c main_arg1 = _ from W1_args m ρ c main_arg1 (by decide),
    show V1 m ρ c main_arg2 = _ from W1_args m ρ c main_arg2 (by decide)]

theorem norm_val : W2 m ρ c main_v1_1 = normed (mid (arg m c main_arg0) (arg m c main_arg1) (arg m c main_arg2)) (arg m c main_arg3) := by
  refine (W2_arr m ρ c 5).trans ((norm_array (V1 m ρ) c).trans ?_)
  rw [show V1 m ρ c main_arg0 = _ from W1_args m ρ c main_arg0 (by decide), show V1 m ρ c main_arg1 = _ from W1_args m ρ c main_arg1 (by decide),
    show V1 m ρ c main_arg2 = _ from W1_args m ρ c main_arg2 (by decide)]
  exact rowed_eq _ _ _ (gain_at m ρ c)

theorem dy_val : W3 m ρ c main_v2 = fun x => nt (arg m c main_arg4) (arg m c main_arg1) (x 0) (x 1) := by
  refine (W3_arr m ρ c 2).trans ((dy_array (V2 m ρ) c).trans ?_)
  rw [show V2 m ρ c main_arg4 = _ from W2_args m ρ c main_arg4 (by decide), show V2 m ρ c main_arg1 = _ from W2_args m ρ c main_arg1 (by decide)]

theorem dw_val : W4 m ρ c main_v3 = fun x => tn (arg m c main_arg0) (arg m c main_arg4) (x 0) (x 1) := by
  refine (W4_arr m ρ c 2).trans ((dw_array (V3 m ρ) c).trans ?_)
  rw [show V3 m ρ c main_arg0 = _ from W3_args m ρ c main_arg0 (by decide), show V3 m ρ c main_arg4 = _ from W3_args m ρ c main_arg4 (by decide)]

theorem run : θ_run defs (onTc (τ := τ) (main (F := Ideal))) ⟨m, fun _ => 0, ρ⟩ fun r => ∀ c : Dev nD,
      r.2.mem ((c.tc : Thread nD τ).loc main_v1_0) = mid (arg m c main_arg0) (arg m c main_arg1) (arg m c main_arg2)
      ∧ r.2.mem ((c.tc : Thread nD τ).loc main_v1_1) = normed (mid (arg m c main_arg0) (arg m c main_arg1) (arg m c main_arg2)) (arg m c main_arg3)
      ∧ r.2.mem ((c.tc : Thread nD τ).loc main_v2) = (fun x => nt (arg m c main_arg4) (arg m c main_arg1) (x 0) (x 1) : Mat 4096 2048)
      ∧ r.2.mem ((c.tc : Thread nD τ).loc main_v3) = (fun x => tn (arg m c main_arg0) (arg m c main_arg4) (x 0) (x 1) : Mat 2048 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (final m ρ)
  have at_end := fun (b : Ref sig .tc) (hb : (b : DevRef τ sig) ∈ Pipeline.ucRefs τ sig) => h c b hb
  refine ⟨(at_end main_v1_0 (mem_uc main_v1_0 (by decide))).trans ?_, (at_end main_v1_1 (mem_uc main_v1_1 (by decide))).trans ?_,
    (at_end main_v2 (mem_uc main_v2 (by decide))).trans ?_, (at_end main_v3 (mem_uc main_v3 (by decide))).trans (dw_val m ρ c),
    (at_end main_arg0 (mem_uc main_arg0 (by decide))).trans (W4_args m ρ c main_arg0 (by decide)),
    (at_end main_arg1 (mem_uc main_arg1 (by decide))).trans (W4_args m ρ c main_arg1 (by decide)),
    (at_end main_arg2 (mem_uc main_arg2 (by decide))).trans (W4_args m ρ c main_arg2 (by decide)),
    (at_end main_arg3 (mem_uc main_arg3 (by decide))).trans (W4_args m ρ c main_arg3 (by decide)),
    (at_end main_arg4 (mem_uc main_arg4 (by decide))).trans (W4_args m ρ c main_arg4 (by decide))⟩
  · exact (W4_of m ρ c main_v1_0 (by decide)).trans <| (W3_of m ρ c main_v1_0 (by decide)).trans (mid_val m ρ c)
  · exact (W4_of m ρ c main_v1_1 (by decide)).trans <| (W3_of m ρ c main_v1_1 (by decide)).trans (norm_val m ρ c)
  · exact (W4_of m ρ c main_v2 (by decide)).trans (dy_val m ρ c)

end Cert.Kernel4Ideal.Val

end
-- ==== Proof.OutRef.lean ====
/-
  The reference's four result terms of the output projection, read at an index.
-/
module

public import proofs.«01_k».proof.Proof.Gen.Reference4Ideal.Run
public import proofs.«01_k».proof.Proof.NormSpec
public import Idealize.ShloMosaic.Lib.Pointwise
public import Idealize.ShloMosaic.Lib.IdealHost

@[expose] public section

set_option maxRecDepth 16384

noncomputable section

namespace Cert.Reference4Ideal.Val

open Cert.Reference4Ideal Cert.Reference4Ideal.Gen Cert.Ffn Cert.Norm Idealize.ShloMosaic Idealize.ShloMosaic.TcCoe Idealize.SL.Sem Idealize.ShloMosaic.StableHlo

variable (x : FVec Ideal S4096x2048 .f32) (g : FVec Ideal S2048 .f32) (y : FVec Ideal S4096x2048 .bf16) (w : FVec Ideal S2048x2048 .bf16)
  (e : FVec Ideal S4096x2048 .bf16)

/-- The shifted mean square of every row. -/
def refPower : FVec Ideal S4096x1 .f32 :=
  addf (Host.divf (broadcastInDim S4096x1 ![0] bcast_S4096_S4096x1_0 (Host.reduceAdd (mulf x x) (constant S_ .f32 0x00000000#32) reducesTo_S4096x2048_S4096_d1 h_S_))
    (broadcastInDim S4096x1 ![] bcast_S_S4096x1 (constant S_ .f32 0x45000000#32))) (broadcastInDim S4096x1 ![] bcast_S_S4096x1 (constant S_ .f32 0x358637BD#32))
/-- What every row is multiplied with, in every column. -/
def refScale : FVec Ideal S4096x2048 .f32 := broadcastInDim S4096x2048 ![0, 1] bcast_S4096x1_S4096x2048_0_1 (Host.rsqrt (refPower x))
/-- The gains in every row. -/
def refGain : FVec Ideal S4096x2048 .f32 := broadcastInDim S4096x2048 ![0, 1] bcast_S1x2048_S4096x2048_0_1 (broadcastInDim S1x2048 ![1] bcast_S2048_S1x2048_1 g)
/-- The norm. -/
def refNorm : FVec Ideal S4096x2048 .f32 := mulf (mulf x (refScale x)) (refGain g)
/-- The residual and the product. -/
def refMid : FVec Ideal S4096x2048 .f32 :=
  addf x (Host.dotGeneral dot_S4096x2048_S2048x2048_S4096x2048_1_0_0_1_n_n none (extf .f32 y bitsLt_bf16_f32) (extf .f32 w bitsLt_bf16_f32))
/-- The gradient of the product's left factor. -/
def refDy : FVec Ideal S4096x2048 .f32 :=
  Host.dotGeneral dot_S4096x2048_S2048x2048_S4096x2048_1_1_0_0_n_n none (extf .f32 e bitsLt_bf16_f32) (extf .f32 w bitsLt_bf16_f32)
/-- The gradient of the weight. -/
def refDw : FVec Ideal S2048x2048 .bf16 :=
  truncf .bf16 (transpose S2048x2048 [1, 0] (Host.dotGeneral dot_S4096x2048_S4096x2048_S2048x2048_0_0_1_1_n_n none (extf .f32 e bitsLt_bf16_f32)
    (extf .f32 y bitsLt_bf16_f32)) transposes_S2048x2048_S2048x2048_1_0) bitsLt_bf16_f32

theorem power_at (i : Fin 4096) : refPower x (ix2 i 0) = power x i := by
  unfold power width shift
  pointwise [refPower]

theorem scale_at (i : Fin 4096) (j : Fin 2048) : refScale x (ix2 i j) = scale x i := by
  unfold scale
  rw [← power_at]
  pointwise [refScale]

theorem gain_at (i : Fin 4096) (j : Fin 2048) : refGain g (ix2 i j) = g (ix1 j) := by
  pointwise [refGain]

theorem norm_eq : refNorm x g = normed x g := by
  funext z
  idx_vars z
  have e : refNorm x g (ix2 z0 z1) = x (ix2 z0 z1) * refScale x (ix2 z0 z1) * refGain g (ix2 z0 z1) := rfl
  rw [e, scale_at, gain_at]
  rfl

theorem mid_eq : refMid x y w = mid y w x := by
  funext z
  idx_vars z
  unfold refMid mid nn
  pointwise
  exact add_comm _ _

theorem dy_eq : refDy w e = fun z => nt e w (z 0) (z 1) := by
  funext z
  idx_vars z
  unfold refDy nt
  pointwise

theorem dw_eq : refDw y e = fun z => tn y e (z 0) (z 1) := by
  funext z
  idx_vars z
  unfold refDw tn
  pointwise
  exact Finset.sum_congr rfl fun l _ => mul_comm _ _

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = refMid (m ((c.tc : Thread nD τ).loc main_arg2)) (m ((c.tc : Thread nD τ).loc main_arg0)) (m ((c.tc : Thread nD τ).loc main_arg1))
      ∧ r.2.mem ((c.tc : Thread nD τ).loc main_v21) = truncf .bf16 (refNorm (refMid (m ((c.tc : Thread nD τ).loc main_arg2)) (m ((c.tc : Thread nD τ).loc main_arg0)) (m ((c.tc : Thread nD τ).loc main_arg1))) (m ((c.tc : Thread nD τ).loc main_arg3))) bitsLt_bf16_f32
      ∧ r.2.mem ((c.tc : Thread nD τ).loc main_v7) = refDy (m ((c.tc : Thread nD τ).loc main_arg1)) (m ((c.tc : Thread nD τ).loc main_arg4))
      ∧ r.2.mem ((c.tc : Thread nD τ).loc main_v22) = refDw (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h => h) (Value.run m ρ)

end Cert.Reference4Ideal.Val

end
-- ==== Proof.BackPoint.lean ====
/-
  What a point of the norm's backward kernel leaves in its output blocks, read off its run.
-/
module

public import proofs.«01_k».proof.Proof.Gen.Kernel5Ideal.Value
public import proofs.«01_k».proof.Proof.NormSpec
public import Idealize.ShloMosaic.Lib.Pipeline.ValueKit
public import Idealize.ShloMosaic.Lib.Pipeline.ReadBack
public import Idealize.ShloMosaic.Lib.IdealHost

@[expose] public section

set_option maxRecDepth 16384

noncomputable section

namespace Cert.Kernel5Ideal.Val

open Cert.Kernel5Ideal Cert.Kernel5Ideal.Gen Cert.Ffn Cert.Norm Idealize.ShloMosaic Idealize.ShloMosaic.TcCoe Idealize.SL.Sem
open Idealize.ShloMosaic.Pipeline (Dat)

/-- The gains of an array of one row. -/
abbrev gains (G : Mat 1 2048) : Fin 2048 → EReal := fun j => G (ix2 0 j)

section payloads

variable (x0 x1 x2 : Vec Ideal S256x2048 .f32) (x3 : Vec Ideal S1x2048 .f32)

theorem power_at (i : Fin 256) : k0_pay3 x1 (ix2 i 0) = power x1 i := by
  unfold power width shift
  pointwise [k0_pay3]

theorem scale_at (i : Fin 256) : k0_pay4 x1 (ix2 i 0) = scale x1 i := by
  unfold scale
  rw [← power_at]
  unfold k0_pay4
  pointwise

theorem gain_at (j : Fin 2048) : k0_pay5 x0 x1 (ix2 0 j) = gainGrad x0 x1 j := by
  unfold gainGrad
  simp only [← scale_at]
  unfold k0_pay5
  pointwise

theorem rows_at (i : Fin 256) (j : Fin 2048) : k0_pay6 x0 x1 x3 (ix2 i j)
    = x0 (ix2 i j) * x3 (ix2 0 j) * scale x1 i + x1 (ix2 i j) * pull x0 x1 (gains x3) i + pull x0 x1 (gains x3) i * x1 (ix2 i j) := by
  unfold pull minusHalf width
  rw [← scale_at, ← power_at]
  unfold k0_pay6
  pointwise
  simp only [Fin.sum_univ_one, gains]

theorem dx_at (i : Fin 256) (j : Fin 2048) : k0_pay7 x0 x1 x2 x3 (ix2 i j) = normGrad x0 x1 (gains x3) x2 i j := by
  show k0_pay6 x0 x1 x3 (ix2 i j) + x2 (ix2 i j) = _
  rw [rows_at]
  rfl

theorem dxb_at (i : Fin 256) (j : Fin 2048) : k0_pay1 (k0_pay8 x0 x1 x2 x3) (ix2 i j) = normGrad x0 x1 (gains x3) x2 i j := by
  show k0_pay6 x0 x1 x3 (ix2 i j) + x2 (ix2 i j) = _
  rw [rows_at]
  rfl

theorem add_at (o : Vec Ideal S1x2048 .f32) (j : Fin 2048) : k0_pay2 (k0_pay5 x0 x1) o (ix2 0 j) = o (ix2 0 j) + gainGrad x0 x1 j := by
  rw [← gain_at]
  unfold k0_pay2
  pointwise

end payloads

variable (m : (ℓ : Loc nD τ sig) → Buf (Elt Ideal) ℓ)

theorem dx_point (c : Dev nD) (t : Fin cfg0.N) (i : Fin 256) (j : Fin 2048) : (outsAt0 m c t.val t.isLt).1 (ix2 i j)
    = normGrad (iblk m c 0 t) (iblk m c 1 t) (gains (iblk m c 3 t)) (iblk m c 2 t) i j := by
  by_cases h : t.val % 16 = 0
  · rw [outsAt0_A m c t h (by have : t.val < 16 := t.isLt; omega)]
    frame_out
    exact dx_at _ _ _ _ i j
  · rw [outsAt0_B m c t h (by omega)]
    frame_out
    exact dx_at _ _ _ _ i j

theorem dxb_point (c : Dev nD) (t : Fin cfg0.N) (i : Fin 256) (j : Fin 2048) : (outsAt0 m c t.val t.isLt).2.1 (ix2 i j)
    = normGrad (iblk m c 0 t) (iblk m c 1 t) (gains (iblk m c 3 t)) (iblk m c 2 t) i j := by
  by_cases h : t.val % 16 = 0
  · rw [outsAt0_A m c t h (by have : t.val < 16 := t.isLt; omega)]
    frame_out
    exact dxb_at _ _ _ _ i j
  · rw [outsAt0_B m c t h (by omega)]
    frame_out
    exact dxb_at _ _ _ _ i j

theorem dg_first (c : Dev nD) (t : Fin cfg0.N) (h : t.val % 16 = 0) (j : Fin 2048) :
    (outsAt0 m c t.val t.isLt).2.2 (ix2 0 j) = 0 + gainGrad (iblk m c 0 t) (iblk m c 1 t) j := by
  rw [outsAt0_A m c t h (by have : t.val < 16 := t.isLt; omega), zero_add]
  frame_out
  exact gain_at _ _ j

theorem dg_next (c : Dev nD) (t : Fin cfg0.N) (h : ¬ t.val % 16 = 0) (j : Fin 2048) :
    (outsAt0 m c t.val t.isLt).2.2 (ix2 0 j)
      = (outsAt0 m c (t.val - 1) (Nat.lt_of_le_of_lt (Nat.sub_le _ _) t.isLt)).2.2 (ix2 0 j) + gainGrad (iblk m c 0 t) (iblk m c 1 t) j := by
  rw [outsAt0_B m c t h (by omega)]
  frame_out
  exact add_at _ _ _ j

end Cert.Kernel5Ideal.Val

end
-- ==== Proof.BackArrays.lean ====
/-
  The three output arrays of the norm's backward kernel as functions of the four argument arrays: the gradient of the rows
  block by block, in both precisions, and the gradient of the gains summed over the sixteen points.
-/
module

public import proofs.«01_k».proof.Proof.BackPoint

@[expose] public section

set_option maxRecDepth 16384

noncomputable section

namespace Cert.Kernel5Ideal.Val

open Cert.Kernel5Ideal Cert.Kernel5Ideal.Gen Cert.Ffn Cert.Norm Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![t.val, 0]
    ∧ win0_6.index t = ![0, 0])

theorem points (t : Fin cfg0.N) : t.val < 16 := t.isLt

/-- A point's row among all rows. -/
abbrev rowOf (t : Fin cfg0.N) (i : Fin 256) : Fin 4096 := ⟨256 * t.val + i.val, by have := points t; omega⟩

theorem gain_val (c : Dev nD) : V m c main_v0 = broadcastInDim S1x2048 ![1] bcast_S2048_S1x2048_1 (m (c.tc.loc main_arg2)) := by
  show StableHlo.after hostOps0 _ (Proc.devRef .tc main_v0) = _
  after_results

theorem grad_in (c : Dev nD) (t : Fin cfg0.N) (i j) : iblk m c 0 t (ix2 i j) = m (c.tc.loc main_arg0) (ix2 (rowOf t i) j) := by
  blk_ext [iblk, V, idx t]

theorem row_in (c : Dev nD) (t : Fin cfg0.N) (i j) : iblk m c 1 t (ix2 i j) = m (c.tc.loc main_arg1) (ix2 (rowOf t i) j) := by
  blk_ext [iblk, V, idx t]

theorem res_in (c : Dev nD) (t : Fin cfg0.N) (i j) : iblk m c 2 t (ix2 i j) = m (c.tc.loc main_arg3) (ix2 (rowOf t i) j) := by
  blk_ext [iblk, V, idx t]

theorem gain_in (c : Dev nD) (t : Fin cfg0.N) (j) : iblk m c 3 t (ix2 0 j) = m (c.tc.loc main_arg2) (ix1 j) := by
  have e : iblk m c 3 t (ix2 0 j) = V m c main_v0 (ix2 0 j) := by blk_ext [iblk, idx t]
  rw [e, gain_val]
  pointwise

theorem power_block (c : Dev nD) (t : Fin cfg0.N) (i) : power (iblk m c 1 t) i = power (m (c.tc.loc main_arg1)) (rowOf t i) := by
  unfold power
  simp only [row_in m c t]

theorem scale_block (c : Dev nD) (t : Fin cfg0.N) (i) : scale (iblk m c 1 t) i = scale (m (c.tc.loc main_arg1)) (rowOf t i) := by
  unfold scale
  rw [power_block]

theorem pull_block (c : Dev nD) (t : Fin cfg0.N) (i) : pull (iblk m c 0 t) (iblk m c 1 t) (gains (iblk m c 3 t)) i
    = pull (m (c.tc.loc main_arg0)) (m (c.tc.loc main_arg1)) (fun j => m (c.tc.loc main_arg2) (ix1 j)) (rowOf t i) := by
  unfold pull
  rw [power_block, scale_block]
  simp only [gains, row_in m c t, grad_in m c t, gain_in m c t]

theorem grad_block (c : Dev nD) (t : Fin cfg0.N) (i j) : normGrad (iblk m c 0 t) (iblk m c 1 t) (gains (iblk m c 3 t)) (iblk m c 2 t) i j
    = normGrad (m (c.tc.loc main_arg0)) (m (c.tc.loc main_arg1)) (fun j => m (c.tc.loc main_arg2) (ix1 j)) (m (c.tc.loc main_arg3)) (rowOf t i) j := by
  unfold normGrad
  rw [pull_block, scale_block]
  simp only [gains, row_in m c t, grad_in m c t, gain_in m c t, res_in m c t]

theorem dx_array (c : Dev nD) : (dats m 0 c).arrAt 4 cfg0.N
    = fun x => normGrad (m (c.tc.loc main_arg0)) (m (c.tc.loc main_arg1)) (fun j => m (c.tc.loc main_arg2) (ix1 j)) (m (c.tc.loc main_arg3)) (x 0) (x 1) := by
  refine (dats m 0 c).arrAt_eq_of_covers 4 _ (by decide +kernel) fun t hf y => ?_
  blk_simp
  rw [after0_4]
  have he : (win0_4.blk t).view.emb y = ix2 (rowOf t (y 0)) (y 1) := by
    funext a
    match a with
    | 0 => exact Fin.ext (by blk_simp [idx t]; show _ = 256 * t.val + (y 0).val; omega)
    | 1 => exact Fin.ext (by blk_simp [idx t])
  rw [he]
  exact (congrArg _ (ix2_of y)).trans ((dx_point m c t (y 0) (y 1)).trans (grad_block m c t (y 0) (y 1)))

theorem dxb_array (c : Dev nD) : (dats m 0 c).arrAt 5 cfg0.N
    = fun x => normGrad (m (c.tc.loc main_arg0)) (m (c.tc.loc main_arg1)) (fun j => m (c.tc.loc main_arg2) (ix1 j)) (m (c.tc.loc main_arg3)) (x 0) (x 1) := by
  refine (dats m 0 c).arrAt_eq_of_covers 5 _ (by decide +kernel) fun t hf y => ?_
  blk_simp
  rw [after0_5]
  have he : (win0_5.blk t).view.emb y = ix2 (rowOf t (y 0)) (y 1) := by
    funext a
    match a with
    | 0 => exact Fin.ext (by blk_simp [idx t]; show _ = 256 * t.val + (y 0).val; omega)
    | 1 => exact Fin.ext (by blk_simp [idx t])
  rw [he]
  exact (congrArg _ (ix2_of y)).trans ((dxb_point m c t (y 0) (y 1)).trans (grad_block m c t (y 0) (y 1)))

/-- The points of the whole run. -/
abbrev runPoint (t : Fin cfg0.N) (hr : t.val % 16 = 15) (s : Fin 16) : Fin cfg0.N := ⟨16 * (t.val / 16) + s.val, Pipeline.run_point_lt_of_flush t hr s⟩

theorem dg_point (c : Dev nD) (t : Fin cfg0.N) (hr : t.val % 16 = 15) (j : Fin 2048) :
    (outsAt0 m c t.val t.isLt).2.2 (ix2 0 j) = gainGrad (m (c.tc.loc main_arg0)) (m (c.tc.loc main_arg1)) j := by
  have hsum := Pipeline.eq_sum_fin_of_reset_step_apply_of_flush
    (fun n hn (x : Fin 2048) => (outsAt0 m c n hn).2.2 (ix2 0 x)) 16 (fun _ => (0 : EReal))
    (fun t x => gainGrad (iblk m c 0 t) (iblk m c 1 t) x)
    (fun t h x => dg_first m c t h x) (fun t h x => dg_next m c t h x) t hr j
  refine hsum.trans ?_
  rw [zero_add]
  unfold gainGrad
  refine Eq.trans ?_ (Fin.sum_univ_tiles 16 256 rfl _).symm
  refine Finset.sum_congr rfl fun s _ => Finset.sum_congr rfl fun i _ => ?_
  have e : rowOf (runPoint t hr s) i = ⟨s.val * 256 + i.val, by omega⟩ :=
    Fin.ext (by show 256 * (16 * (t.val / 16) + s.val) + i.val = s.val * 256 + i.val; have := points t; omega)
  refine congrArg₂ (· * ·) (congrArg₂ (· * ·) ((row_in m c _ i j).trans ?_) ((scale_block m c _ i).trans ?_)) ((grad_in m c _ i j).trans ?_) <;> rw [e]

theorem dg_array (c : Dev nD) : (dats m 0 c).arrAt 6 cfg0.N = fun x => gainGrad (m (c.tc.loc main_arg0)) (m (c.tc.loc main_arg1)) (x 1) := by
  refine (dats m 0 c).arrAt_eq_of_covers 6 _ (by decide +kernel) fun t hf y => ?_
  have hr := (flush0_6 t).mp hf
  blk_simp
  rw [after0_6]
  have hy : y = ix2 0 (y 1) := by
    have h0 : (y 0 : Nat) < 1 := (y 0).isLt
    funext a
    match a with
    | 0 => exact Fin.ext (by show (y 0 : Nat) = 0; omega)
    | 1 => rfl
  have he : (win0_6.blk t).view.emb y = ix2 0 (y 1) := by
    have h0 : (y 0 : Nat) < 1 := (y 0).isLt
    funext a
    match a with
    | 0 => exact Fin.ext (by blk_simp [idx t]; rfl)
    | 1 => exact Fin.ext (by blk_simp [idx t])
  rw [he]
  exact (congrArg _ hy).trans (dg_point m c t hr (y 1))

theorem run (ρ : Dev nD → PrngReg) : θ_run defs (onTc (τ := τ) (main (F := Ideal))) ⟨m, fun _ => 0, ρ⟩ fun r => ∀ c : Dev nD,
      r.2.mem ((c.tc : Thread nD τ).loc main_v1_0) = (fun x => normGrad (m ((c.tc : Thread nD τ).loc main_arg0)) (m ((c.tc : Thread nD τ).loc main_arg1)) (fun j => m ((c.tc : Thread nD τ).loc main_arg2) (ix1 j)) (m ((c.tc : Thread nD τ).loc main_arg3)) (x 0) (x 1) : Mat 4096 2048)
      ∧ r.2.mem ((c.tc : Thread nD τ).loc main_v1_1) = (fun x => normGrad (m ((c.tc : Thread nD τ).loc main_arg0)) (m ((c.tc : Thread nD τ).loc main_arg1)) (fun j => m ((c.tc : Thread nD τ).loc main_arg2) (ix1 j)) (m ((c.tc : Thread nD τ).loc main_arg3)) (x 0) (x 1) : Mat 4096 2048)
      ∧ r.2.mem ((c.tc : Thread nD τ).loc main_v1_2) = (fun x => gainGrad (m ((c.tc : Thread nD τ).loc main_arg0)) (m ((c.tc : Thread nD τ).loc main_arg1)) (x 1) : Mat 1 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run_blocks m ρ)
  obtain ⟨h0, h1, h2, rest⟩ := h c
  exact ⟨h0.trans (dx_array m c), h1.trans (dxb_array m c), h2.trans (dg_array m c), rest⟩

end Cert.Kernel5Ideal.Val

end
-- ==== Proof.BackRef.lean ====
/-
  The reference's three result terms of the norm's gradient, read at an index.
-/
module

public import proofs.«01_k».proof.Proof.Gen.Reference5Ideal.Run
public import proofs.«01_k».proof.Proof.NormSpec
public import Idealize.ShloMosaic.Lib.Pointwise
public import Idealize.ShloMosaic.Lib.IdealHost

@[expose] public section

set_option maxRecDepth 16384

noncomputable section

namespace Cert.Reference5Ideal.Val

open Cert.Reference5Ideal Cert.Reference5Ideal.Gen Cert.Ffn Cert.Norm Idealize.ShloMosaic Idealize.ShloMosaic.TcCoe Idealize.SL.Sem Idealize.ShloMosaic.StableHlo

variable (d x : FVec Ideal S4096x2048 .f32) (g : FVec Ideal S2048 .f32) (r : FVec Ideal S4096x2048 .f32)

/-- The shifted mean square of every row. -/
def refPower : FVec Ideal S4096x1 .f32 :=
  addf (Host.divf (broadcastInDim S4096x1 ![0] bcast_S4096_S4096x1_0 (Host.reduceAdd (mulf x x) (constant S_ .f32 0x00000000#32) reducesTo_S4096x2048_S4096_d1 h_S_))
    (broadcastInDim S4096x1 ![] bcast_S_S4096x1 (constant S_ .f32 0x45000000#32))) (broadcastInDim S4096x1 ![] bcast_S_S4096x1 (constant S_ .f32 0x358637BD#32))
/-- What every row is multiplied with, in every column. -/
def refScale : FVec Ideal S4096x2048 .f32 := broadcastInDim S4096x2048 ![0, 1] bcast_S4096x1_S4096x2048_0_1 (Host.rsqrt (refPower x))
/-- The gains in every row. -/
def refGain : FVec Ideal S4096x2048 .f32 := broadcastInDim S4096x2048 ![0, 1] bcast_S1x2048_S4096x2048_0_1 (broadcastInDim S1x2048 ![1] bcast_S2048_S1x2048_1 g)
/-- The gradient of half the sum of every row's squares. -/
def refPull : FVec Ideal S4096x2048 .f32 :=
  broadcastInDim S4096x2048 ![0] bcast_S4096_S4096x2048_0 (Host.reduceAdd (Host.divf (mulf (shapeCast S4096x1 (Host.reduceAdd (mulf x (mulf d (refGain g)))
    (constant S_ .f32 0x00000000#32) reducesTo_S4096x2048_S4096_d1 h_S_) shapeCasts_S4096_S4096x1)
    (mulf (broadcastInDim S4096x1 ![] bcast_S_S4096x1 (constant S_ .f32 0xBF000000#32)) (Host.divf (Host.rsqrt (refPower x)) (refPower x))))
    (broadcastInDim S4096x1 ![] bcast_S_S4096x1 (constant S_ .f32 0x45000000#32))) (constant S_ .f32 0x00000000#32) reducesTo_S4096x1_S4096_d1 h_S_)
/-- The gradient of the rows. -/
def refDx : FVec Ideal S4096x2048 .f32 :=
  addf (addf (addf (mulf (mulf d (refGain g)) (refScale x)) (mulf x (refPull d x g))) (mulf (refPull d x g) x)) r
/-- The gradient of the gains. -/
def refDg : FVec Ideal S1x2048 .f32 :=
  broadcastInDim S1x2048 ![1] bcast_S2048_S1x2048_1 (Host.reduceAdd (shapeCast S1x2048 (Host.reduceAdd (mulf (mulf x (refScale x)) d)
    (constant S_ .f32 0x00000000#32) reducesTo_S4096x2048_S2048_d0 h_S_) shapeCasts_S2048_S1x2048) (constant S_ .f32 0x00000000#32) reducesTo_S1x2048_S2048_d0 h_S_)

theorem power_at (i : Fin 4096) : refPower x (ix2 i 0) = power x i := by
  unfold power width shift
  pointwise [refPower]

theorem scale_at (i : Fin 4096) (j : Fin 2048) : refScale x (ix2 i j) = scale x i := by
  unfold scale
  rw [← power_at]
  pointwise [refScale]

theorem gain_at (i : Fin 4096) (j : Fin 2048) : refGain g (ix2 i j) = g (ix1 j) := by
  pointwise [refGain]

theorem pull_at (i : Fin 4096) (j : Fin 2048) : refPull d x g (ix2 i j) = pull d x (fun j => g (ix1 j)) i := by
  have e : pull d x (fun j => g (ix1 j)) i
      = Ideal.div ((∑ l, x (ix2 i l) * (d (ix2 i l) * refGain g (ix2 i l))) * (minusHalf * Ideal.div (Ideal.rsqrt (refPower x (ix2 i 0))) (refPower x (ix2 i 0)))) width := by
    unfold pull scale
    simp only [gain_at, power_at]
  rw [e]
  unfold minusHalf width refPull
  generalize refPower x = p
  generalize refGain g = a
  pointwise
  exact Fin.sum_univ_one _

theorem dx_eq : refDx d x g r = fun z => normGrad d x (fun j => g (ix1 j)) r (z 0) (z 1) := by
  funext z
  idx_vars z
  have e : refDx d x g r (ix2 z0 z1) = d (ix2 z0 z1) * refGain g (ix2 z0 z1) * refScale x (ix2 z0 z1) + x (ix2 z0 z1) * refPull d x g (ix2 z0 z1)
      + refPull d x g (ix2 z0 z1) * x (ix2 z0 z1) + r (ix2 z0 z1) := rfl
  rw [e, gain_at, scale_at, pull_at]
  rfl

theorem dg_eq : refDg d x = fun z => gainGrad d x (z 1) := by
  funext z
  idx_vars z
  have e : gainGrad d x z1 = ∑ i, x (ix2 i z1) * refScale x (ix2 i z1) * d (ix2 i z1) := by
    unfold gainGrad
    simp only [scale_at]
  refine Eq.trans ?_ e.symm
  unfold refDg
  generalize refScale x = p
  pointwise
  exact Fin.sum_univ_one _

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = refDx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v37) = truncf .bf16 (refDx (m ((c.tc : Thread nD τ).loc main_arg0)) (m ((c.tc : Thread nD τ).loc main_arg1)) (m ((c.tc : Thread nD τ).loc main_arg2)) (m ((c.tc : Thread nD τ).loc main_arg3))) bitsLt_bf16_f32
      ∧ r.2.mem ((c.tc : Thread nD τ).loc main_v38) = refDg (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h => h) (Value.run m ρ)

end Cert.Reference5Ideal.Val

end
-- ==== Proof.FwdPair.lean ====
/-
  One pair of heads of the attention forward kernel: its weights are those of the backward kernel (`Pair`), its result on
  a query row the weights of the row's head times that head's values.
-/
module

public import proofs.«01_k».proof.Proof.Gen.Kernel6Ideal.Frame
public import proofs.«01_k».proof.Proof.Block

@[expose] public section

set_option maxRecDepth 16384

noncomputable section

namespace Cert.KernelIdeal.Val

open Cert.KernelIdeal Cert.KernelIdeal.Gen Cert.Attn Idealize.ShloMosaic Idealize.ShloMosaic.TcCoe Idealize.SL.Sem

variable (q : Vec Ideal S1x256x128 .bf16) (k v : Vec Ideal S1x2048x128 .bf16)

/-- The weighted values of a stack. -/
def OS : FVec Ideal S512x128 .f32 :=
  matmul dot_S512x2048_S2048x128_S512x128_1_0_0_1_n_n none (truncf .bf16 (PS q k) bitsLt_bf16_f32) (k0_pay8 v) (constant S512x128 .f32 0x00000000#32)
/-- The forward kernel's result for a pair. -/
def AO : FVec Ideal S1x256x128 .f32 := k0_pay18 (OS q k v) k0_pay17

theorem OS_at (a b : Fin 2) (i : Fin 256) (d : Fin 64) :
    OS q k v (ix2 (row a i) (lane b d)) = ∑ j, weight (scores (qRow q a i) (kRows k a)) j * kRows v b j d := by
  pointwise [OS]
  simp only [PS_at]
  exact Finset.sum_congr rfl fun j _ => by pointwise [k0_pay8]; rfl

theorem AO_at (a : Fin 2) (i : Fin 256) (d : Fin 64) :
    AO q k v (ix3 0 i (lane a d)) = ∑ j, weight (scores (qRow q a i) (kRows k a)) j * kRows v a j d := by
  unfold AO
  rw [head_of_lane'']
  have hs : ∀ b (r : Fin 512), r = row b i → OS q k v (ix2 r (lane a d))
      = ∑ j, weight (scores (qRow q b i) (kRows k b)) j * kRows v a j d := by
    rintro b r rfl
    exact OS_at q k v b a i d
  pointwise [k0_pay18]
  simp only [head_of_lane]
  have ht := head_test a d 0
  erw [ht]
  obtain rfl | rfl : a = 0 ∨ a = 1 := by omega
  · exact hs 0 _ (Fin.ext (by simp))
  · exact hs 1 _ (Fin.ext (by simp))

end Cert.KernelIdeal.Val

namespace Cert.Attn

open Cert.KernelIdeal.Val (scores)

/-- One query row's attention: its weights times the values. -/
def outOf (q : Fin 64 → EReal) (k v : Fin 2048 → Fin 64 → EReal) (d : Fin 64) : EReal :=
  ∑ j, weight (scores q k) j * v j d

end Cert.Attn

namespace Cert.Kernel6Ideal.Val

open Cert.Kernel6Ideal Cert.Kernel6Ideal.Gen Cert.Attn Idealize.ShloMosaic Idealize.ShloMosaic.TcCoe Idealize.SL.Sem
open Cert.KernelIdeal.Val (scores AO AO_at qHead kHead qRow kRows lane_of headLane_of pairLane ix3_of lane)

section pieces

variable {Q : Vec Ideal S1x256x512 .bf16} {K V : Vec Ideal S1x2048x512 .bf16}
variable {q : Vec Ideal S1x256x128 .bf16} {k v : Vec Ideal S1x2048x128 .bf16}

/-! The program states the same arithmetic once per pair, cut at different places; each is the pair above. -/

theorem pair0 : k0_pay10 (k0_pay9 (k0_pay2 q) (k0_pay3 k) (k0_pay4 v) k0_pay6 (k0_pay7 (F := Ideal)) (k0_pay8 q)) = AO q k v := rfl
theorem pair1 : k0_pay19 (k0_pay17 (k0_pay11 q) (k0_pay12 k) (k0_pay13 v) k0_pay15 k0_pay16) k0_pay18 = AO q k v := rfl
theorem pair2 : k0_pay28 (k0_pay24 (k0_pay20 q) (k0_pay21 k) (k0_pay22 v) k0_pay23 0#32) k0_pay25 k0_pay26 k0_pay27 = AO q k v := rfl
theorem pair3 : k0_pay1 (k0_pay34 (k0_pay29 q) (k0_pay30 k) (k0_pay31 v) k0_pay32 k0_pay33) k0_pay35 k0_pay36 k0_pay37 0#32 = AO q k v := rfl

theorem piece (p : Fin 4) (hq : ∀ i l, q (ix3 0 i l) = Q (ix3 0 i (pairLane p l)))
    (hk : ∀ j l, k (ix3 0 j l) = K (ix3 0 j (pairLane p l))) (hv : ∀ j l, v (ix3 0 j l) = V (ix3 0 j (pairLane p l)))
    (i : Fin 256) (h : Fin 8) (d : Fin 64)
    (x : S1x256x128.Idx) (h1 : i.val = (x 1).val) (h2 : 64 * h.val + d.val = 128 * p.val + (x 2).val) :
    AO q k v x = outOf (qHead Q h i) (kHead K h) (kHead V h) d := by
  obtain ⟨a, ha, he⟩ := lane_of p h d (x 2) h2
  have hx : x = ix3 0 i (lane a d) := ix3_of x i _ h1 ha
  rw [hx, AO_at]
  have e1 : qRow q a i = qHead Q h i := funext fun d => (hq i _).trans (congrArg (fun l => Q (ix3 0 i l)) (headLane_of p h a he d))
  have e2 : kRows k a = kHead K h := funext fun j => funext fun d => (hk j _).trans (congrArg (fun l => K (ix3 0 j l)) (headLane_of p h a he d))
  have e3 : kRows v a = kHead V h := funext fun j => funext fun d => (hv j _).trans (congrArg (fun l => V (ix3 0 j l)) (headLane_of p h a he d))
  rw [e1, e2, e3]
  rfl

end pieces

/-- What a point leaves in its output block. -/
theorem out_block (Q : Vec Ideal S1x256x512 .bf16) (K V : Vec Ideal S1x2048x512 .bf16) (i : Fin 256) (hd : Fin 8) (d : Fin 64) :
    out0_3 Q K V (ix3 0 i (headLane hd d)) = outOf (qHead Q hd i) (kHead K hd) (kHead V hd) d := by
  frame_out
  canon_tiles x hx
  · rw [pair3]
    refine piece 3 (fun _ _ => ?_) (fun _ _ => ?_) (fun _ _ => ?_) i hd d x hx1 hx2 <;> (pointwise; blk_ext)
  · rw [pair2]
    refine piece 2 (fun _ _ => ?_) (fun _ _ => ?_) (fun _ _ => ?_) i hd d x hx1 hx2 <;> (pointwise; blk_ext)
  · rw [pair1]
    refine piece 1 (fun _ _ => ?_) (fun _ _ => ?_) (fun _ _ => ?_) i hd d x hx1 hx2 <;> (pointwise; blk_ext)
  · rw [pair0]
    refine piece 0 (fun _ _ => ?_) (fun _ _ => ?_) (fun _ _ => ?_) i hd d x hx1 (hx2.trans (Nat.zero_add _).symm) <;> (pointwise; blk_ext)

end Cert.Kernel6Ideal.Val

end
-- ==== Proof.FwdArray.lean ====
/-
  The attention forward kernel's output array as one function of the three argument arrays, and the reference's result
  as the same function.
-/
module

public import proofs.«01_k».proof.Proof.Gen.Kernel6Ideal.Value
public import proofs.«01_k».proof.Proof.Gen.Reference6Ideal.Run
public import proofs.«01_k».proof.Proof.FwdPair
public import proofs.«01_k».proof.Proof.RefGrad

@[expose] public section

set_option maxRecDepth 16384

noncomputable section

namespace Cert.Attn

/-- Grouped attention. -/
def outArr (Q K V : (⟨3, ![2, 2048, 512]⟩ : Idealize.ShloMosaic.Shape).Idx → EReal) : (⟨3, ![2, 2048, 512]⟩ : Idealize.ShloMosaic.Shape).Idx → EReal := fun x =>
  outOf (rows Q (x 0) (headOf (x 2)) (x 1)) (rows K (x 0) (headOf (x 2))) (rows V (x 0) (headOf (x 2))) (laneOf (x 2))

end Cert.Attn

namespace Cert.Kernel6Ideal.Val

open Cert.Kernel6Ideal Cert.Kernel6Ideal.Gen Cert.Attn Idealize.ShloMosaic Idealize.ShloMosaic.TcCoe Idealize.SL.Sem
open Idealize.ShloMosaic.Pipeline (Dat)
open Cert.KernelIdeal.Val (qHead kHead ix3_of)

variable (m : (ℓ : Loc nD τ sig) → Buf (Elt Ideal) ℓ)

theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, t.val % 8, 0] :=
  (by decide +kernel : ∀ t : Fin grid0.N, win0_0.index t = ![t.val / 8, t.val % 8, 0] ∧ win0_1.index t = ![t.val / 8, 0, 0]
    ∧ win0_2.index t = ![t.val / 8, 0, 0] ∧ win0_3.index t = ![t.val / 8, t.val % 8, 0])

/-- The number of grid points. -/
theorem points (t : Fin cfg0.N) : t.val < 16 := t.isLt

/-- A point's sequence. -/
abbrev seqOf (t : Fin cfg0.N) : Fin 2 := ⟨t.val / 8, by have := points t; omega⟩
/-- A point's query row among its sequence's rows. -/
abbrev rowOf (t : Fin cfg0.N) (i : Fin 256) : Fin 2048 := ⟨256 * (t.val % 8) + i.val, by omega⟩

theorem q_block (c : Dev nD) (t : Fin cfg0.N) (h : Fin 8) :
    qHead (iblk m c 0 t) h = fun i => rows (m (c.tc.loc main_arg0)) (seqOf t) h (rowOf t i) := by
  funext i d
  unfold qHead rows
  blk_ext [iblk, V, idx t]

theorem k_block (c : Dev nD) (t : Fin cfg0.N) (h : Fin 8) :
    kHead (iblk m c 1 t) h = rows (m (c.tc.loc main_arg1)) (seqOf t) h := by
  funext i d
  unfold kHead rows
  blk_ext [iblk, V, idx t]

theorem v_block (c : Dev nD) (t : Fin cfg0.N) (h : Fin 8) :
    kHead (iblk m c 2 t) h = rows (m (c.tc.loc main_arg2)) (seqOf t) h := by
  funext i d
  unfold kHead rows
  blk_ext [iblk, V, idx t]

theorem out_point (c : Dev nD) (t : Fin cfg0.N) (i : Fin 256) (l : Fin 512) :
    out0_3 (iblk m c 0 t) (iblk m c 1 t) (iblk m c 2 t) (ix3 0 i l)
      = outArr (m (c.tc.loc main_arg0)) (m (c.tc.loc main_arg1)) (m (c.tc.loc main_arg2)) (ix3 (seqOf t) (rowOf t i) l) := by
  conv_lhs => rw [← headLane_eta l]
  rw [out_block, q_block, k_block, v_block]
  rfl

theorem out_array (c : Dev nD) : (dats m 0 c).arrAt 3 cfg0.N
    = outArr (m (c.tc.loc main_arg0)) (m (c.tc.loc main_arg1)) (m (c.tc.loc main_arg2)) := by
  refine (dats m 0 c).arrAt_eq_of_covers 3 _ (by decide +kernel) fun t hf y => ?_
  blk_simp
  rw [after0_3]
  have hy : y = ix3 0 (y 1) (y 2) := ix3_of y (y 1) (y 2) rfl rfl
  have he : (win0_3.blk t).view.emb y = ix3 (seqOf t) (rowOf t (y 1)) (y 2) := by
    have h0 : (y 0 : Nat) < 1 := (y 0).isLt
    funext a
    match a with
    | 0 => exact Fin.ext (by blk_simp [idx t])
    | 1 => exact Fin.ext (by blk_simp [idx t]; show _ = 256 * (t.val % 8) + (y 1).val; omega)
    | 2 => exact Fin.ext (by blk_simp [idx t])
  rw [he, hy]
  exact out_point m c t (y 1) (y 2)

end Cert.Kernel6Ideal.Val

namespace Cert.Reference6Ideal.Val

open Cert.Reference6Ideal Cert.Reference6Ideal.Gen Cert.Attn Idealize.ShloMosaic Idealize.ShloMosaic.TcCoe Idealize.SL.Sem Idealize.ShloMosaic.StableHlo
open Cert.ReferenceIdeal.Val (heads heads_at wt wt_at)

variable (q k v : FVec Ideal S2x2048x512 .bf16)

/-- The reference's attention. -/
def att : FVec Ideal S2x2048x512 .f32 :=
  shapeCast _ (transpose S2x2048x8x64 [0, 3, 1, 2] (Host.dotGeneral dot_S2x2048x8x64_S2x8x2048x2048_S2x8x64x2048_1_3_3_2_02_01 none (heads v) (wt q k)) transposes_S2x8x64x2048_S2x2048x8x64_0_3_1_2) shapeCasts_S2x2048x8x64_S2x2048x512

theorem att_eq : att q k v = outArr q k v := by
  funext x
  idx_vars x
  pointwise [att]
  simp only [heads_at, wt_at]
  unfold outArr outOf headOf laneOf
  exact Finset.sum_congr rfl fun i _ => mul_comm _ _

/-- The reference's run, its result as the function above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
        = outArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (att_eq _ _ _), (h c).2⟩) (Value.run m ρ)

end Cert.Reference6Ideal.Val

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefValue
public import proofs.«01_k».proof.Proof.Finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.FfnValue
public import proofs.«01_k».proof.Proof.FfnRef
public import proofs.«01_k».proof.Proof.FfnFinite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.MixArrays
public import proofs.«01_k».proof.Proof.MixRef
public import proofs.«01_k».proof.Proof.MixFwd
public import proofs.«01_k».proof.Proof.MixFwdRef
public import proofs.«01_k».proof.Proof.LossArrays
public import proofs.«01_k».proof.Proof.LossRef
public import proofs.«01_k».proof.Proof.StepArrays
public import proofs.«01_k».proof.Proof.StepRef
public import proofs.«01_k».proof.Proof.GateFwd
public import proofs.«01_k».proof.Proof.GateFwdRef
public import proofs.«01_k».proof.Proof.InValue
public import proofs.«01_k».proof.Proof.InRef
public import proofs.«01_k».proof.Proof.OutValue
public import proofs.«01_k».proof.Proof.OutRef
public import proofs.«01_k».proof.Proof.BackArrays
public import proofs.«01_k».proof.Proof.BackRef
public import proofs.«01_k».proof.Proof.FwdArray
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem quiescent_kernel : quiescent_Kernel := fun m ρ _ => Cert.Kernel.Gen.frame m ρ
theorem quiescent_kernelIdeal : quiescent_KernelIdeal := fun m ρ _ => Cert.KernelIdeal.Gen.frame m ρ
theorem quiescent_kernelIdeal_pre : quiescent_KernelIdeal_pre_q_and_k_finite := fun m ρ _ => Cert.KernelIdeal.Gen.frame m ρ
theorem quiescent_referenceIdeal : quiescent_ReferenceIdeal := fun m g _ =>
  (θ_run Cert.ReferenceIdeal.defs _ _).mono (fun r h => ⟨fun c => (h c).2.2.2, sem_eq_zero_of_no_sems (by decide) r.2⟩)
    (Cert.ReferenceIdeal.Value.run m g)
theorem quiescent_referenceIdeal_pre : quiescent_ReferenceIdeal_pre_q_and_k_finite :=
  fun m g _ => quiescent_referenceIdeal m g trivial

/-- The gradient kernel and the derivative of the attention end with equal arrays. -/
theorem algebraic : algebraic_KernelIdeal_ReferenceIdeal_pre_q_and_k_finite := by
  pair_intro
  · run_from Cert.KernelIdeal.Gen.run_main m g
  · run_from Cert.ReferenceIdeal.Value.run m' g'
    · obtain ⟨hq, hk⟩ := Cert.Pre_q_and_k_finite.real _ _ _ _ (hpre c)
      obtain ⟨h0, h1, h2, h3⟩ := hagree c
      exact (Cert.ReferenceIdeal.Val.out_dq m' c _ _ _ _ h0 h1 h2 h3 hq hk).trans (Cert.KernelIdeal.Val.dq_array m c).symm
    · obtain ⟨hq, hk⟩ := Cert.Pre_q_and_k_finite.real _ _ _ _ (hpre c)
      obtain ⟨h0, h1, h2, h3⟩ := hagree c
      exact (Cert.ReferenceIdeal.Val.out_dk m' c _ _ _ _ h0 h1 h2 h3 hq hk).trans (Cert.KernelIdeal.Val.dk_array m c).symm
    · exact (Cert.ReferenceIdeal.Val.out_dv _ _ _).trans (Cert.KernelIdeal.Val.dv_array m c).symm

theorem quiescent_kernel2 : quiescent_Kernel2 := fun m ρ _ => Cert.Kernel2.Gen.frame m ρ
theorem quiescent_kernel2Ideal : quiescent_Kernel2Ideal := fun m ρ _ => Cert.Kernel2Ideal.Gen.frame m ρ
theorem quiescent_kernel2Ideal_pre : quiescent_Kernel2Ideal_pre_ffn_finite := fun m ρ _ => Cert.Kernel2Ideal.Gen.frame m ρ
theorem quiescent_reference2Ideal : quiescent_Reference2Ideal := fun m g _ =>
  (θ_run Cert.Reference2Ideal.defs _ _).mono (fun r h => ⟨fun c => (h c).2.2.2.2.2, sem_eq_zero_of_no_sems (by decide) r.2⟩)
    (Cert.Reference2Ideal.Value.run m g)
theorem quiescent_reference2Ideal_pre : quiescent_Reference2Ideal_pre_ffn_finite :=
  fun m g _ => quiescent_reference2Ideal m g trivial

/-- The feed-forward kernels and the feed-forward part with its derivative end with equal arrays. -/
theorem algebraic2 : algebraic_Kernel2Ideal_Reference2Ideal_pre_ffn_finite := by
  pair_intro
  · run_from Cert.Kernel2Ideal.Val.run m g
  · refine θ_run_mono (Cert.Reference2Ideal.Val.run m' g') fun r h c => ?_
    obtain ⟨hh, hu, hd, hy⟩ := Cert.Pre_ffn_finite.real _ _ _ _ _ _ (hpre c)
    obtain ⟨e0, e1, e2, e3, e4, e5⟩ := hagree c
    obtain ⟨r0, r1, r2, r3, r4, rest⟩ := h c
    rw [e0, e1, e2, e3, e4] at r0
    rw [e1, e2, e3, e4, e5] at r1 r2
    rw [e1, e2, e4, e5] at r3
    rw [e1, e2, e3, e5] at r4
    refine ⟨r0.trans ?_, r1.trans ?_, r2.trans ?_, r3.trans ?_, r4.trans ?_, rest⟩
    · exact Cert.Reference2Ideal.Val.out_eq _ _ _ _ _
    · exact Cert.Reference2Ideal.Val.dh_eq _ _ _ _ _ hh hu hd hy
    · rw [Cert.Reference2Ideal.Val.dgate_eq _ _ _ _ _ hh hu hd hy]
      exact Cert.Reference2Ideal.Val.slabs_eq _ _
    · rw [Cert.Reference2Ideal.Val.dup_eq]
      exact Cert.Reference2Ideal.Val.slabs_eq _ _
    · exact Cert.Reference2Ideal.Val.down_eq _ _ _ _

theorem quiescent_kernel3 : quiescent_Kernel3 := fun m ρ _ => Cert.Kernel3.Gen.frame m ρ
theorem quiescent_kernel3Ideal : quiescent_Kernel3Ideal := fun m ρ _ => Cert.Kernel3Ideal.Gen.frame m ρ
theorem quiescent_reference3Ideal : quiescent_Reference3Ideal := fun m g _ =>
  (θ_run Cert.Reference3Ideal.defs _ _).mono (fun r h => ⟨fun c => (h c).2.2.2.2, sem_eq_zero_of_no_sems (by decide) r.2⟩)
    (Cert.Reference3Ideal.Value.run m g)

/-- The input projection's kernels and the projection with its derivative end with equal arrays. -/
theorem algebraic3 : algebraic_Kernel3Ideal_Reference3Ideal := by
  pair_intro
  · run_from Cert.Kernel3Ideal.Val.run m g
  · refine θ_run_mono (Cert.Reference3Ideal.Val.run m' g') fun r h c => ?_
    obtain ⟨e0, e1, e2, e3⟩ := hagree c
    obtain ⟨r0, r1, r2, r3, rest⟩ := h c
    rw [e0, e1] at r0
    rw [e0, e1, e2] at r1
    rw [e0, e1, e3] at r2
    rw [e2, e3] at r3
    refine ⟨r0.trans ?_, r1.trans ?_, r2.trans ?_, r3.trans ?_, rest⟩
    · exact Cert.Reference3Ideal.Val.norm_eq _ _
    · exact Cert.Reference3Ideal.Val.z_eq _ _ _
    · rw [Cert.Reference3Ideal.Val.norm_eq]
      exact Cert.Reference3Ideal.Val.slabs_eq _ _
    · exact Cert.Reference3Ideal.Val.dh_eq _ _

theorem quiescent_kernel4 : quiescent_Kernel4 := fun m ρ _ => Cert.Kernel4.Gen.frame m ρ
theorem quiescent_kernel4Ideal : quiescent_Kernel4Ideal := fun m ρ _ => Cert.Kernel4Ideal.Gen.frame m ρ
theorem quiescent_reference4Ideal : quiescent_Reference4Ideal := fun m g _ =>
  (θ_run Cert.Reference4Ideal.defs _ _).mono (fun r h => ⟨fun c => (h c).2.2.2.2, sem_eq_zero_of_no_sems (by decide) r.2⟩)
    (Cert.Reference4Ideal.Value.run m g)

/-- The output projection's kernels and the projection with its derivative end with equal arrays. -/
theorem algebraic4 : algebraic_Kernel4Ideal_Reference4Ideal := by
  pair_intro
  · run_from Cert.Kernel4Ideal.Val.run m g
  · refine θ_run_mono (Cert.Reference4Ideal.Val.run m' g') fun r h c => ?_
    obtain ⟨e0, e1, e2, e3, e4⟩ := hagree c
    obtain ⟨r0, r1, r2, r3, rest⟩ := h c
    rw [e0, e1, e2] at r0
    rw [e0, e1, e2, e3] at r1
    rw [e1, e4] at r2
    rw [e0, e4] at r3
    refine ⟨r0.trans ?_, r1.trans ?_, r2.trans ?_, r3.trans ?_, rest⟩
    · exact Cert.Reference4Ideal.Val.mid_eq _ _ _
    · rw [Cert.Reference4Ideal.Val.mid_eq]
      exact Cert.Reference4Ideal.Val.norm_eq _ _
    · exact Cert.Reference4Ideal.Val.dy_eq _ _
    · exact Cert.Reference4Ideal.Val.dw_eq _ _

theorem quiescent_kernel5 : quiescent_Kernel5 := fun m ρ _ => Cert.Kernel5.Gen.frame m ρ
theorem quiescent_kernel5Ideal : quiescent_Kernel5Ideal := fun m ρ _ => Cert.Kernel5Ideal.Gen.frame m ρ
theorem quiescent_reference5Ideal : quiescent_Reference5Ideal := fun m g _ =>
  (θ_run Cert.Reference5Ideal.defs _ _).mono (fun r h => ⟨fun c => (h c).2.2.2, sem_eq_zero_of_no_sems (by decide) r.2⟩)
    (Cert.Reference5Ideal.Value.run m g)

/-- The norm's backward kernel and the norm's derivative end with equal arrays. -/
theorem algebraic5 : algebraic_Kernel5Ideal_Reference5Ideal := by
  pair_intro
  · run_from Cert.Kernel5Ideal.Val.run m g
  · refine θ_run_mono (Cert.Reference5Ideal.Val.run m' g') fun r h c => ?_
    obtain ⟨e0, e1, e2, e3⟩ := hagree c
    obtain ⟨r0, r1, r2, rest⟩ := h c
    rw [e0, e1, e2, e3] at r0 r1
    rw [e0, e1] at r2
    refine ⟨r0.trans ?_, r1.trans ?_, r2.trans ?_, rest⟩
    · exact Cert.Reference5Ideal.Val.dx_eq _ _ _ _
    · exact Cert.Reference5Ideal.Val.dx_eq _ _ _ _
    · exact Cert.Reference5Ideal.Val.dg_eq _ _

theorem quiescent_kernel6 : quiescent_Kernel6 := fun m ρ _ => Cert.Kernel6.Gen.frame m ρ
theorem quiescent_kernel6Ideal : quiescent_Kernel6Ideal := fun m ρ _ => Cert.Kernel6Ideal.Gen.frame m ρ
theorem quiescent_reference6Ideal : quiescent_Reference6Ideal := fun m g _ =>
  (θ_run Cert.Reference6Ideal.defs _ _).mono (fun r h => ⟨fun c => (h c).2, sem_eq_zero_of_no_sems (by decide) r.2⟩)
    (Cert.Reference6Ideal.Value.run m g)

/-- The attention's forward kernel and the attention end with equal arrays. -/
theorem algebraic6 : algebraic_Kernel6Ideal_Reference6Ideal := by
  pair_intro
  · run_from Cert.Kernel6Ideal.Gen.run_main m g
  · refine θ_run_mono (Cert.Reference6Ideal.Val.run m' g') fun r h c => ?_
    obtain ⟨e0, e1, e2⟩ := hagree c
    obtain ⟨r0, rest⟩ := h c
    rw [e0, e1, e2] at r0
    exact ⟨r0.trans (Cert.Kernel6Ideal.Val.out_array m c).symm, rest⟩

theorem quiescent_kernel7 : quiescent_Kernel7 := fun m ρ _ => Cert.Kernel7.Gen.frame m ρ
theorem quiescent_kernel7Ideal : quiescent_Kernel7Ideal := fun m ρ _ => Cert.Kernel7Ideal.Gen.frame m ρ
theorem quiescent_reference7Ideal : quiescent_Reference7Ideal := fun m g _ =>
  (θ_run Cert.Reference7Ideal.defs _ _).mono (fun r h => ⟨fun c => (h c).2.2.2.2.2.2.2.2, sem_eq_zero_of_no_sems (by decide) r.2⟩)
    (Cert.Reference7Ideal.Value.run m g)

/-- The mixer norms' backward kernel and the mixer norms' derivative end with equal arrays. -/
theorem algebraic7 : algebraic_Kernel7Ideal_Reference7Ideal := by
  pair_intro
  · run_from Cert.Kernel7Ideal.Val.run m g
  · refine θ_run_mono (Cert.Reference7Ideal.Val.run m' g') fun r h c => ?_
    obtain ⟨e0, e1, e2, e3, e4, e5⟩ := hagree c
    obtain ⟨r0, r1, r2, r3, r4, r5, r6, r7, rest⟩ := h c
    rw [e0, e1, e2, e3, e4, e5] at r0 r1 r2 r3
    rw [e0, e1, e2, e3, e5] at r4 r5 r6 r7
    exact ⟨r0.trans (Cert.Reference7Ideal.Val.dy0_eq _ _ _ _ _ _), r1.trans (Cert.Reference7Ideal.Val.dy1_eq _ _ _ _ _ _),
      r2.trans (Cert.Reference7Ideal.Val.dy2_eq _ _ _ _ _ _), r3.trans (Cert.Reference7Ideal.Val.dy3_eq _ _ _ _ _ _),
      r4.trans (Cert.Reference7Ideal.Val.dg0_eq _ _ _ _ _), r5.trans (Cert.Reference7Ideal.Val.dg1_eq _ _ _ _ _),
      r6.trans (Cert.Reference7Ideal.Val.dg2_eq _ _ _ _ _), r7.trans (Cert.Reference7Ideal.Val.dg3_eq _ _ _ _ _), rest⟩

theorem quiescent_kernel8 : quiescent_Kernel8 := fun m ρ _ => Cert.Kernel8.Gen.frame m ρ
theorem quiescent_kernel8Ideal : quiescent_Kernel8Ideal := fun m ρ _ => Cert.Kernel8Ideal.Gen.frame m ρ
theorem quiescent_reference8Ideal : quiescent_Reference8Ideal := fun m g _ =>
  (θ_run Cert.Reference8Ideal.defs _ _).mono (fun r h => ⟨fun c => (h c).2, sem_eq_zero_of_no_sems (by decide) r.2⟩)
    (Cert.Reference8Ideal.Value.run m g)

/-- The mixer norms' forward kernel and the mixer norms end with equal arrays. -/
theorem algebraic8 : algebraic_Kernel8Ideal_Reference8Ideal := by
  pair_intro
  · run_from Cert.Kernel8Ideal.Val.run m g
  · refine θ_run_mono (Cert.Reference8Ideal.Val.run m' g') fun r h c => ?_
    obtain ⟨e0, e1, e2, e3, e4⟩ := hagree c
    obtain ⟨r0, rest⟩ := h c
    rw [e0, e1, e2, e3, e4] at r0
    exact ⟨r0.trans (Cert.Reference8Ideal.Val.norm_eq _ _ _ _ _), rest⟩

theorem quiescent_kernel9 : quiescent_Kernel9 := fun m ρ _ => Cert.Kernel9.Gen.frame m ρ
theorem quiescent_kernel9Ideal : quiescent_Kernel9Ideal := fun m ρ _ => Cert.Kernel9Ideal.Gen.frame m ρ
theorem quiescent_reference9Ideal : quiescent_Reference9Ideal := fun m g _ =>
  (θ_run Cert.Reference9Ideal.defs _ _).mono (fun r h => ⟨fun c => (h c).2.2.2, sem_eq_zero_of_no_sems (by decide) r.2⟩)
    (Cert.Reference9Ideal.Value.run m g)

theorem algebraic9 : algebraic_Kernel9Ideal_Reference9Ideal := by
  pair_intro
  · run_from Cert.Kernel9Ideal.Val.run m g
  · refine θ_run_mono (Cert.Reference9Ideal.Val.run m' g') fun r h c => ?_
    obtain ⟨e0, e1⟩ := hagree c
    obtain ⟨r0, r1, r2, rest⟩ := h c
    rw [e0, e1] at r0 r1 r2
    exact ⟨r0.trans (Cert.Reference9Ideal.Val.grad_eq _ _), r1.trans (Cert.Reference9Ideal.Val.grad_eq _ _),
      r2.trans (Cert.Reference9Ideal.Val.loss_eq _ _), rest⟩

theorem quiescent_kernel10 : quiescent_Kernel10 := fun m ρ _ => Cert.Kernel10.Gen.frame m ρ
theorem quiescent_kernel10Ideal : quiescent_Kernel10Ideal := fun m ρ _ => Cert.Kernel10Ideal.Gen.frame m ρ
theorem quiescent_reference10Ideal : quiescent_Reference10Ideal := fun m g _ =>
  (θ_run Cert.Reference10Ideal.defs _ _).mono (fun r h => ⟨fun c => (h c).2.2.2, sem_eq_zero_of_no_sems (by decide) r.2⟩)
    (Cert.Reference10Ideal.Value.run m g)

theorem algebraic10 : algebraic_Kernel10Ideal_Reference10Ideal := by
  pair_intro
  · run_from Cert.Kernel10Ideal.Val.run m g
  · refine θ_run_mono (Cert.Reference10Ideal.Val.run m' g') fun r h c => ?_
    obtain ⟨e0, e1, e2, e3⟩ := hagree c
    obtain ⟨r0, r1, r2, rest⟩ := h c
    rw [e0, e1, e2, e3] at r0
    rw [e1, e2] at r1
    rw [e1, e3] at r2
    exact ⟨r0.trans (Cert.Reference10Ideal.Val.change_eq _ _ _ _), r1.trans (Cert.Reference10Ideal.Val.mean_eq _ _),
      r2.trans (Cert.Reference10Ideal.Val.square_eq _ _), rest⟩

theorem quiescent_kernel11 : quiescent_Kernel11 := fun m ρ _ => Cert.Kernel11.Gen.frame m ρ
theorem quiescent_kernel11Ideal : quiescent_Kernel11Ideal := fun m ρ _ => Cert.Kernel11Ideal.Gen.frame m ρ
theorem quiescent_reference11Ideal : quiescent_Reference11Ideal := fun m g _ =>
  (θ_run Cert.Reference11Ideal.defs _ _).mono (fun r h => ⟨fun c => (h c).2, sem_eq_zero_of_no_sems (by decide) r.2⟩)
    (Cert.Reference11Ideal.Value.run m g)

theorem algebraic11 : algebraic_Kernel11Ideal_Reference11Ideal := by
  pair_intro
  · run_from Cert.Kernel11Ideal.Val.run m g
  · refine θ_run_mono (Cert.Reference11Ideal.Val.run m' g') fun r h c => ?_
    obtain ⟨e0, e1, e2⟩ := hagree c
    obtain ⟨r0, rest⟩ := h c
    rw [e0, e1, e2] at r0
    exact ⟨r0.trans (Cert.Reference11Ideal.Val.gate_eq _ _ _), rest⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_q_and_k_finite.facts, Cert.Pre_ffn_finite.facts,
  quiescent_kernel, quiescent_kernelIdeal, quiescent_kernelIdeal_pre, quiescent_referenceIdeal, quiescent_referenceIdeal_pre,
  quiescent_kernel2, quiescent_kernel2Ideal, quiescent_kernel2Ideal_pre, quiescent_reference2Ideal, quiescent_reference2Ideal_pre,
  quiescent_kernel3, quiescent_kernel3Ideal, quiescent_reference3Ideal, quiescent_kernel4, quiescent_kernel4Ideal, quiescent_reference4Ideal,
  quiescent_kernel5, quiescent_kernel5Ideal, quiescent_reference5Ideal,
  quiescent_kernel6, quiescent_kernel6Ideal, quiescent_reference6Ideal,
  quiescent_kernel7, quiescent_kernel7Ideal, quiescent_reference7Ideal,
  quiescent_kernel8, quiescent_kernel8Ideal, quiescent_reference8Ideal,
  quiescent_kernel9, quiescent_kernel9Ideal, quiescent_reference9Ideal,
  quiescent_kernel10, quiescent_kernel10Ideal, quiescent_reference10Ideal,
  quiescent_kernel11, quiescent_kernel11Ideal, quiescent_reference11Ideal,
  trivial, algebraic, trivial, algebraic2, trivial, algebraic3, trivial, algebraic4, trivial, algebraic5, trivial, algebraic6, trivial, algebraic7, trivial, algebraic8, trivial, algebraic9, trivial, algebraic10, trivial, algebraic11⟩

end Cert.Proof

end
